-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v51) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v110) = v0 c
          ∧ r.2.mem ((c.tc : Thread Cert.Reference5Ideal.nD Cert.Reference5Ideal.τ).loc Cert.Reference5Ideal.main_v112) = v1 c
          ∧ r.2.mem ((c.tc : Thread Cert.Reference5Ideal.nD Cert.Reference5Ideal.τ).loc Cert.Reference5Ideal.main_v114) = v2 c
          ∧ r.2.mem ((c.tc : Thread Cert.Reference5Ideal.nD Cert.Reference5Ideal.τ).loc Cert.Reference5Ideal.main_v115) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S4096x8192 : Shape := ⟨2, ![4096, 8192]⟩
abbrev S4096x16384 : Shape := ⟨2, ![4096, 16384]⟩
abbrev S4096x1024 : Shape := ⟨2, ![4096, 1024]⟩
abbrev S256 : Shape := ⟨1, ![256]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  bcast_S_S4096x16384 : S_.BroadcastsInDim S4096x16384 (![] : Fin 0 → Fin S4096x16384.rank)
  bcast_S_S4096x1024 : S_.BroadcastsInDim S4096x1024 (![] : Fin 0 → Fin S4096x1024.rank)

variable [Facts]

def fn {F : FTy → Type} [FloatOps F] (main_arg0 : FVec F S4096x8192 .bf16) (main_arg1 : FVec F S4096x8192 .bf16) (main_arg2 : FVec F S4096x16384 .bf16) (main_arg3 : FVec F S4096x1024 .f32) (main_arg4 : FVec F S256 .f32) : IVec S4096x8192 1 × IVec S4096x8192 1 × IVec S4096x16384 1 × IVec S4096x1024 1 :=
  let main_v0 : FVec F S4096x8192 .f32 := (extf .f32 · bitsLt_bf16_f32) main_arg0
  let main_v1 : FVec F S4096x8192 .f32 := (extf .f32 · bitsLt_bf16_f32) main_arg1
  let main_v2 : FVec F S4096x16384 .f32 := (extf .f32 · bitsLt_bf16_f32) main_arg2
  let main_v3 : FVec F S4096x8192 .f32 := subf main_v0 main_v0
  let main_cst : FVec F S_ .f32 := constant S_ .f32 0x00000000#32
  let main_v4 : FVec F S4096x8192 .f32 := broadcastInDim S4096x8192 ![] bcast_S_S4096x8192 main_cst
  let main_v5 : IVec S4096x8192 1 := cmpf .oeq main_v3 main_v4
  let main_v6 : FVec F S4096x8192 .f32 := subf main_v1 main_v1
  let main_cst_0 : FVec F S_ .f32 := constant S_ .f32 0x00000000#32
  let main_v7 : FVec F S4096x8192 .f32 := broadcastInDim S4096x8192 ![] bcast_S_S4096x8192 main_cst_0
  let main_v8 : IVec S4096x8192 1 := cmpf .oeq main_v6 main_v7
  let main_v9 : FVec F S4096x16384 .f32 := subf main_v2 main_v2
  let main_cst_1 : FVec F S_ .f32 := constant S_ .f32 0x00000000#32
  let main_v10 : FVec F S4096x16384 .f32 := broadcastInDim S4096x16384 ![] bcast_S_S4096x16384 main_cst_1
  let main_v11 : IVec S4096x16384 1 := cmpf .oeq main_v9 main_v10
  let main_v12 : FVec F S4096x1024 .f32 := subf main_arg3 main_arg3
  let main_cst_2 : FVec F S_ .f32 := constant S_ .f32 0x00000000#32
  let main_v13 : FVec F S4096x1024 .f32 := broadcastInDim S4096x1024 ![] bcast_S_S4096x1024 main_cst_2
  let main_v14 : IVec S4096x1024 1 := cmpf .oeq main_v12 main_v13
  (main_v5, main_v8, main_v11, main_v14)
-- ==== Kernel.lean ====
abbrev S4096x8192 : Shape := ⟨2, ![4096, 8192]⟩
abbrev S4096x16384 : Shape := ⟨2, ![4096, 16384]⟩
abbrev S4096x1024 : Shape := ⟨2, ![4096, 1024]⟩
abbrev S256 : Shape := ⟨1, ![256]⟩
abbrev S1x256 : Shape := ⟨2, ![1, 256]⟩
abbrev S128x4096 : Shape := ⟨2, ![128, 4096]⟩
abbrev S128x8192 : Shape := ⟨2, ![128, 8192]⟩
abbrev S128x512 : Shape := ⟨2, ![128, 512]⟩
abbrev S32x128x256 : Shape := ⟨3, ![32, 128, 256]⟩
abbrev S128x256 : Shape := ⟨2, ![128, 256]⟩
abbrev S128x128 : Shape := ⟨2, ![128, 128]⟩
abbrev S16x16 : Shape := ⟨2, ![16, 16]⟩
abbrev S128x16 : Shape := ⟨2, ![128, 16]⟩
abbrev S16x128 : Shape := ⟨2, ![16, 128]⟩
abbrev S256x256 : Shape := ⟨2, ![256, 256]⟩
abbrev S128x1 : Shape := ⟨2, ![128, 1]⟩
abbrev S1x128 : Shape := ⟨2, ![1, 128]⟩
abbrev S128x768 : Shape := ⟨2, ![128, 768]⟩
abbrev S256x768 : Shape := ⟨2, ![256, 768]⟩
abbrev S256x128 : Shape := ⟨2, ![256, 128]⟩
abbrev S1x128x256 : Shape := ⟨3, ![1, 128, 256]⟩
abbrev S1x1 : Shape := ⟨2, ![1, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x16384, .bf16⟩
  | .hbm, ⟨3, _⟩ => ⟨S4096x1024, .f32⟩
  | .hbm, ⟨4, _⟩ => ⟨S256, .f32⟩
  | .hbm, ⟨5, _⟩ => ⟨S1x256, .f32⟩
  | .hbm, ⟨6, _⟩ => ⟨S4096x16384, .bf16⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S128x8192, .bf16⟩
  | .local _ .vmem, ⟨5, _⟩ => ⟨S128x8192, .bf16⟩
  | .local _ .vmem, ⟨6, _⟩ => ⟨S128x512, .f32⟩
  | .local _ .vmem, ⟨7, _⟩ => ⟨S128x512, .f32⟩
  | .local _ .vmem, ⟨8, _⟩ => ⟨S1x256, .f32⟩
  | .local _ .vmem, ⟨9, _⟩ => ⟨S128x8192, .bf16⟩
  | .local _ .vmem, ⟨10, _⟩ => ⟨S128x8192, .bf16⟩
  | .local _ .vmem, ⟨11, _⟩ => ⟨S32x128x256, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4096x8192 : Shape := ⟨2, ![4096, 8192]⟩
abbrev S4096x16384 : Shape := ⟨2, ![4096, 16384]⟩
abbrev S4096x1024 : Shape := ⟨2, ![4096, 1024]⟩
abbrev S256 : Shape := ⟨1, ![256]⟩
abbrev S4096x8x8x128 : Shape := ⟨4, ![4096, 8, 8, 128]⟩
abbrev S4096x8x8x256 : Shape := ⟨4, ![4096, 8, 8, 256]⟩
abbrev S4096x8x128 : Shape := ⟨3, ![4096, 8, 128]⟩
abbrev S4096x8x8 : Shape := ⟨3, ![4096, 8, 8]⟩
abbrev S_ : Shape := ⟨0, ![]⟩
abbrev S8x8x128x256 : Shape := ⟨4, ![8, 8, 128, 256]⟩
abbrev S1x8x8x128 : Shape := ⟨4, ![1, 8, 8, 128]⟩
abbrev S8x8x128 : Shape := ⟨3, ![8, 8, 128]⟩
abbrev S1x8x8x256 : Shape := ⟨4, ![1, 8, 8, 256]⟩
abbrev S8x8x256 : Shape := ⟨3, ![8, 8, 256]⟩
abbrev S1x8x8 : Shape := ⟨3, ![1, 8, 8]⟩
abbrev S8x8 : Shape := ⟨2, ![8, 8]⟩
abbrev S8x8x1x1 : Shape := ⟨4, ![8, 8, 1, 1]⟩
abbrev S8x8x1 : Shape := ⟨3, ![8, 8, 1]⟩
abbrev S8x8x128x1 : Shape := ⟨4, ![8, 8, 128, 1]⟩
abbrev S8x8x1x256 : Shape := ⟨4, ![8, 8, 1, 256]⟩
abbrev S4096x8x8x1 : Shape := ⟨4, ![4096, 8, 8, 1]⟩
abbrev S1x1x1x256 : Shape := ⟨4, ![1, 1, 1, 256]⟩

abbrev nBuf : Space → Nat
  | .hbm => 93
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x16384, .bf16⟩
  | .hbm, ⟨3, _⟩ => ⟨S4096x1024, .f32⟩
  | .hbm, ⟨4, _⟩ => ⟨S256, .f32⟩
  | .hbm, ⟨5, _⟩ => ⟨S4096x8192, .f32⟩
  | .hbm, ⟨6, _⟩ => ⟨S4096x8x8x128, .f32⟩
  | .hbm, ⟨7, _⟩ => ⟨S4096x8192, .f32⟩
  | .hbm, ⟨8, _⟩ => ⟨S4096x8x8x128, .f32⟩
  | .hbm, ⟨9, _⟩ => ⟨S4096x16384, .f32⟩
  | .hbm, ⟨10, _⟩ => ⟨S4096x8x8x256, .f32⟩
  | .hbm, ⟨11, _⟩ => ⟨S4096x8x128, .f32⟩
  | .hbm, ⟨12, _⟩ => ⟨S4096x8x8, .f32⟩
  | .hbm, ⟨13, _⟩ => ⟨S4096x8x8, .f32⟩
  | .hbm, ⟨14, _⟩ => ⟨S_, .f32⟩
  | .hbm, ⟨15, _⟩ => ⟨S8x8x128x256, .f32⟩
  | .hbm, ⟨16, _⟩ => ⟨S_, .f32⟩
  | .hbm, ⟨17, _⟩ => ⟨S4096x8x8x256, .f32⟩
  | .hbm, ⟨18, _⟩ => ⟨S_, .i32⟩
  | .hbm, ⟨19, _⟩ => ⟨S4096x8x8x128, .f32⟩
  | .hbm, ⟨20, _⟩ => ⟨S4096x8x8x128, .f32⟩
  | .hbm, ⟨21, _⟩ => ⟨S4096x8x8x256, .f32⟩
  | .hbm, ⟨22, _⟩ => ⟨S4096x8x8, .f32⟩
  | .hbm, ⟨23, _⟩ => ⟨S4096x8x8, .f32⟩
  | .hbm, ⟨24, _⟩ => ⟨S_, .i32⟩
  | .hbm, ⟨25, _⟩ => ⟨S8x8x128x256, .f32⟩
  | .hbm, ⟨26, _⟩ => ⟨S4096x8x8x256, .f32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S1x8x8x128, .f32⟩
  | .hbm, ⟨33, _⟩ => ⟨S8x8x128, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x8x8x128, .f32⟩
  | .hbm, ⟨38, _⟩ => ⟨S8x8x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x8x8x256, .f32⟩
  | .hbm, ⟨43, _⟩ => ⟨S8x8x256, .f32⟩
  | .hbm, ⟨44, _⟩ => ⟨S_, .i32⟩
  | .hbm, ⟨45, _⟩ => ⟨S_, .i32⟩
  | .hbm, ⟨46, _⟩ => ⟨S1x8x8, .f32⟩
  | .hbm, ⟨47, _⟩ => ⟨S8x8, .f32⟩
  | .hbm, ⟨48, _⟩ => ⟨S_, .i32⟩
  | .hbm, ⟨49, _⟩ => ⟨S_, .i32⟩
  | .hbm, ⟨50, _⟩ => ⟨S1x8x8, .f32⟩
  | .hbm, ⟨51, _⟩ => ⟨S8x8, .f32⟩
  | .hbm, ⟨52, _⟩ => ⟨S8x8, .f32⟩
  | .hbm, ⟨53, _⟩ => ⟨S8x8x1x1, .f32⟩
  | .hbm, ⟨54, _⟩ => ⟨S8x8x128x256, .f32⟩
  | .hbm, ⟨55, _⟩ => ⟨S8x8x128x256, .f32⟩
  | .hbm, ⟨56, _⟩ => ⟨S8x8x1, .f32⟩
  | .hbm, ⟨57, _⟩ => ⟨S8x8x256, .f32⟩
  | .hbm, ⟨58, _⟩ => ⟨S8x8x256, .f32⟩
  | .hbm, ⟨59, _⟩ => ⟨S8x8x256, .f32⟩
  | .hbm, ⟨60, _⟩ => ⟨S8x8x256, .f32⟩
  | .hbm, ⟨61, _⟩ => ⟨S8x8x128x1, .f32⟩
  | .hbm, ⟨62, _⟩ => ⟨S8x8x1x256, .f32⟩
  | .hbm, ⟨63, _⟩ => ⟨S8x8x128x256, .f32⟩
  | .hbm, ⟨64, _⟩ => ⟨S8x8x128x256, .f32⟩
  | .hbm, ⟨65, _⟩ => ⟨S8x8x128x256, .f32⟩
  | .hbm, ⟨66, _⟩ => ⟨S8x8x128x256, .f32⟩
  | .hbm, ⟨67, _⟩ => ⟨S8x8x256, .f32⟩
  | .hbm, ⟨68, _⟩ => ⟨S1x8x8x256, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S4096x8x8x256, .f32⟩
  | .hbm, ⟨73, _⟩ => ⟨S_, .i32⟩
  | .hbm, ⟨74, _⟩ => ⟨S_, .i32⟩
  | .hbm, ⟨75, _⟩ => ⟨S4096x8x8x256, .f32⟩
  | .hbm, ⟨76, _⟩ => ⟨S_, .f32⟩
  | .hbm, ⟨77, _⟩ => ⟨S4096x8x8, .f32⟩
  | .hbm, ⟨78, _⟩ => ⟨S4096x8x8x1, .f32⟩
  | .hbm, ⟨79, _⟩ => ⟨S_, .f32⟩
  | .hbm, ⟨80, _⟩ => ⟨S4096x8x8x1, .f32⟩
  | .hbm, ⟨81, _⟩ => ⟨S4096x8x8x1, .f32⟩
  | .hbm, ⟨82, _⟩ => ⟨S_, .f32⟩
  | .hbm, ⟨83, _⟩ => ⟨S4096x8x8x1, .f32⟩
  | .hbm, ⟨84, _⟩ => ⟨S4096x8x8x1, .f32⟩
  | .hbm, ⟨85, _⟩ => ⟨S4096x8x8x1, .f32⟩
  | .hbm, ⟨86, _⟩ => ⟨S4096x8x8x256, .f32⟩
  | .hbm, ⟨87, _⟩ => ⟨S4096x8x8x256, .f32⟩
  | .hbm, ⟨88, _⟩ => ⟨S1x1x1x256, .f32⟩
  | .hbm, ⟨89, _⟩ => ⟨S4096x8x8x256, .f32⟩
  | .hbm, ⟨90, _⟩ => ⟨S4096x8x8x256, .f32⟩
  | .hbm, ⟨91, _⟩ => ⟨S4096x16384, .f32⟩
  | .hbm, ⟨92, _⟩ => ⟨S4096x16384, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_c : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev main_v11_5 : Ref sig .tc := ⟨.hbm, 24, rfl⟩
abbrev main_v11_6 : Ref sig .tc := ⟨.hbm, 25, rfl⟩
abbrev main_v11_7 : Ref sig .tc := ⟨.hbm, 26, rfl⟩
abbrev main_while0c_c_11 : Ref sig .tc := ⟨.hbm, 27, rfl⟩
abbrev main_while0c_v27 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_c_1 : Ref sig .tc := ⟨.hbm, 31, rfl⟩
abbrev main_while0b_call0_v0 : Ref sig .tc := ⟨.hbm, 32, rfl⟩
abbrev main_while0b_v27 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_c_1 : Ref sig .tc := ⟨.hbm, 36, rfl⟩
abbrev main_while0b_call1_v0 : Ref sig .tc := ⟨.hbm, 37, rfl⟩
abbrev main_while0b_v28 : Ref sig .tc := ⟨.hbm, 38, rfl⟩
abbrev main_while0b_call2_c : Ref sig .tc := ⟨.hbm, 39, rfl⟩
abbrev main_while0b_call2_c_0 : Ref sig .tc := ⟨.hbm, 40, rfl⟩
abbrev main_while0b_call2_c_1 : Ref sig .tc := ⟨.hbm, 41, rfl⟩
abbrev main_while0b_call2_v0 : Ref sig .tc := ⟨.hbm, 42, rfl⟩
abbrev main_while0b_v29 : Ref sig .tc := ⟨.hbm, 43, rfl⟩
abbrev main_while0b_call3_c : Ref sig .tc := ⟨.hbm, 44, rfl⟩
abbrev main_while0b_call3_c_0 : Ref sig .tc := ⟨.hbm, 45, rfl⟩
abbrev main_while0b_call3_v0 : Ref sig .tc := ⟨.hbm, 46, rfl⟩
abbrev main_while0b_v30 : Ref sig .tc := ⟨.hbm, 47, rfl⟩
abbrev main_while0b_call4_c : Ref sig .tc := ⟨.hbm, 48, rfl⟩
abbrev main_while0b_call4_c_0 : Ref sig .tc := ⟨.hbm, 49, rfl⟩
abbrev main_while0b_call4_v0 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_v34 : Ref sig .tc := ⟨.hbm, 54, rfl⟩
abbrev main_while0b_v35 : Ref sig .tc := ⟨.hbm, 55, rfl⟩
abbrev main_while0b_v36 : Ref sig .tc := ⟨.hbm, 56, rfl⟩
abbrev main_while0b_v37 : Ref sig .tc := ⟨.hbm, 57, rfl⟩
abbrev main_while0b_v38 : Ref sig .tc := ⟨.hbm, 58, rfl⟩
abbrev main_while0b_v39 : Ref sig .tc := ⟨.hbm, 59, rfl⟩
abbrev main_while0b_v40 : Ref sig .tc := ⟨.hbm, 60, rfl⟩
abbrev main_while0b_v41 : Ref sig .tc := ⟨.hbm, 61, rfl⟩
abbrev main_while0b_v42 : Ref sig .tc := ⟨.hbm, 62, rfl⟩
abbrev main_while0b_v43 : Ref sig .tc := ⟨.hbm, 63, rfl⟩
abbrev main_while0b_v44 : Ref sig .tc := ⟨.hbm, 64, rfl⟩
abbrev main_while0b_v45 : Ref sig .tc := ⟨.hbm, 65, rfl⟩
abbrev main_while0b_v46 : Ref sig .tc := ⟨.hbm, 66, rfl⟩
abbrev main_while0b_v47 : Ref sig .tc := ⟨.hbm, 67, rfl⟩
abbrev main_while0b_call5_v0 : Ref sig .tc := ⟨.hbm, 68, rfl⟩
abbrev main_while0b_call5_c : Ref sig .tc := ⟨.hbm, 69, rfl⟩
abbrev main_while0b_call5_c_0 : Ref sig .tc := ⟨.hbm, 70, rfl⟩
abbrev main_while0b_call5_c_1 : Ref sig .tc := ⟨.hbm, 71, rfl⟩
abbrev main_while0b_v48 : Ref sig .tc := ⟨.hbm, 72, rfl⟩
abbrev main_while0b_c_11 : Ref sig .tc := ⟨.hbm, 73, rfl⟩
abbrev main_while0b_v49 : Ref sig .tc := ⟨.hbm, 74, rfl⟩
abbrev main_v12 : Ref sig .tc := ⟨.hbm, 75, rfl⟩
abbrev main_cst_1 : Ref sig .tc := ⟨.hbm, 76, rfl⟩
abbrev main_v13 : Ref sig .tc := ⟨.hbm, 77, rfl⟩
abbrev main_v14 : Ref sig .tc := ⟨.hbm, 78, rfl⟩
abbrev main_cst_2 : Ref sig .tc := ⟨.hbm, 79, rfl⟩
abbrev main_v15 : Ref sig .tc := ⟨.hbm, 80, rfl⟩
abbrev main_v16 : Ref sig .tc := ⟨.hbm, 81, rfl⟩
abbrev main_cst_3 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4096x16384 : Shape := ⟨2, ![4096, 16384]⟩
abbrev S32768x1024 : Shape := ⟨2, ![32768, 1024]⟩
abbrev S1024 : Shape := ⟨1, ![1024]⟩
abbrev S16x3072 : Shape := ⟨2, ![16, 3072]⟩
abbrev S1024x6160 : Shape := ⟨2, ![1024, 6160]⟩
abbrev S2048x1024 : Shape := ⟨2, ![2048, 1024]⟩
abbrev S1024x2048 : Shape := ⟨2, ![1024, 2048]⟩
abbrev S1x1024 : Shape := ⟨2, ![1, 1024]⟩
abbrev S8x4096x1024 : Shape := ⟨3, ![8, 4096, 1024]⟩
abbrev S64x16384 : Shape := ⟨2, ![64, 16384]⟩
abbrev S512x1024 : Shape := ⟨2, ![512, 1024]⟩
abbrev S8x1024 : Shape := ⟨2, ![8, 1024]⟩
abbrev S8x64x1024 : Shape := ⟨3, ![8, 64, 1024]⟩
abbrev S8x512x128 : Shape := ⟨3, ![8, 512, 128]⟩
abbrev S512x128 : Shape := ⟨2, ![512, 128]⟩
abbrev S1x512x128 : Shape := ⟨3, ![1, 512, 128]⟩
abbrev S1x64x128 : Shape := ⟨3, ![1, 64, 128]⟩
abbrev S64x128 : Shape := ⟨2, ![64, 128]⟩
abbrev S64x1024 : Shape := ⟨2, ![64, 1024]⟩
abbrev S64 : Shape := ⟨1, ![64]⟩
abbrev S64x1 : Shape := ⟨2, ![64, 1]⟩
abbrev S512x2048 : Shape := ⟨2, ![512, 2048]⟩
abbrev S64x2048 : Shape := ⟨2, ![64, 2048]⟩
abbrev S1x64x1024 : Shape := ⟨3, ![1, 64, 1024]⟩

abbrev nBuf : Space → Nat
  | .hbm => 13
  | .vmem => 14
  | .smem => 0
  | _ => 0

abbrev bufTy : (tb : Table) → Fin (tcTables nBuf tb) → BufTy
  | .hbm, ⟨0, _⟩ => ⟨S4096x16384, .bf16⟩
  | .hbm, ⟨1, _⟩ => ⟨S32768x1024, .f32⟩
  | .hbm, ⟨2, _⟩ => ⟨S1024, .f32⟩
  | .hbm, ⟨3, _⟩ => ⟨S16x3072, .f32⟩
  | .hbm, ⟨4, _⟩ => ⟨S1024x6160, .f32⟩
  | .hbm, ⟨5, _⟩ => ⟨S2048x1024, .f32⟩
  | .hbm, ⟨6, _⟩ => ⟨S1024, .f32⟩
  | .hbm, ⟨7, _⟩ => ⟨S1024x2048, .f32⟩
  | .hbm, ⟨8, _⟩ => ⟨S1x1024, .f32⟩
  | .hbm, ⟨9, _⟩ => ⟨S1024x2048, .bf16⟩
  | .hbm, ⟨10, _⟩ => ⟨S2048x1024, .bf16⟩
  | .hbm, ⟨11, _⟩ => ⟨S1x1024, .f32⟩
  | .hbm, ⟨12, _⟩ => ⟨S8x4096x1024, .f32⟩
  | .local _ .vmem, ⟨0, _⟩ => ⟨S64x16384, .bf16⟩
  | .local _ .vmem, ⟨1, _⟩ => ⟨S64x16384, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1024x2048, .bf16⟩
  | .local _ .vmem, ⟨9, _⟩ => ⟨S2048x1024, .bf16⟩
  | .local _ .vmem, ⟨10, _⟩ => ⟨S1x1024, .f32⟩
  | .local _ .vmem, ⟨11, _⟩ => ⟨S8x64x1024, .f32⟩
  | .local _ .vmem, ⟨12, _⟩ => ⟨S8x64x1024, .f32⟩
  | .local _ .vmem, ⟨13, _⟩ => ⟨S8x512x128, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c1_i32_0 : BitVec 32 := 1#32
  let c0_i32 : BitVec 32 := 0#32
  ![c1_i32.toNat, c1_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c1_i32 : BitVec 32 := 1#32
  let c2_i32 : BitVec 32 := 2#32
  let c0_i32 : BitVec 32 := 0#32
  ![c1_i32.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x16384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S4096x16384 : Shape := ⟨2, ![4096, 16384]⟩
abbrev S32768x1024 : Shape := ⟨2, ![32768, 1024]⟩
abbrev S1024 : Shape := ⟨1, ![1024]⟩
abbrev S16x3072 : Shape := ⟨2, ![16, 3072]⟩
abbrev S1024x6160 : Shape := ⟨2, ![1024, 6160]⟩
abbrev S2048x1024 : Shape := ⟨2, ![2048, 1024]⟩
abbrev S4096x8x1024 : Shape := ⟨3, ![4096, 8, 1024]⟩
abbrev S8x4096x1024 : Shape := ⟨3, ![8, 4096, 1024]⟩
abbrev S4096x8x2048 : Shape := ⟨3, ![4096, 8, 2048]⟩
abbrev S8x4096x2048 : Shape := ⟨3, ![8, 4096, 2048]⟩
abbrev S8x3072 : Shape := ⟨2, ![8, 3072]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S1024x2048 : Shape := ⟨2, ![1024, 2048]⟩

abbrev nBuf : Space → Nat
  | .hbm => 74
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S32768x1024, .f32⟩
  | .hbm, ⟨2, _⟩ => ⟨S1024, .f32⟩
  | .hbm, ⟨3, _⟩ => ⟨S16x3072, .f32⟩
  | .hbm, ⟨4, _⟩ => ⟨S1024x6160, .f32⟩
  | .hbm, ⟨5, _⟩ => ⟨S2048x1024, .f32⟩
  | .hbm, ⟨6, _⟩ => ⟨S1024, .f32⟩
  | .hbm, ⟨7, _⟩ => ⟨S4096x8x1024, .f32⟩
  | .hbm, ⟨8, _⟩ => ⟨S8x4096x1024, .f32⟩
  | .hbm, ⟨9, _⟩ => ⟨S4096x8x2048, .bf16⟩
  | .hbm, ⟨10, _⟩ => ⟨S8x4096x2048, .bf16⟩
  | .hbm, ⟨11, _⟩ => ⟨S8x4096x2048, .f32⟩
  | .hbm, ⟨12, _⟩ => ⟨S8x3072, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S8x1x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S1024x2048, .f32⟩
  | .hbm, ⟨42, _⟩ => ⟨S8x4096x2048, .f32⟩
  | .hbm, ⟨43, _⟩ => ⟨S8x4096x2048, .f32⟩
  | .hbm, ⟨44, _⟩ => ⟨S8x4096x2048, .f32⟩
  | .hbm, ⟨45, _⟩ => ⟨S_, .f32⟩
  | .hbm, ⟨46, _⟩ => ⟨S8x4096x2048, .f32⟩
  | .hbm, ⟨47, _⟩ => ⟨S8x4096x2048, .f32⟩
  | .hbm, ⟨48, _⟩ => ⟨S_, .f32⟩
  | .hbm, ⟨49, _⟩ => ⟨S8x4096x2048, .f32⟩
  | .hbm, ⟨50, _⟩ => ⟨S8x4096x2048, .f32⟩
  | .hbm, ⟨51, _⟩ => ⟨S8x4096x2048, .f32⟩
  | .hbm, ⟨52, _⟩ => ⟨S8x4096x2048, .f32⟩
  | .hbm, ⟨53, _⟩ => ⟨S8x4096x1024, .f32⟩
  | .hbm, ⟨54, _⟩ => ⟨S8x1x1024, .f32⟩
  | .hbm, ⟨55, _⟩ => ⟨S8x4096x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S_, .f32⟩
  | .hbm, ⟨63, _⟩ => ⟨S8x4096x1, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S8x4096x1, .f32⟩
  | .hbm, ⟨69, _⟩ => ⟨S8x4096x1024, .f32⟩
  | .hbm, ⟨70, _⟩ => ⟨S8x4096x1024, .f32⟩
  | .hbm, ⟨71, _⟩ => ⟨S1x1x1024, .f32⟩
  | .hbm, ⟨72, _⟩ => ⟨S8x4096x1024, .f32⟩
  | .hbm, ⟨73, _⟩ => ⟨S8x4096x1024, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Kernel3.lean ====
abbrev S8x32768x256 : Shape := ⟨3, ![8, 32768, 256]⟩
abbrev S32768x2048 : Shape := ⟨2, ![32768, 2048]⟩
abbrev S32768x1024 : Shape := ⟨2, ![32768, 1024]⟩
abbrev S16x3072 : Shape := ⟨2, ![16, 3072]⟩
abbrev S2048x2048 : Shape := ⟨2, ![2048, 2048]⟩
abbrev S2048x1024 : Shape := ⟨2, ![2048, 1024]⟩
abbrev S8x512x256 : Shape := ⟨3, ![8, 512, 256]⟩
abbrev S512x2048 : Shape := ⟨2, ![512, 2048]⟩
abbrev S512x1024 : Shape := ⟨2, ![512, 1024]⟩
abbrev S8x1024 : Shape := ⟨2, ![8, 1024]⟩
abbrev S1x512x256 : Shape := ⟨3, ![1, 512, 256]⟩
abbrev S512x256 : Shape := ⟨2, ![512, 256]⟩
abbrev S64x8x1024 : Shape := ⟨3, ![64, 8, 1024]⟩
abbrev S1x8x1024 : Shape := ⟨3, ![1, 8, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8x32768x256, .bf16⟩
  | .hbm, ⟨1, _⟩ => ⟨S32768x2048, .bf16⟩
  | .hbm, ⟨2, _⟩ => ⟨S32768x1024, .f32⟩
  | .hbm, ⟨3, _⟩ => ⟨S16x3072, .f32⟩
  | .hbm, ⟨4, _⟩ => ⟨S2048x2048, .f32⟩
  | .hbm, ⟨5, _⟩ => ⟨S2048x1024, .f32⟩
  | .hbm, ⟨6, _⟩ => ⟨S2048x2048, .bf16⟩
  | .hbm, ⟨7, _⟩ => ⟨S2048x1024, .bf16⟩
  | .hbm, ⟨8, _⟩ => ⟨S32768x1024, .f32⟩
  | .local _ .vmem, ⟨0, _⟩ => ⟨S8x512x256, .bf16⟩
  | .local _ .vmem, ⟨1, _⟩ => ⟨S8x512x256, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S2048x2048, .bf16⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | _, _ => ⟨S8x32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x32768x256 : Shape := ⟨3, ![8, 32768, 256]⟩
abbrev S32768x2048 : Shape := ⟨2, ![32768, 2048]⟩
abbrev S32768x1024 : Shape := ⟨2, ![32768, 1024]⟩
abbrev S16x3072 : Shape := ⟨2, ![16, 3072]⟩
abbrev S2048x2048 : Shape := ⟨2, ![2048, 2048]⟩
abbrev S2048x1024 : Shape := ⟨2, ![2048, 1024]⟩
abbrev S32768x8x256 : Shape := ⟨3, ![32768, 8, 256]⟩
abbrev S8x1024 : Shape := ⟨2, ![8, 1024]⟩
abbrev S_ : Shape := ⟨0, ![]⟩
abbrev S4096x8x1024 : Shape := ⟨3, ![4096, 8, 1024]⟩
abbrev S1x8x1024 : Shape := ⟨3, ![1, 8, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x32768x256, .bf16⟩
  | .hbm, ⟨1, _⟩ => ⟨S32768x2048, .bf16⟩
  | .hbm, ⟨2, _⟩ => ⟨S32768x1024, .f32⟩
  | .hbm, ⟨3, _⟩ => ⟨S16x3072, .f32⟩
  | .hbm, ⟨4, _⟩ => ⟨S2048x2048, .f32⟩
  | .hbm, ⟨5, _⟩ => ⟨S2048x1024, .f32⟩
  | .hbm, ⟨6, _⟩ => ⟨S8x32768x256, .f32⟩
  | .hbm, ⟨7, _⟩ => ⟨S32768x8x256, .f32⟩
  | .hbm, ⟨8, _⟩ => ⟨S32768x2048, .f32⟩
  | .hbm, ⟨9, _⟩ => ⟨S8x1024, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x1024, .f32⟩
  | .hbm, ⟨32, _⟩ => ⟨S4096x8x1024, .f32⟩
  | .hbm, ⟨33, _⟩ => ⟨S4096x8x1024, .f32⟩
  | .hbm, ⟨34, _⟩ => ⟨S1x8x1024, .f32⟩
  | .hbm, ⟨35, _⟩ => ⟨S4096x8x1024, .f32⟩
  | .hbm, ⟨36, _⟩ => ⟨S4096x8x1024, .f32⟩
  | .hbm, ⟨37, _⟩ => ⟨S4096x8x1024, .f32⟩
  | .hbm, ⟨38, _⟩ => ⟨S32768x1024, .f32⟩
  | _, _ => ⟨S8x32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S16x3072 : Shape := ⟨2, ![16, 3072]⟩
abbrev S1024x4096 : Shape := ⟨2, ![1024, 4096]⟩
abbrev S1x1024 : Shape := ⟨2, ![1, 1024]⟩
abbrev S32768x1024 : Shape := ⟨2, ![32768, 1024]⟩
abbrev S8x32768x256 : Shape := ⟨3, ![8, 32768, 256]⟩
abbrev S32768x2048 : Shape := ⟨2, ![32768, 2048]⟩
abbrev S8x64x1024 : Shape := ⟨3, ![8, 64, 1024]⟩
abbrev S8x1024 : Shape := ⟨2, ![8, 1024]⟩
abbrev S512x1024 : Shape := ⟨2, ![512, 1024]⟩
abbrev S8x512x256 : Shape := ⟨3, ![8, 512, 256]⟩
abbrev S512x2048 : Shape := ⟨2, ![512, 2048]⟩
abbrev S8x512x128 : Shape := ⟨3, ![8, 512, 128]⟩
abbrev S1x64x128 : Shape := ⟨3, ![1, 64, 128]⟩
abbrev S64x128 : Shape := ⟨2, ![64, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S64x8x1024 : Shape := ⟨3, ![64, 8, 1024]⟩
abbrev S1x8x1024 : Shape := ⟨3, ![1, 8, 1024]⟩
abbrev S1024x2048 : Shape := ⟨2, ![1024, 2048]⟩
abbrev S512x256 : Shape := ⟨2, ![512, 256]⟩
abbrev S1x512x256 : Shape := ⟨3, ![1, 512, 256]⟩

abbrev nBuf : Space → Nat
  | .hbm => 9
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S16x3072, .f32⟩
  | .hbm, ⟨3, _⟩ => ⟨S1024x4096, .f32⟩
  | .hbm, ⟨4, _⟩ => ⟨S1x1024, .f32⟩
  | .hbm, ⟨5, _⟩ => ⟨S1024x4096, .bf16⟩
  | .hbm, ⟨6, _⟩ => ⟨S32768x1024, .f32⟩
  | .hbm, ⟨7, _⟩ => ⟨S8x32768x256, .bf16⟩
  | .hbm, ⟨8, _⟩ => ⟨S32768x2048, .bf16⟩
  | .local _ .vmem, ⟨0, _⟩ => ⟨S8x64x1024, .f32⟩
  | .local _ .vmem, ⟨1, _⟩ => ⟨S8x64x1024, .f32⟩
  | .local _ .vmem, ⟨2, _⟩ => ⟨S1x1024, .f32⟩
  | .local _ .vmem, ⟨3, _⟩ => ⟨S8x1024, .f32⟩
  | .local _ .vmem, ⟨4, _⟩ => ⟨S8x1024, .f32⟩
  | .local _ .vmem, ⟨5, _⟩ => ⟨S1024x4096, .bf16⟩
  | .local _ .vmem, ⟨6, _⟩ => ⟨S512x1024, .f32⟩
  | .local _ .vmem, ⟨7, _⟩ => ⟨S512x1024, .f32⟩
  | .local _ .vmem, ⟨8, _⟩ => ⟨S8x512x256, .bf16⟩
  | .local _ .vmem, ⟨9, _⟩ => ⟨S8x512x256, .bf16⟩
  | .local _ .vmem, ⟨10, _⟩ => ⟨S512x2048, .bf16⟩
  | .local _ .vmem, ⟨11, _⟩ => ⟨S512x2048, .bf16⟩
  | .local _ .vmem, ⟨12, _⟩ => ⟨S8x512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x4096x1024 : Shape := ⟨3, ![8, 4096, 1024]⟩
abbrev S1024 : Shape := ⟨1, ![1024]⟩
abbrev S16x3072 : Shape := ⟨2, ![16, 3072]⟩
abbrev S1024x4096 : Shape := ⟨2, ![1024, 4096]⟩
abbrev S8x3072 : Shape := ⟨2, ![8, 3072]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x4096 : Shape := ⟨3, ![8, 4096, 4096]⟩
abbrev S8x4096x2048 : Shape := ⟨3, ![8, 4096, 2048]⟩
abbrev S4096x8x1024 : Shape := ⟨3, ![4096, 8, 1024]⟩
abbrev S32768x1024 : Shape := ⟨2, ![32768, 1024]⟩
abbrev S4096x8x2048 : Shape := ⟨3, ![4096, 8, 2048]⟩
abbrev S32768x2048 : Shape := ⟨2, ![32768, 2048]⟩
abbrev S32768x8x256 : Shape := ⟨3, ![32768, 8, 256]⟩
abbrev S8x32768x256 : Shape := ⟨3, ![8, 32768, 256]⟩

abbrev nBuf : Space → Nat
  | .hbm => 46
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S16x3072, .f32⟩
  | .hbm, ⟨3, _⟩ => ⟨S1024x4096, .f32⟩
  | .hbm, ⟨4, _⟩ => ⟨S8x3072, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x4096x1024, .f32⟩
  | .hbm, ⟨9, _⟩ => ⟨S_, .f32⟩
  | .hbm, ⟨10, _⟩ => ⟨S8x4096, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S1x1x1024, .f32⟩
  | .hbm, ⟨22, _⟩ => ⟨S8x4096x1024, .f32⟩
  | .hbm, ⟨23, _⟩ => ⟨S8x4096x1024, .f32⟩
  | .hbm, ⟨24, _⟩ => ⟨S8x1x1024, .f32⟩
  | .hbm, ⟨25, _⟩ => ⟨S_, .f32⟩
  | .hbm, ⟨26, _⟩ => ⟨S8x1x1024, .f32⟩
  | .hbm, ⟨27, _⟩ => ⟨S8x1x1024, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S8x4096x1024, .f32⟩
  | .hbm, ⟨32, _⟩ => ⟨S8x4096x1024, .f32⟩
  | .hbm, ⟨33, _⟩ => ⟨S8x4096x4096, .f32⟩
  | .hbm, ⟨34, _⟩ => ⟨S8x4096x2048, .f32⟩
  | .hbm, ⟨35, _⟩ => ⟨S8x4096x2048, .f32⟩
  | .hbm, ⟨36, _⟩ => ⟨S4096x8x1024, .f32⟩
  | .hbm, ⟨37, _⟩ => ⟨S32768x1024, .f32⟩
  | .hbm, ⟨38, _⟩ => ⟨S4096x8x2048, .f32⟩
  | .hbm, ⟨39, _⟩ => ⟨S32768x2048, .f32⟩
  | .hbm, ⟨40, _⟩ => ⟨S32768x8x256, .f32⟩
  | .hbm, ⟨41, _⟩ => ⟨S8x32768x256, .f32⟩
  | .hbm, ⟨42, _⟩ => ⟨S8x32768x256, .bf16⟩
  | .hbm, ⟨43, _⟩ => ⟨S4096x8x2048, .f32⟩
  | .hbm, ⟨44, _⟩ => ⟨S32768x2048, .f32⟩
  | .hbm, ⟨45, _⟩ => ⟨S32768x2048, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S16x3072 : Shape := ⟨2, ![16, 3072]⟩
abbrev S1024x6160 : Shape := ⟨2, ![1024, 6160]⟩
abbrev S4x4096 : Shape := ⟨2, ![4, 4096]⟩
abbrev S8 : Shape := ⟨1, ![8]⟩
abbrev S1024x4096 : Shape := ⟨2, ![1024, 4096]⟩
abbrev S1024x16 : Shape := ⟨2, ![1024, 16]⟩
abbrev S_ : Shape := ⟨0, ![]⟩
abbrev S1024x128 : Shape := ⟨2, ![1024, 128]⟩
abbrev S1x8 : Shape := ⟨2, ![1, 8]⟩
abbrev S2x8 : Shape := ⟨2, ![2, 8]⟩
abbrev S2x128 : Shape := ⟨2, ![2, 128]⟩
abbrev S1x1024 : Shape := ⟨2, ![1, 1024]⟩
abbrev S4096x8192 : Shape := ⟨2, ![4096, 8192]⟩
abbrev S4096x16384 : Shape := ⟨2, ![4096, 16384]⟩
abbrev S4096x1024 : Shape := ⟨2, ![4096, 1024]⟩
abbrev S256x1024 : Shape := ⟨2, ![256, 1024]⟩
abbrev S8x1024 : Shape := ⟨2, ![8, 1024]⟩
abbrev S32x8192 : Shape := ⟨2, ![32, 8192]⟩
abbrev S32x16384 : Shape := ⟨2, ![32, 16384]⟩
abbrev S32x1024 : Shape := ⟨2, ![32, 1024]⟩
abbrev S280x4096 : Shape := ⟨2, ![280, 4096]⟩
abbrev S33x256x128 : Shape := ⟨3, ![33, 256, 128]⟩
abbrev S24x4096 : Shape := ⟨2, ![24, 4096]⟩
abbrev S256 : Shape := ⟨1, ![256]⟩
abbrev S256x1 : Shape := ⟨2, ![256, 1]⟩
abbrev S32x8x1024 : Shape := ⟨3, ![32, 8, 1024]⟩
abbrev S1x8x1024 : Shape := ⟨3, ![1, 8, 1024]⟩
abbrev S256x4096 : Shape := ⟨2, ![256, 4096]⟩
abbrev S1x4096 : Shape := ⟨2, ![1, 4096]⟩
abbrev S256x128 : Shape := ⟨2, ![256, 128]⟩
abbrev S1x256x128 : Shape := ⟨3, ![1, 256, 128]⟩
abbrev S256x2048 : Shape := ⟨2, ![256, 2048]⟩
abbrev S1x128 : Shape := ⟨2, ![1, 128]⟩
abbrev S1x32x128 : Shape := ⟨3, ![1, 32, 128]⟩
abbrev S32x128 : Shape := ⟨2, ![32, 128]⟩
abbrev S32x2048 : Shape := ⟨2, ![32, 2048]⟩

abbrev nBuf : Space → Nat
  | .hbm => 25
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S16x3072, .f32⟩
  | .hbm, ⟨3, _⟩ => ⟨S1024x6160, .f32⟩
  | .hbm, ⟨4, _⟩ => ⟨S4x4096, .f32⟩
  | .hbm, ⟨5, _⟩ => ⟨S8, .f32⟩
  | .hbm, ⟨6, _⟩ => ⟨S8, .f32⟩
  | .hbm, ⟨7, _⟩ => ⟨S1024x4096, .f32⟩
  | .hbm, ⟨8, _⟩ => ⟨S1024x4096, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1x8, .f32⟩
  | .hbm, ⟨15, _⟩ => ⟨S1x8, .f32⟩
  | .hbm, ⟨16, _⟩ => ⟨S2x8, .f32⟩
  | .hbm, ⟨17, _⟩ => ⟨S_, .i32⟩
  | .hbm, ⟨18, _⟩ => ⟨S_, .f32⟩
  | .hbm, ⟨19, _⟩ => ⟨S2x128, .f32⟩
  | .hbm, ⟨20, _⟩ => ⟨S1x1024, .f32⟩
  | .hbm, ⟨21, _⟩ => ⟨S4096x8192, .bf16⟩
  | .hbm, ⟨22, _⟩ => ⟨S4096x8192, .bf16⟩
  | .hbm, ⟨23, _⟩ => ⟨S4096x16384, .bf16⟩
  | .hbm, ⟨24, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024, .f32⟩
  | .local _ .vmem, ⟨4, _⟩ => ⟨S8x1024, .f32⟩
  | .local _ .vmem, ⟨5, _⟩ => ⟨S1024x4096, .bf16⟩
  | .local _ .vmem, ⟨6, _⟩ => ⟨S1024x128, .bf16⟩
  | .local _ .vmem, ⟨7, _⟩ => ⟨S4x4096, .f32⟩
  | .local _ .vmem, ⟨8, _⟩ => ⟨S2x128, .f32⟩
  | .local _ .vmem, ⟨9, _⟩ => ⟨S32x8192, .bf16⟩
  | .local _ .vmem, ⟨10, _⟩ => ⟨S32x8192, .bf16⟩
  | .local _ .vmem, ⟨11, _⟩ => ⟨S32x8192, .bf16⟩
  | .local _ .vmem, ⟨12, _⟩ => ⟨S32x8192, .bf16⟩
  | .local _ .vmem, ⟨13, _⟩ => ⟨S32x16384, .bf16⟩
  | .local _ .vmem, ⟨14, _⟩ => ⟨S32x16384, .bf16⟩
  | .local _ .vmem, ⟨15, _⟩ => ⟨S32x1024, .f32⟩
  | .local _ .vmem, ⟨16, _⟩ => ⟨S32x1024, .f32⟩
  | .local _ .vmem, ⟨17, _⟩ => ⟨S280x4096, .f32⟩
  | .local _ .vmem, ⟨18, _⟩ => ⟨S33x256x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c1_i32_0 : BitVec 32 := 1#32
  let c0_i32 : BitVec 32 := 0#32
  ![c1_i32.toNat, c1_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S32x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x16384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S32768x1024 : Shape := ⟨2, ![32768, 1024]⟩
abbrev S1024 : Shape := ⟨1, ![1024]⟩
abbrev S16x3072 : Shape := ⟨2, ![16, 3072]⟩
abbrev S1024x6160 : Shape := ⟨2, ![1024, 6160]⟩
abbrev S4x4096 : Shape := ⟨2, ![4, 4096]⟩
abbrev S8 : Shape := ⟨1, ![8]⟩
abbrev S8x3072 : Shape := ⟨2, ![8, 3072]⟩
abbrev S8x1024 : Shape := ⟨2, ![8, 1024]⟩
abbrev S4096x8x1024 : Shape := ⟨3, ![4096, 8, 1024]⟩
abbrev S_ : Shape := ⟨0, ![]⟩
abbrev S4096x8 : Shape := ⟨2, ![4096, 8]⟩
abbrev S4096x8x1 : Shape := ⟨3, ![4096, 8, 1]⟩
abbrev S1x1x1024 : Shape := ⟨3, ![1, 1, 1024]⟩
abbrev S1x8x1024 : Shape := ⟨3, ![1, 8, 1024]⟩
abbrev S1024x4096 : Shape := ⟨2, ![1024, 4096]⟩
abbrev S4096x8x4096 : Shape := ⟨3, ![4096, 8, 4096]⟩
abbrev S4099x8x4096 : Shape := ⟨3, ![4099, 8, 4096]⟩
abbrev S1x4096 : Shape := ⟨2, ![1, 4096]⟩
abbrev S4096 : Shape := ⟨1, ![4096]⟩
abbrev S1x1x4096 : Shape := ⟨3, ![1, 1, 4096]⟩
abbrev S4096x8x2048 : Shape := ⟨3, ![4096, 8, 2048]⟩
abbrev S4096x8x8x128 : Shape := ⟨4, ![4096, 8, 8, 128]⟩
abbrev S4096x8x8 : Shape := ⟨3, ![4096, 8, 8]⟩
abbrev S4096x8x8x1 : Shape := ⟨4, ![4096, 8, 8, 1]⟩
abbrev S1024x16 : Shape := ⟨2, ![1024, 16]⟩
abbrev S1024x128 : Shape := ⟨2, ![1024, 128]⟩
abbrev S4096x8x128 : Shape := ⟨3, ![4096, 8, 128]⟩
abbrev S4096x8x120 : Shape := ⟨3, ![4096, 8, 120]⟩
abbrev S120 : Shape := ⟨1, ![120]⟩
abbrev S1x1x120 : Shape := ⟨3, ![1, 1, 120]⟩
abbrev S4096x8192 : Shape := ⟨2, ![4096, 8192]⟩
abbrev S4096x16384 : Shape := ⟨2, ![4096, 16384]⟩
abbrev S4096x1024 : Shape := ⟨2, ![4096, 1024]⟩

abbrev nBuf : Space → Nat
  | .hbm => 151
  | .vmem => 0
  | .smem => 0
  | _ => 0

abbrev hbmTy0_0 (i : Nat) : BufTy := match i % 128 with
  | 0 => ⟨S32768x1024, .f32⟩
  | 1 => ⟨S1024, .f32⟩
  | 2 => ⟨S16x3072, .f32⟩
  | 3 => ⟨S1024x6160, .f32⟩
  | 4 => ⟨S4x4096, .f32⟩
  | 5 => ⟨S8, .f32⟩
  | 6 => ⟨S8, .f32⟩
  | 7 => ⟨S8x3072, .f32⟩
  | 8 => ⟨S8x1024, .f32⟩
  | 9 => ⟨S8x1024, .f32⟩
  | 10 => ⟨S8x1024, .f32⟩
  | 11 => ⟨S4096x8x1024, .f32⟩
  | 12 => ⟨S4096x8x1024, .f32⟩
  | 13 => ⟨S_, .f32⟩
  | 14 => ⟨S4096x8, .f32⟩
  | 15 => ⟨S4096x8x1, .f32⟩
  | 16 => ⟨S_, .f32⟩
  | 17 => ⟨S4096x8x1, .f32⟩
  | 18 => ⟨S4096x8x1, .f32⟩
  | 19 => ⟨S_, .f32⟩
  | 20 => ⟨S4096x8x1, .f32⟩
  | 21 => ⟨S4096x8x1, .f32⟩
  | 22 => ⟨S4096x8x1, .f32⟩
  | 23 => ⟨S4096x8x1024, .f32⟩
  | 24 => ⟨S4096x8x1024, .f32⟩
  | 25 => ⟨S1x1x1024, .f32⟩
  | 26 => ⟨S4096x8x1024, .f32⟩
  | 27 => ⟨S4096x8x1024, .f32⟩
  | 28 => ⟨S_, .f32⟩
  | 29 => ⟨S8x1024, .f32⟩
  | 30 => ⟨S8x1024, .f32⟩
  | 31 => ⟨S1x8x1024, .f32⟩
  | 32 => ⟨S4096x8x1024, .f32⟩
  | 33 => ⟨S4096x8x1024, .f32⟩
  | 34 => ⟨S1x8x1024, .f32⟩
  | 35 => ⟨S4096x8x1024, .f32⟩
  | 36 => ⟨S4096x8x1024, .f32⟩
  | 37 => ⟨S1024x4096, .f32⟩
  | 38 => ⟨S4096x8x4096, .f32⟩
  | 39 => ⟨S_, .i32⟩
  | 40 => ⟨S_, .f32⟩
  | 41 => ⟨S4099x8x4096, .f32⟩
  | 42 => ⟨S1x4096, .f32⟩
  | 43 => ⟨S4096, .f32⟩
  | 44 => ⟨S4096x8x4096, .f32⟩
  | 45 => ⟨S1x1x4096, .f32⟩
  | 46 => ⟨S4096x8x4096, .f32⟩
  | 47 => ⟨S4096x8x4096, .f32⟩
  | 48 => ⟨S1x4096, .f32⟩
  | 49 => ⟨S4096, .f32⟩
  | 50 => ⟨S4096x8x4096, .f32⟩
  | 51 => ⟨S1x1x4096, .f32⟩
  | 52 => ⟨S4096x8x4096, .f32⟩
  | 53 => ⟨S4096x8x4096, .f32⟩
  | 54 => ⟨S4096x8x4096, .f32⟩
  | 55 => ⟨S1x4096, .f32⟩
  | 56 => ⟨S4096, .f32⟩
  | 57 => ⟨S4096x8x4096, .f32⟩
  | 58 => ⟨S1x1x4096, .f32⟩
  | 59 => ⟨S4096x8x4096, .f32⟩
  | 60 => ⟨S4096x8x4096, .f32⟩
  | 61 => ⟨S4096x8x4096, .f32⟩
  | 62 => ⟨S1x4096, .f32⟩
  | 63 => ⟨S4096, .f32⟩
  | 64 => ⟨S4096x8x4096, .f32⟩
  | 65 => ⟨S1x1x4096, .f32⟩
  | 66 => ⟨S4096x8x4096, .f32⟩
  | 67 => ⟨S4096x8x4096, .f32⟩
  | 68 => ⟨S4096x8x4096, .f32⟩
  | 69 => ⟨S4096x8x4096, .f32⟩
  | 70 => ⟨S4096x8x4096, .f32⟩
  | 71 => ⟨S_, .f32⟩
  | 72 => ⟨S4096x8x4096, .f32⟩
  | 73 => ⟨S4096x8x4096, .f32⟩
  | 74 => ⟨S_, .f32⟩
  | 75 => ⟨S4096x8x4096, .f32⟩
  | 76 => ⟨S4096x8x4096, .f32⟩
  | 77 => ⟨S4096x8x4096, .f32⟩
  | 78 => ⟨S4096x8x1024, .f32⟩
  | 79 => ⟨S4096x8x1024, .f32⟩
  | 80 => ⟨S4096x8x2048, .f32⟩
  | 81 => ⟨S4096x8x8x128, .f32⟩
  | 82 => ⟨S4096x8x8x128, .f32⟩
  | 83 => ⟨S_, .f32⟩
  | 84 => ⟨S4096x8x8, .f32⟩
  | 85 => ⟨S4096x8x8x1, .f32⟩
  | 86 => ⟨S_, .f32⟩
  | 87 => ⟨S4096x8x8x1, .f32⟩
  | 88 => ⟨S4096x8x8x1, .f32⟩
  | 89 => ⟨S4096x8x8x1, .f32⟩
  | 90 => ⟨S4096x8x8x128, .f32⟩
  | 91 => ⟨S4096x8x8x128, .f32⟩
  | 92 => ⟨S_, .f32⟩
  | 93 => ⟨S4096x8x8x128, .f32⟩
  | 94 => ⟨S4096x8x8x128, .f32⟩
  | 95 => ⟨S4096x8x8x128, .f32⟩
  | 96 => ⟨S4096x8x8x128, .f32⟩
  | 97 => ⟨S_, .f32⟩
  | 98 => ⟨S4096x8x8, .f32⟩
  | 99 => ⟨S4096x8x8x1, .f32⟩
  | 100 => ⟨S_, .f32⟩
  | 101 => ⟨S4096x8x8x1, .f32⟩
  | 102 => ⟨S4096x8x8x1, .f32⟩
  | 103 => ⟨S4096x8x8x1, .f32⟩
  | 104 => ⟨S4096x8x8x128, .f32⟩
  | 105 => ⟨S4096x8x8x128, .f32⟩
  | 106 => ⟨S1024x16, .f32⟩
  | 107 => ⟨S_, .i32⟩
  | 108 => ⟨S_, .f32⟩
  | 109 => ⟨S1024x128, .f32⟩
  | 110 => ⟨S4096x8x128, .f32⟩
  | 111 => ⟨S4096x8x120, .f32⟩
  | 112 => ⟨S_, .i32⟩
  | 113 => ⟨S_, .f32⟩
  | 114 => ⟨S120, .f32⟩
  | 115 => ⟨S1x1x120, .f32⟩
  | 116 => ⟨S4096x8x120, .f32⟩
  | 117 => ⟨S4096x8x120, .f32⟩
  | 118 => ⟨S_, .i32⟩
  | 119 => ⟨S_, .f32⟩
  | 120 => ⟨S120, .f32⟩
  | 121 => ⟨S120, .f32⟩
  | 122 => ⟨S120, .f32⟩
  | 123 => ⟨S_, .f32⟩
  | 124 => ⟨S4096x8x120, .f32⟩
  | 125 => ⟨S4096x8x120, .f32⟩
  | 126 => ⟨S4096x8x120, .f32⟩
  | 127 => ⟨S4096x8x120, .f32⟩
  | _ => ⟨S32768x1024, .f32⟩

abbrev hbmTy0_1 (i : Nat) : BufTy := match i % 128 with
  | 0 => ⟨S4096x8x120, .f32⟩
  | 1 => ⟨S4096x8x120, .f32⟩
  | 2 => ⟨S4096x8x120, .f32⟩
  | 3 => ⟨S1x1x120, .f32⟩
  | 4 => ⟨S4096x8x120, .f32⟩
  | 5 => ⟨S4096x8x120, .f32⟩
  | 6 => ⟨S4096x8x8, .f32⟩
  | 7 => ⟨S4096x8x8, .f32⟩
  | 8 => ⟨S4096x8x8, .f32⟩
  | 9 => ⟨S_, .f32⟩
  | 10 => ⟨S4096x8x8, .f32⟩
  | 11 => ⟨S4096x8x8, .f32⟩
  | 12 => ⟨S_, .f32⟩
  | 13 => ⟨S4096x8x8, .f32⟩
  | 14 => ⟨S4096x8x8, .f32⟩
  | 15 => ⟨S4096x8x128, .f32⟩
  | 16 => ⟨S4096x8192, .f32⟩
  | 17 => ⟨S4096x8192, .bf16⟩
  | 18 => ⟨S4096x8192, .f32⟩
  | 19 => ⟨S4096x8192, .bf16⟩
  | 20 => ⟨S4096x16384, .f32⟩
  | 21 => ⟨S4096x16384, .bf16⟩
  | 22 => ⟨S4096x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_call0_v0 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_3 : Ref sig .tc := ⟨.hbm, 83, rfl⟩
abbrev main_v62 : Ref sig .tc := ⟨.hbm, 84, rfl⟩
abbrev main_v63 : Ref sig .tc := ⟨.hbm, 85, rfl⟩
abbrev main_cst_4 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_5 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_6 : Ref sig .tc := ⟨.hbm, 97, rfl⟩
abbrev main_v73 : Ref sig .tc := ⟨.hbm, 98, rfl⟩
abbrev main_v74 : Ref sig .tc := ⟨.hbm, 99, rfl⟩
abbrev main_cst_7 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_8 : Ref sig .tc := ⟨.hbm, 107, rfl⟩
abbrev main_call2_v0 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_9 : Ref sig .tc := ⟨.hbm, 112, rfl⟩
abbrev main_call3_v0 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_10 : Ref sig .tc := ⟨.hbm, 118, rfl⟩
abbrev main_call4_v0 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_11 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_12 : Ref sig .tc := ⟨.hbm, 137, rfl⟩
abbrev main_v104 : Ref sig .tc := ⟨.hbm, 138, rfl⟩
abbrev main_v105 : Ref sig .tc := ⟨.hbm, 139, rfl⟩
abbrev main_cst_13 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩

abbrev nD : Nat := 1
abbrev τ : Topo := Topo.v7x

variable {F : FTy → Type} [FloatOps F]
-- ==== Proof.Pair.lean ====
/- What the kernel computes for ONE pair of heads of one batch in one chunk of 128 tokens, as vector operations over the
   values it loads: the pair's queries, keys and values, the two heads' columns of gates, and the two states. The kernel
   writes the same operations out once per pair; here they are written once, over any number format. -/
module

public import proofs.«01_k».proof.Proof.Gen.KernelIdeal.Value

@[expose] public section

noncomputable section

namespace Cert.KernelIdeal.Gen.Pair

open Idealize.ShloMosaic Idealize.SL.Sem

variable {F : FTy → Type} [FloatOps F]

/-- The row number of a 128×256 pair block. -/
def row : IVec S128x256 32 := iota .tc S128x256 32 [0] iota_S128x256_d0_w32

/-- The column number within its own head of a 128×256 pair block. -/
def col : IVec S128x256 32 :=
  andi (iota .tc S128x256 32 [1] iota_S128x256_d1_w32) (broadcast S128x256 127#32)

def causal : IVec S128x256 1 := cmpi .sge row col

def strict : IVec S128x256 1 := cmpi .sgt row col

/-- The identity matrix of each head. -/
def eye : FVec F S128x256 .f32 := sitofp .f32 (extui 32 (cmpi .eq row col) natLt_1_32)

/-- Row and column lie in the same diagonal block of size `2 ^ s`. -/
def same (s : BitVec 32) : IVec S128x256 1 :=
  cmpi .eq (shrsi row (broadcast S128x256 s)) (shrsi col (broadcast S128x256 s))

/-- In the same block of size `2 ^ s'`, but not in the same block of size `2 ^ s`. -/
def level (s' s : BitVec 32) : IVec S128x256 1 :=
  andi (same s') (xori (same s) (constantI S128x256 1 1#1))

/-- `x` where the mask holds, zero elsewhere. -/
def keep (c : IVec S128x256 1) (x : FVec F S128x256 .f32) : FVec F S128x256 .f32 :=
  select c x (broadcast S128x256 (Scalar.ofBits .f32 0x00000000#32))

/-- The lane number of a 128×256 pair block. -/
def lane : IVec S128x256 32 := iota .tc S128x256 32 [1] iota_S128x256_d1_w32

/-- The two heads of a pair block as the two diagonal blocks of a 256×256 matrix. -/
def bdiag (x : FVec F S128x256 .bf16) : FVec F S256x256 .bf16 :=
  concatenate S256x256 0
    [⟨S128x256, select (cmpi .slt lane (broadcast S128x256 128#32)) x
        (broadcast S128x256 (Scalar.ofBits .bf16 0x0000#16))⟩,
     ⟨S128x256, select (cmpi .sge lane (broadcast S128x256 128#32)) x
        (broadcast S128x256 (Scalar.ofBits .bf16 0x0000#16))⟩]
    concatenates_S128x256_S128x256_S256x256_d0

/-- The products of the two heads' matrices, head by head. -/
def mm (x y : FVec F S128x256 .f32) : FVec F S128x256 .f32 :=
  matmul dot_S128x256_S256x256_S128x256_1_0_0_1_n_n none (truncf .bf16 x bitsLt_bf16_f32)
    (bdiag (truncf .bf16 y bitsLt_bf16_f32)) (constant S128x256 .f32 0x00000000#32)

/-- Queries and keys against keys. -/
def prods (q k : Vec F S128x256 .bf16) : FVec F S256x256 .f32 :=
  matmul dot_S256x256_S256x256_S256x256_1_1_0_0_n_n none
    (concatenate S256x256 0 [⟨S128x256, q⟩, ⟨S128x256, k⟩] concatenates_S128x256_S128x256_S256x256_d0)
    (bdiag k) (constant S256x256 .f32 0x00000000#32)

/-- The decay from one token to a later one, and zero to an earlier one. -/
def decay (g0 g1 : FVec F S128x1 .f32) (r0 r1 : FVec F S1x128 .f32) : FVec F S128x256 .f32 :=
  keep causal (exp (concatenate S128x256 1
    [⟨S128x128, subf (broadcastTo S128x128 g0 broadcasts_S128x1_S128x128)
        (broadcastTo S128x128 r0 broadcasts_S1x128_S128x128)⟩,
     ⟨S128x128, subf (broadcastTo S128x128 g1 broadcasts_S128x1_S128x128)
        (broadcastTo S128x128 r1 broadcasts_S1x128_S128x128)⟩]
    concatenates_S128x128_S128x128_S128x256_d1))

/-- Two columns, each spread over its head's 128 lanes. -/
def cols (c0 c1 : FVec F S128x1 .f32) : FVec F S128x256 .f32 :=
  concatenate S128x256 1
    [⟨S128x128, broadcastTo S128x128 (shapeCast S128x1 c0 shapeCasts_S128x1_S128x1) broadcasts_S128x1_S128x128⟩,
     ⟨S128x128, broadcastTo S128x128 (shapeCast S128x1 c1 shapeCasts_S128x1_S128x1) broadcasts_S128x1_S128x128⟩]
    concatenates_S128x128_S128x128_S128x256_d1

/-- Two columns, each spread over its head's 256 value lanes. -/
def colsV (c0 c1 : FVec F S128x1 .f32) : FVec F S128x512 .f32 :=
  concatenate S128x512 1
    [⟨S128x256, broadcastTo S128x256 (shapeCast S128x1 c0 shapeCasts_S128x1_S128x1) broadcasts_S128x1_S128x256⟩,
     ⟨S128x256, broadcastTo S128x256 (shapeCast S128x1 c1 shapeCasts_S128x1_S128x1) broadcasts_S128x1_S128x256⟩]
    concatenates_S128x256_S128x256_S128x512_d1

def qk (q k : Vec F S128x256 .bf16) (D : FVec F S128x256 .f32) : FVec F S128x256 .f32 :=
  mulf (extractStridedSlice S128x256 ![0, 0] (prods q k) slices_S256x256_o0_0_S128x256) D

def amat (q k : Vec F S128x256 .bf16) (b0 b1 : FVec F S128x1 .f32) (D : FVec F S128x256 .f32) :
    FVec F S128x256 .f32 :=
  keep strict (mulf (mulf (cols b0 b1)
    (extractStridedSlice S128x256 ![128, 0] (prods q k) slices_S256x256_o128_0_S128x256)) D)

/-- The inverses of the diagonal blocks of size eight of `1 + a`. -/
def tInv0 (a : FVec F S128x256 .f32) : FVec F S128x256 .f32 :=
  have d := keep (same 3#32) a
  have d2 := mm d d
  have d4 := mm d2 d2
  have t := subf eye d
  have t := addf t (mm t d2)
  addf t (mm t d4)

/-- From the inverses of the diagonal blocks of one size to those of twice the size. -/
def tStep (a : FVec F S128x256 .f32) (s' s : BitVec 32) (t : FVec F S128x256 .f32) : FVec F S128x256 .f32 :=
  subf t (mm t (mm (keep (level s' s) a) t))

/-- The inverse of `1 + a`. -/
def tInv (a : FVec F S128x256 .f32) : FVec F S128x256 .f32 :=
  tStep a 7#32 6#32 (tStep a 6#32 5#32 (tStep a 5#32 4#32 (tStep a 4#32 3#32 (tInv0 a))))

/-- The decays from the chunk's start. -/
def gam (g0 g1 : FVec F S128x1 .f32) : FVec F S128x256 .f32 := exp (cols g0 g1)

def rw (k : Vec F S128x256 .bf16) (b0 b1 : FVec F S128x1 .f32) (G : FVec F S128x256 .f32) :
    FVec F S128x256 .bf16 :=
  truncf .bf16 (mulf (mulf (cols b0 b1) G) (extf .f32 k bitsLt_bf16_f32)) bitsLt_bf16_f32

def ru (v : Vec F S128x512 .bf16) (b0 b1 : FVec F S128x1 .f32) : FVec F S128x512 .bf16 :=
  truncf .bf16 (mulf (colsV b0 b1) (extf .f32 v bitsLt_bf16_f32)) bitsLt_bf16_f32

/-- The inverse applied to the weighted keys and values of both heads. -/
def wu (t : FVec F S128x256 .f32) (w : FVec F S128x256 .bf16) (u : FVec F S128x512 .bf16) : FVec F S128x768 .f32 :=
  matmul dot_S128x256_S256x768_S128x768_1_0_0_1_n_n none (truncf .bf16 t bitsLt_bf16_f32)
    (concatenate S256x768 0
      [⟨S128x768, concatenate S128x768 1
        [⟨S128x128, extractStridedSlice S128x128 ![0, 0] w slices_S128x256_o0_0_S128x128⟩,
         ⟨S128x128, broadcast S128x128 (Scalar.ofBits .bf16 0x0000#16)⟩,
         ⟨S128x256, extractStridedSlice S128x256 ![0, 0] u slices_S128x512_o0_0_S128x256⟩,
         ⟨S128x256, broadcast S128x256 (Scalar.ofBits .bf16 0x0000#16)⟩]
        concatenates_S128x128_S128x128_S128x256_S128x256_S128x768_d1⟩,
       ⟨S128x768, concatenate S128x768 1
        [⟨S128x128, broadcast S128x128 (Scalar.ofBits .bf16 0x0000#16)⟩,
         ⟨S128x128, extractStridedSlice S128x128 ![0, 128] w slices_S128x256_o0_128_S128x128⟩,
         ⟨S128x256, broadcast S128x256 (Scalar.ofBits .bf16 0x0000#16)⟩,
         ⟨S128x256, extractStridedSlice S128x256 ![0, 256] u slices_S128x512_o0_256_S128x256⟩]
        concatenates_S128x128_S128x128_S128x256_S128x256_S128x768_d1⟩]
      concatenates_S128x768_S128x768_S256x768_d0)
    (constant S128x768 .f32 0x00000000#32)

/-- One head's 128 lanes of a pair block: the first head's, or the second's. -/
def head (i : Fin 2) (x : FVec F S128x256 .f32) : FVec F S128x128 .f32 :=
  match i with
  | 0 => extractStridedSlice S128x128 ![0, 0] x slices_S128x256_o0_0_S128x128
  | 1 => extractStridedSlice S128x128 ![0, 128] x slices_S128x256_o0_128_S128x128

/-- One head's 256 value lanes. -/
def headV (i : Fin 2) (x : FVec F S128x512 .f32) : FVec F S128x256 .f32 :=
  match i with
  | 0 => extractStridedSlice S128x256 ![0, 0] x slices_S128x512_o0_0_S128x256
  | 1 => extractStridedSlice S128x256 ![0, 256] x slices_S128x512_o0_256_S128x256

/-- The head's weighted keys and decayed queries against its state. -/
def ws (i : Fin 2) (q : Vec F S128x256 .bf16) (G : FVec F S128x256 .f32) (x : FVec F S128x768 .f32)
    (S : Vec F S1x128x256 .f32) : FVec F S256x256 .f32 :=
  matmul dot_S256x128_S128x256_S256x256_1_0_0_1_n_n none
    (truncf .bf16 (concatenate S256x128 0
      [⟨S128x128, head i (extractStridedSlice S128x256 ![0, 0] x slices_S128x768_o0_0_S128x256)⟩,
       ⟨S128x128, head i (mulf (extf .f32 q bitsLt_bf16_f32) G)⟩]
      concatenates_S128x128_S128x128_S256x128_d0) bitsLt_bf16_f32)
    (truncf .bf16 (shapeCast S128x256 S shapeCasts_S1x128x256_S128x256) bitsLt_bf16_f32)
    (constant S256x256 .f32 0x00000000#32)

/-- The head's new values. -/
def vnew (i : Fin 2) (x : FVec F S128x768 .f32) (y : FVec F S256x256 .f32) : FVec F S128x256 .f32 :=
  subf (headV i (extractStridedSlice S128x512 ![0, 256] x slices_S128x768_o0_256_S128x512))
    (extractStridedSlice S128x256 ![0, 0] y slices_S256x256_o0_0_S128x256)

/-- The head's output before the norm. -/
def out (i : Fin 2) (Q : FVec F S128x256 .f32) (y : FVec F S256x256 .f32) (n : FVec F S128x256 .f32) :
    FVec F S128x256 .f32 :=
  addf (extractStridedSlice S128x256 ![128, 0] y slices_S256x256_o128_0_S128x256)
    (matmul dot_S128x128_S128x256_S128x256_1_0_0_1_n_n none (truncf .bf16 (head i Q) bitsLt_bf16_f32)
      (truncf .bf16 n bitsLt_bf16_f32) (constant S128x256 .f32 0x00000000#32))

/-- The norm. -/
def norm (o : FVec F S128x256 .f32) (nw : Vec F S1x256 .f32) : FVec F S128x256 .bf16 :=
  truncf .bf16 (mulf (mulf o (broadcastTo S128x256
    (rsqrt (addf (divf (shapeCast S128x1 (multiReduction .add [1] S128 (mulf o o) 0x00000000#32
        reduces_S128x256_S128 (.inl rfl) rfl) shapeCasts_S128_S128x1)
      (broadcast S128x1 (Scalar.ofBits .f32 0x43800000#32)))
      (broadcast S128x1 (Scalar.ofBits .f32 0x358637BD#32)))) broadcasts_S128x1_S128x256))
    (broadcastTo S128x256 (shapeCast S1x256 nw shapeCasts_S1x256_S1x256) broadcasts_S1x256_S128x256)) bitsLt_bf16_f32

/-- The head's state after the chunk. -/
def next (k : Vec F S128x128 .bf16) (g : FVec F S128x1 .f32) (S : Vec F S1x128x256 .f32)
    (n : FVec F S128x256 .f32) : FVec F S1x128x256 .f32 :=
  have gl := extractStridedSlice S1x1 ![127, 0] g slices_S128x1_o127_0_S1x1
  shapeCast S1x128x256 (addf
    (mulf (broadcastTo S128x256 (exp gl) broadcasts_S1x1_S128x256)
      (shapeCast S128x256 S shapeCasts_S1x128x256_S128x256))
    (matmul dot_S128x128_S128x256_S128x256_0_0_1_1_n_n none
      (truncf .bf16 (mulf (extf .f32 k bitsLt_bf16_f32) (broadcastTo S128x128
        (exp (subf (broadcastTo S128x1 gl broadcasts_S1x1_S128x1) g)) broadcasts_S128x1_S128x128)) bitsLt_bf16_f32)
      (truncf .bf16 n bitsLt_bf16_f32) (constant S128x256 .f32 0x00000000#32))) shapeCasts_S128x256_S1x128x256

/-- The lower triangle of ones. -/
def tri : FVec F S128x128 .bf16 :=
  truncf .bf16 (sitofp .f32 (extui 32 (cmpi .sge (iota .tc S128x128 32 [0] iota_S128x128_d0_w32)
    (iota .tc S128x128 32 [1] iota_S128x128_d1_w32)) natLt_1_32)) bitsLt_bf16_f32

def eyeH : FVec F S16x16 .bf16 :=
  truncf .bf16 (sitofp .f32 (extui 32 (cmpi .eq (iota .tc S16x16 32 [0] iota_S16x16_d0_w32)
    (iota .tc S16x16 32 [1] iota_S16x16_d1_w32)) natLt_1_32)) bitsLt_bf16_f32

/-- The three half-width parts of a column block. -/
def hi (x : FVec F S128x16 .f32) : FVec F S128x16 .bf16 := truncf .bf16 x bitsLt_bf16_f32
def rest (x : FVec F S128x16 .f32) : FVec F S128x16 .f32 := subf x (extf .f32 (hi x) bitsLt_bf16_f32)

/-- The running sums of the gates down the chunk. -/
def gc (g : FVec F S128x16 .f32) : FVec F S128x16 .f32 :=
  have z := constant S128x16 .f32 0x00000000#32
  have d := dot_S128x128_S128x16_S128x16_1_0_0_1_n_n
  addf (addf (addf (broadcast S128x16 (Scalar.ofBits .f32 0x00000000#32)) (matmul d none tri (hi g) z))
    (matmul d none tri (hi (rest g)) z)) (matmul d none tri (hi (rest (rest g))) z)

/-- The running sums laid along the lanes. -/
def gct (x : FVec F S128x16 .f32) : FVec F S16x128 .f32 :=
  have z := constant S16x128 .f32 0x00000000#32
  have d := dot_S16x16_S128x16_S16x128_1_1_0_0_n_n
  addf (addf (addf (broadcast S16x128 (Scalar.ofBits .f32 0x00000000#32)) (matmul d none eyeH (hi x) z))
    (matmul d none eyeH (hi (rest x)) z)) (matmul d none eyeH (hi (rest (rest x))) z)

/-- The two states' new values of one head of the pair. -/
def vnewOf (i : Fin 2) (q k : Vec F S128x256 .bf16) (v : Vec F S128x512 .bf16) (b0 b1 g0 g1 : FVec F S128x1 .f32)
    (r0 r1 : FVec F S1x128 .f32) (S : Vec F S1x128x256 .f32) : FVec F S128x256 .f32 :=
  have G := gam g0 g1
  have x := wu (tInv (amat q k b0 b1 (decay g0 g1 r0 r1))) (rw k b0 b1 G) (ru v b0 b1)
  vnew i x (ws i q G x S)

/-- The stored output of one head of the pair. -/
def yOf (i : Fin 2) (q k : Vec F S128x256 .bf16) (v : Vec F S128x512 .bf16) (b0 b1 g0 g1 : FVec F S128x1 .f32)
    (r0 r1 : FVec F S1x128 .f32) (S : Vec F S1x128x256 .f32) (nw : Vec F S1x256 .f32) : FVec F S128x256 .bf16 :=
  have G := gam g0 g1
  have D := decay g0 g1 r0 r1
  have x := wu (tInv (amat q k b0 b1 D)) (rw k b0 b1 G) (ru v b0 b1)
  have y := ws i q G x S
  norm (out i (qk q k D) y (vnew i x y)) nw

end Cert.KernelIdeal.Gen.Pair
-- ==== Proof.BlockInverse.lean ====
/-
  THE INVERSE OF A UNIT LOWER TRIANGULAR MATRIX, the way the kernel builds it, over the reals: the blocks of eight on the
  diagonal by the product `(1 - D)(1 + D²)(1 + D⁴)`, then one level after another, each joining two neighbouring blocks.
  Nothing here is about a program.
-/
module

public import Mathlib.Data.Matrix.Mul
public import Mathlib.LinearAlgebra.Matrix.NonsingularInverse
public import Mathlib.Data.Real.Basic
public import Mathlib.Tactic.NoncommRing

@[expose] public section

noncomputable section

namespace Delta

open Matrix

variable {n : ℕ}

/-- Square matrices over the tokens of a chunk. -/
abbrev Mat (n : ℕ) : Type := Matrix (Fin n) (Fin n) ℝ

/-- Two tokens lie in one block of `2 ^ s`. -/
def Same (s : ℕ) (i j : Fin n) : Prop := i.val / 2 ^ s = j.val / 2 ^ s

instance (s : ℕ) (i j : Fin n) : Decidable (Same s i j) := inferInstanceAs (Decidable (_ = _))

/-- The part of a matrix inside the diagonal blocks of `2 ^ s`. -/
def blk (s : ℕ) (A : Mat n) : Mat n := fun i j => if Same s i j then A i j else 0

/-- The part of a matrix that level `s` adds: inside the blocks of `2 ^ (s + 1)`, outside those of `2 ^ s`. -/
def lev (s : ℕ) (A : Mat n) : Mat n := fun i j => if Same (s + 1) i j ∧ ¬ Same s i j then A i j else 0

/-- A matrix is zero on and above the diagonal. -/
def Strict (A : Mat n) : Prop := ∀ i j : Fin n, A i j ≠ 0 → j < i

/-- A matrix is zero outside the diagonal blocks of `2 ^ s`. -/
def BD (s : ℕ) (A : Mat n) : Prop := ∀ i j : Fin n, A i j ≠ 0 → Same s i j

theorem Same.up {s : ℕ} {i j : Fin n} (h : Same s i j) : Same (s + 1) i j := by
  unfold Same at *
  rw [pow_succ, ← Nat.div_div_eq_div_mul, ← Nat.div_div_eq_div_mul, h]

theorem BD.up {s : ℕ} {A : Mat n} (h : BD s A) : BD (s + 1) A := fun i j hij => (h i j hij).up

theorem BD.mul {s : ℕ} {A B : Mat n} (hA : BD s A) (hB : BD s B) : BD s (A * B) := by
  intro i j hij
  rw [Matrix.mul_apply] at hij
  obtain ⟨m, -, hm⟩ := Finset.exists_ne_zero_of_sum_ne_zero hij
  exact (hA i m (left_ne_zero_of_mul hm)).trans (hB m j (right_ne_zero_of_mul hm))

theorem BD.add {s : ℕ} {A B : Mat n} (hA : BD s A) (hB : BD s B) : BD s (A + B) := by
  intro i j hij
  by_cases h : A i j = 0
  · exact hB i j fun h' => hij (by rw [Matrix.add_apply, h, h', add_zero])
  · exact hA i j h

theorem BD.sub {s : ℕ} {A B : Mat n} (hA : BD s A) (hB : BD s B) : BD s (A - B) := by
  intro i j hij
  by_cases h : A i j = 0
  · exact hB i j fun h' => hij (by rw [Matrix.sub_apply, h, h', sub_zero])
  · exact hA i j h

theorem BD.one {s : ℕ} : BD s (1 : Mat n) := by
  intro i j hij
  by_cases h : i = j
  · rw [h]; rfl
  · exact absurd (Matrix.one_apply_ne h) hij

theorem blk_BD (s : ℕ) (A : Mat n) : BD s (blk s A) := by
  intro i j hij
  by_contra h
  exact hij (if_neg h)

theorem lev_BD (s : ℕ) (A : Mat n) : BD (s + 1) (lev s A) := by
  intro i j hij
  by_contra h
  exact hij (if_neg fun h' => h h'.1)

theorem blk_succ (s : ℕ) (A : Mat n) : blk (s + 1) A = blk s A + lev s A := by
  ext i j
  rw [Matrix.add_apply]
  unfold blk lev
  by_cases h : Same s i j
  · simp [h, h.up]
  · by_cases h' : Same (s + 1) i j <;> simp [h, h']

/-- A power of the diagonal part reaches as many tokens back as its exponent says. -/
theorem blk_pow (s : ℕ) (A : Mat n) (hA : Strict A) (p : ℕ) (i j : Fin n) (h : (blk s A ^ p) i j ≠ 0) :
    Same s i j ∧ j.val + p ≤ i.val := by
  induction p generalizing j with
  | zero =>
    rw [pow_zero] at h
    by_cases hij : i = j
    · subst hij; exact ⟨rfl, le_rfl⟩
    · exact absurd (Matrix.one_apply_ne hij) h
  | succ p ih =>
    rw [pow_succ, Matrix.mul_apply] at h
    obtain ⟨m, -, hm⟩ := Finset.exists_ne_zero_of_sum_ne_zero h
    obtain ⟨h1, h2⟩ := ih m (left_ne_zero_of_mul hm)
    have h3 : blk s A m j ≠ 0 := right_ne_zero_of_mul hm
    have h4 : Same s m j := blk_BD s A m j h3
    have h5 : j < m := hA m j (by unfold blk at h3; rw [if_pos h4] at h3; exact h3)
    exact ⟨h1.trans h4, by have := Fin.lt_def.mp h5; omega⟩

theorem blk3_pow8 (A : Mat n) (hA : Strict A) : blk 3 A ^ 8 = 0 := by
  ext i j
  by_contra h
  obtain ⟨h1, h2⟩ := blk_pow 3 A hA 8 i j h
  unfold Same at h1
  omega

/-- The blocks of eight: with `D⁸ = 0` the product is the inverse of `1 + D`. -/
theorem base_inv {D : Mat n} (h : D ^ 8 = 0) :
    ((1 - D + (1 - D) * (D * D)) + (1 - D + (1 - D) * (D * D)) * (D * D * (D * D))) * (1 + D) = 1 := by
  have : ((1 - D + (1 - D) * (D * D)) + (1 - D + (1 - D) * (D * D)) * (D * D * (D * D))) * (1 + D) = 1 - D ^ 8 := by
    noncomm_ring
  rw [this, h, sub_zero]

/-- One level: two neighbouring blocks joined. -/
theorem level_inv {T B L : Mat n} (h : T * (1 + B) = 1) (hz : L * T * L = 0) :
    (T - T * (L * T)) * (1 + (B + L)) = 1 := by
  have e : (T - T * (L * T)) * (1 + (B + L))
      = T * (1 + B) + T * L - T * L * (T * (1 + B)) - T * (L * T * L) := by noncomm_ring
  rw [e, h, hz]
  simp

/-- What a level adds joins an even block with the odd one after it, so it cannot be used twice. -/
theorem lev_twice {s : ℕ} {A T : Mat n} (hA : Strict A) (hT : BD s T) : lev s A * T * lev s A = 0 := by
  ext i j
  by_contra h
  rw [Matrix.mul_apply] at h
  obtain ⟨b, -, hb⟩ := Finset.exists_ne_zero_of_sum_ne_zero h
  have hL2 := right_ne_zero_of_mul hb
  have h1 := left_ne_zero_of_mul hb
  rw [Matrix.mul_apply] at h1
  obtain ⟨a, -, ha⟩ := Finset.exists_ne_zero_of_sum_ne_zero h1
  have hL1 := left_ne_zero_of_mul ha
  have hab : Same s a b := hT a b (right_ne_zero_of_mul ha)
  have key : ∀ x y : Fin n, lev s A x y ≠ 0 → x.val / 2 ^ s = y.val / 2 ^ s + 1 ∧ (y.val / 2 ^ s) % 2 = 0 := by
    intro x y hxy
    unfold lev at hxy
    have hc : Same (s + 1) x y ∧ ¬ Same s x y := by
      by_contra hc; exact hxy (if_neg hc)
    rw [if_pos hc] at hxy
    have hlt := Fin.lt_def.mp (hA x y hxy)
    obtain ⟨hc1, hc2⟩ := hc
    unfold Same at hc1 hc2
    rw [pow_succ, ← Nat.div_div_eq_div_mul, ← Nat.div_div_eq_div_mul] at hc1
    have hle : y.val / 2 ^ s ≤ x.val / 2 ^ s := Nat.div_le_div_right hlt.le
    omega
  have k1 := key i a hL1
  have k2 := key b j hL2
  unfold Same at hab
  omega

/-- The inverse as the kernel builds it: `tInv A s` after `s` levels. -/
def tInv (A : Mat n) : ℕ → Mat n
  | 0 => (1 - blk 3 A + (1 - blk 3 A) * (blk 3 A * blk 3 A))
      + (1 - blk 3 A + (1 - blk 3 A) * (blk 3 A * blk 3 A)) * (blk 3 A * blk 3 A * (blk 3 A * blk 3 A))
  | s + 1 => tInv A s - tInv A s * (lev (s + 3) A * tInv A s)

theorem tInv_spec (A : Mat n) (hA : Strict A) (s : ℕ) :
    tInv A s * (1 + blk (s + 3) A) = 1 ∧ BD (s + 3) (tInv A s) := by
  induction s with
  | zero =>
    refine ⟨base_inv (blk3_pow8 A hA), ?_⟩
    have hD := blk_BD 3 A
    have h1 : BD 3 (1 - blk 3 A + (1 - blk 3 A) * (blk 3 A * blk 3 A)) :=
      (BD.one.sub hD).add ((BD.one.sub hD).mul (hD.mul hD))
    exact h1.add (h1.mul ((hD.mul hD).mul (hD.mul hD)))
  | succ s ih =>
    obtain ⟨h1, h2⟩ := ih
    refine ⟨?_, ?_⟩
    · rw [show s + 1 + 3 = s + 3 + 1 by omega, blk_succ]
      exact level_inv h1 (lev_twice hA h2)
    · rw [show s + 1 + 3 = s + 3 + 1 by omega]
      exact h2.up.sub (h2.up.mul ((lev_BD _ A).mul h2.up))

/-- In a chunk of 128 tokens four levels reach the whole matrix. -/
theorem tInv_inv (A : Mat 128) (hA : Strict A) : (1 + A) * tInv A 4 = 1 := by
  have h := (tInv_spec A hA 4).1
  have hb : blk (4 + 3) A = A := by
    ext i j
    refine if_pos ?_
    unfold Same
    have hi := i.isLt
    have hj := j.isLt
    omega
  rw [hb] at h
  exact mul_eq_one_comm.mp h

end Delta

end
-- ==== Proof.ChunkRule.lean ====
/-
  THE GATED DELTA RULE over the reals, token by token, and a chunk of it at once: with `U` the solution of the chunk's
  unit lower triangular system, the state after the chunk and the outputs in it have closed forms. Nothing here is about
  a program.
-/
module

public import proofs.«01_k».proof.Proof.BlockInverse
public import Mathlib.Analysis.SpecialFunctions.Exp
public import Mathlib.Tactic.Ring
public import Mathlib.Tactic.LinearCombination

@[expose] public section

noncomputable section

namespace Delta

open Matrix

/-- What one token brings to one head: query, key, value, write strength, log decay. -/
structure Tok where
  q : Fin 128 → ℝ
  k : Fin 128 → ℝ
  v : Fin 256 → ℝ
  b : ℝ
  g : ℝ

/-- A head's state. -/
abbrev St : Type := Fin 128 → Fin 256 → ℝ

/-- What a token writes: the value less what the decayed state already answers to its key, times the write strength. -/
def Tok.new (t : Tok) (S : St) (e : Fin 256) : ℝ := t.b * (t.v e - ∑ d, t.k d * (Real.exp t.g * S d e))

/-- The state after a token. -/
def Tok.step (t : Tok) (S : St) : St := fun d e => Real.exp t.g * S d e + t.k d * t.new S e

/-- The output of a token, from the state after it. -/
def Tok.out (t : Tok) (S : St) (e : Fin 256) : ℝ := ∑ d, t.q d * S d e

/-- The state after the first `n` tokens of a sequence. -/
def run (x : ℕ → Tok) (S : St) : ℕ → St
  | 0 => S
  | n + 1 => (x n).step (run x S n)

theorem run_add (x : ℕ → Tok) (S : St) (a n : ℕ) : run x S (a + n) = run (fun i => x (a + i)) (run x S a) n := by
  induction n with
  | zero => rfl
  | succ n ih => rw [← Nat.add_assoc, run, ih, run]

section chunk

variable (x : Fin 128 → Tok) (S : St)

/-- The log decay from the chunk's start up to and with a token. -/
def gcum (t : Fin 128) : ℝ := ∑ s, if s ≤ t then (x s).g else 0

/-- The keys' products. -/
def kk (t s : Fin 128) : ℝ := ∑ d, (x t).k d * (x s).k d

/-- The queries' products with the keys. -/
def qk (t s : Fin 128) : ℝ := ∑ d, (x t).q d * (x s).k d

/-- The decay between two tokens, zero against time. -/
def dec (t s : Fin 128) : ℝ := if s ≤ t then Real.exp (gcum x t - gcum x s) else 0

/-- The chunk's strictly lower triangular matrix. -/
def amat : Mat 128 := fun t s => if s < t then (x t).b * kk x t s * dec x t s else 0

/-- The solution matrix applied to the keys and to the values. -/
def wmat (T : Mat 128) (t : Fin 128) (d : Fin 128) : ℝ := ∑ s, T t s * ((x s).b * Real.exp (gcum x s) * (x s).k d)
def umat (T : Mat 128) (t : Fin 128) (e : Fin 256) : ℝ := ∑ s, T t s * ((x s).b * (x s).v e)

/-- What the chunk's tokens write. -/
def unew (T : Mat 128) (t : Fin 128) (e : Fin 256) : ℝ := umat x T t e - ∑ d, wmat x T t d * S d e

/-- The chunk's outputs. -/
def chunkOut (T : Mat 128) (t : Fin 128) (e : Fin 256) : ℝ :=
  (∑ d, ((x t).q d * Real.exp (gcum x t)) * S d e) + ∑ s, (qk x t s * dec x t s) * unew x S T s e

/-- The state after the chunk. -/
def chunkState (T : Mat 128) : St := fun d e =>
  Real.exp (gcum x 127) * S d e + ∑ s, ((x s).k d * Real.exp (gcum x 127 - gcum x s)) * unew x S T s e

theorem amat_strict : Strict (amat x) := by
  intro i j h
  by_contra h'
  exact h (if_neg h')

/-- The right side of the chunk's system. -/
def rhs (t : Fin 128) (e : Fin 256) : ℝ :=
  (x t).b * (x t).v e - (x t).b * Real.exp (gcum x t) * ∑ d, (x t).k d * S d e

theorem unew_eq (T : Mat 128) (t : Fin 128) (e : Fin 256) : unew x S T t e = ∑ s, T t s * rhs x S s e := by
  unfold unew umat wmat rhs
  have : ∀ d, (∑ s, T t s * ((x s).b * Real.exp (gcum x s) * (x s).k d)) * S d e
      = ∑ s, T t s * ((x s).b * Real.exp (gcum x s) * ((x s).k d * S d e)) := by
    intro d
    rw [Finset.sum_mul]
    exact Finset.sum_congr rfl fun s _ => by ring
  rw [Finset.sum_congr rfl fun d _ => this d, Finset.sum_comm, ← Finset.sum_sub_distrib]
  refine Finset.sum_congr rfl fun s _ => ?_
  rw [mul_sub, Finset.mul_sum, Finset.mul_sum]

/-- `U` solves the chunk's system. -/
theorem unew_solves {T : Mat 128} (hT : (1 + amat x) * T = 1) (t : Fin 128) (e : Fin 256) :
    unew x S T t e + ∑ s, amat x t s * unew x S T s e = rhs x S t e := by
  have hU : ∀ t, unew x S T t e = (T *ᵥ fun s => rhs x S s e) t := fun t => unew_eq x S T t e
  have h1 : ((1 + amat x) * T) *ᵥ (fun s => rhs x S s e) = fun s => rhs x S s e := by rw [hT, Matrix.one_mulVec]
  rw [← Matrix.mulVec_mulVec, Matrix.add_mulVec, Matrix.one_mulVec] at h1
  have h2 := congrFun h1 t
  rw [Pi.add_apply, ← hU] at h2
  rw [← h2]
  congr 1
  change _ = ∑ s, amat x t s * (T *ᵥ fun s => rhs x S s e) s
  exact Finset.sum_congr rfl fun s _ => by rw [hU]

/-- The log decay before the token `n`. -/
def gpre (n : ℕ) : ℝ := ∑ s : Fin 128, if s.val < n then (x s).g else 0

theorem gpre_succ (t : Fin 128) : gpre x (t.val + 1) = gcum x t := by
  unfold gpre gcum
  exact Finset.sum_congr rfl fun s _ => by simp only [Nat.lt_succ_iff, Fin.le_def]

theorem sum_lt_succ (f : Fin 128 → ℝ) (t : Fin 128) :
    (∑ s : Fin 128, if s.val < t.val + 1 then f s else 0) = (∑ s : Fin 128, if s.val < t.val then f s else 0) + f t := by
  have : ∀ s : Fin 128, (if s.val < t.val + 1 then f s else 0)
      = (if s.val < t.val then f s else 0) + (if s = t then f t else 0) := by
    intro s
    by_cases h : s = t
    · subst h; simp
    · have hv : s.val ≠ t.val := fun h' => h (Fin.ext h')
      by_cases h2 : s.val < t.val
      · simp [h, h2, Nat.lt_succ_of_lt h2]
      · have h3 : ¬ s.val < t.val + 1 := by omega
        rw [if_neg h3, if_neg h2, if_neg h, add_zero]
  rw [Finset.sum_congr rfl fun s _ => this s, Finset.sum_add_distrib]
  congr 1
  simp

theorem gcum_pre (t : Fin 128) : gcum x t = gpre x t.val + (x t).g := by
  rw [← gpre_succ]; exact sum_lt_succ (fun s => (x s).g) t

/-- The state before the token `n` of the chunk, in closed form. -/
def closed (U : Fin 128 → Fin 256 → ℝ) (n : ℕ) : St := fun d e =>
  Real.exp (gpre x n) * S d e
    + ∑ s : Fin 128, if s.val < n then Real.exp (gpre x n - gcum x s) * ((x s).k d * U s e) else 0

/-- The closed form after a token, from the decay up to and with it. -/
theorem closed_succ (U : Fin 128 → Fin 256 → ℝ) (t : Fin 128) (d : Fin 128) (e : Fin 256) :
    closed x S U (t.val + 1) d e = Real.exp (x t).g * closed x S U t.val d e + (x t).k d * U t e := by
  unfold closed
  rw [sum_lt_succ (fun s => Real.exp (gpre x (t.val + 1) - gcum x s) * ((x s).k d * U s e)) t, gpre_succ, sub_self,
    Real.exp_zero, one_mul, mul_add, ← mul_assoc, ← Real.exp_add, add_comm (x t).g, ← gcum_pre, Finset.mul_sum, add_assoc]
  congr 2
  refine Finset.sum_congr rfl fun s _ => ?_
  by_cases h : s.val < t.val
  · rw [if_pos h, if_pos h, gcum_pre x t, show gpre x t.val + (x t).g - gcum x s = (x t).g + (gpre x t.val - gcum x s) by ring,
      Real.exp_add, mul_assoc]
  · rw [if_neg h, if_neg h, mul_zero]

/-- What a token writes, when the state before it is the closed form, is `U`. -/
theorem new_closed {T : Mat 128} (hT : (1 + amat x) * T = 1) (t : Fin 128) (e : Fin 256) :
    (x t).new (closed x S (unew x S T) t.val) e = unew x S T t e := by
  have h := unew_solves x S hT t e
  have hk : ∑ d, (x t).k d * (Real.exp (x t).g * closed x S (unew x S T) t.val d e)
      = Real.exp (gcum x t) * (∑ d, (x t).k d * S d e)
        + ∑ s : Fin 128, if s.val < t.val then Real.exp (gcum x t - gcum x s) * (kk x t s * unew x S T s e) else 0 := by
    have h1 : ∀ d, (x t).k d * (Real.exp (x t).g * closed x S (unew x S T) t.val d e)
        = Real.exp (gcum x t) * ((x t).k d * S d e)
          + ∑ s : Fin 128, if s.val < t.val then
              Real.exp (gcum x t - gcum x s) * ((x t).k d * (x s).k d * unew x S T s e) else 0 := by
      intro d
      unfold closed
      rw [gcum_pre x t, Real.exp_add, mul_add, mul_add, Finset.mul_sum, Finset.mul_sum]
      congr 1
      · ring
      · refine Finset.sum_congr rfl fun s _ => ?_
        by_cases hs : s.val < t.val
        · rw [if_pos hs, if_pos hs, show gpre x t.val + (x t).g - gcum x s = (x t).g + (gpre x t.val - gcum x s) by ring,
            Real.exp_add]
          ring
        · rw [if_neg hs, if_neg hs, mul_zero, mul_zero]
    rw [Finset.sum_congr rfl fun d _ => h1 d, Finset.sum_add_distrib, ← Finset.mul_sum, Finset.sum_comm]
    congr 1
    refine Finset.sum_congr rfl fun s _ => ?_
    by_cases hs : s.val < t.val
    · simp only [if_pos hs]
      rw [← Finset.mul_sum]; unfold kk; rw [Finset.sum_mul]
    · simp only [if_neg hs, Finset.sum_const_zero]
  unfold Tok.new
  rw [hk]
  have ha : ∑ s, amat x t s * unew x S T s e
      = (x t).b * ∑ s : Fin 128, if s.val < t.val then Real.exp (gcum x t - gcum x s) * (kk x t s * unew x S T s e) else 0 := by
    rw [Finset.mul_sum]
    refine Finset.sum_congr rfl fun s _ => ?_
    unfold amat dec
    by_cases hs : s < t
    · rw [if_pos hs, if_pos hs.le, if_pos (Fin.lt_def.mp hs)]; ring
    · rw [if_neg hs, if_neg (fun h' => hs (Fin.lt_def.mpr h')), zero_mul, mul_zero]
  rw [ha] at h
  unfold rhs at h
  linear_combination (-1 : ℝ) * h

/-- THE CHUNK'S STATES: token by token is the closed form. -/
theorem run_closed {T : Mat 128} (hT : (1 + amat x) * T = 1) (y : ℕ → Tok) (hy : ∀ t : Fin 128, y t.val = x t) :
    ∀ n, n ≤ 128 → run y S n = closed x S (unew x S T) n
  | 0, _ => by
    funext d e
    simp [run, closed, gpre]
  | n + 1, hn => by
    have ih := run_closed hT y hy n (by omega)
    have ht := hy ⟨n, hn⟩
    funext d e
    rw [run, ih]
    have h1 := closed_succ x S (unew x S T) ⟨n, hn⟩ d e
    have h2 := new_closed x S hT ⟨n, hn⟩ e
    simp only at h1 h2 ht
    rw [h1, ht]
    unfold Tok.step
    rw [h2]

theorem run_chunk {T : Mat 128} (hT : (1 + amat x) * T = 1) (y : ℕ → Tok) (hy : ∀ t : Fin 128, y t.val = x t) :
    run y S 128 = chunkState x S T := by
  rw [run_closed x S hT y hy 128 le_rfl]
  funext d e
  unfold closed chunkState
  rw [show gpre x 128 = gcum x 127 from gpre_succ x 127]
  congr 1
  refine Finset.sum_congr rfl fun s _ => ?_
  rw [if_pos s.isLt]; ring

theorem out_chunk {T : Mat 128} (hT : (1 + amat x) * T = 1) (y : ℕ → Tok) (hy : ∀ t : Fin 128, y t.val = x t)
    (t : Fin 128) (e : Fin 256) : (x t).out (run y S (t.val + 1)) e = chunkOut x S T t e := by
  rw [run_closed x S hT y hy (t.val + 1) t.isLt]
  unfold Tok.out closed chunkOut
  rw [gpre_succ]
  have h1 : ∀ d, (x t).q d * (Real.exp (gcum x t) * S d e
        + ∑ s : Fin 128, if s.val < t.val + 1 then Real.exp (gcum x t - gcum x s) * ((x s).k d * unew x S T s e) else 0)
      = (x t).q d * Real.exp (gcum x t) * S d e
        + ∑ s : Fin 128, if s.val < t.val + 1 then
            Real.exp (gcum x t - gcum x s) * ((x t).q d * (x s).k d * unew x S T s e) else 0 := by
    intro d
    rw [mul_add, Finset.mul_sum, ← mul_assoc]
    congr 1
    refine Finset.sum_congr rfl fun s _ => ?_
    by_cases hs : s.val < t.val + 1
    · rw [if_pos hs, if_pos hs]; ring
    · rw [if_neg hs, if_neg hs, mul_zero]
  rw [Finset.sum_congr rfl fun d _ => h1 d, Finset.sum_add_distrib, Finset.sum_comm]
  congr 1
  refine Finset.sum_congr rfl fun s _ => ?_
  unfold qk dec
  by_cases hs : s.val < t.val + 1
  · simp only [if_pos hs]
    rw [if_pos (Fin.le_def.mpr (Nat.lt_succ_iff.mp hs)), ← Finset.mul_sum, ← Finset.sum_mul]; ring
  · have : ¬ s ≤ t := fun h => hs (Nat.lt_succ_of_le (Fin.le_def.mp h))
    simp [if_neg hs, if_neg this]

end chunk

end Delta

end
-- ==== Proof.Tokens.lean ====
/- What the claim says the result is: each head's tokens, read out of the operands, are run through the gated delta rule
   one by one, and each output row is divided by the root of its mean square and weighted. -/
module

public import Idealize.ShloMosaic.Lib.Pointwise
public import proofs.«01_k».proof.Proof.ChunkRule

@[expose] public section

noncomputable section

namespace Delta

open Idealize.ShloMosaic

/-- A row divided by the root of its mean square, weighted. -/
def rms (f : Fin 256 → EReal) (w : EReal) (e : Fin 256) : EReal :=
  f e * Ideal.rsqrt (Ideal.div (∑ x, f x * f x) (Ideal.ofBits FTy.f32 1132462080#32) + Ideal.ofBits FTy.f32 897988541#32) * w

section

variable (q k : Fin 4096 → Fin 8192 → EReal) (v : Fin 4096 → Fin 16384 → EReal) (gt : Fin 4096 → Fin 1024 → EReal)

/-- The operands as real numbers: token `t` of head `H` (of 64: eight batches of eight heads). -/
def gtok (H : Fin 64) (t : ℕ) : Tok where
  q d := EReal.toReal (q ⟨t % 4096, Nat.mod_lt _ (by decide)⟩ ⟨128 * H.val + d.val, by omega⟩)
  k d := EReal.toReal (k ⟨t % 4096, Nat.mod_lt _ (by decide)⟩ ⟨128 * H.val + d.val, by omega⟩)
  v e := EReal.toReal (v ⟨t % 4096, Nat.mod_lt _ (by decide)⟩ ⟨256 * H.val + e.val, by omega⟩)
  b := EReal.toReal (gt ⟨t % 4096, Nat.mod_lt _ (by decide)⟩ ⟨128 * (H.val / 8) + H.val % 8, by omega⟩)
  g := EReal.toReal (gt ⟨t % 4096, Nat.mod_lt _ (by decide)⟩ ⟨128 * (H.val / 8) + (8 + H.val % 8), by omega⟩)

/-- The result at token `r`, head `H`, lane `e`. -/
def outAt (nw : Fin 256 → EReal) (r : Fin 4096) (H : Fin 64) (e : Fin 256) : EReal :=
  rms (fun e => (((gtok q k v gt H r.val).out (run (gtok q k v gt H) 0 (r.val + 1)) e : ℝ) : EReal)) (nw e) e

end

end Delta
-- ==== Proof.Eval.lean ====
/- The pair computation over the reals: when the values a pair of heads loads are real numbers, every vector of the
   computation holds real numbers, and they are the ones the chunk rule names. -/
module

public import Idealize.ShloMosaic.Lib.Pointwise
public import Idealize.ShloMosaic.Lib.WordCmp
public import proofs.«01_k».proof.Proof.Pair
public import proofs.«01_k».proof.Proof.Tokens

@[expose] public section

noncomputable section

namespace Cert.KernelIdeal.Gen.Pair

open Idealize.ShloMosaic Idealize.SL.Sem
open Idealize.ShloMosaic.WordCmp
open Delta (Mat Tok St rms)

/-- Lane `j` of head `i` of a pair block of keys, and of a pair block of values. -/
def pk (i : Fin 2) (j : Fin 128) : Fin 256 := ⟨128 * i.val + j.val, by omega⟩
def pv (i : Fin 2) (j : Fin 256) : Fin 512 := ⟨256 * i.val + j.val, by omega⟩

theorem fin2 (i : Fin 2) : i = 0 ∨ i = 1 := by omega

theorem sum_pk {M : Type} [AddCommMonoid M] (f : Fin 256 → M) : ∑ x, f x = ∑ a : Fin 2, ∑ s : Fin 128, f (pk a s) := by
  rw [← (finProdFinEquiv (m := 2) (n := 128)).sum_comp, Fintype.sum_prod_type]
  refine Finset.sum_congr rfl fun a _ => Finset.sum_congr rfl fun s _ => congrArg f (Fin.ext ?_)
  simp [pk, finProdFinEquiv, add_comm]

theorem coe_sum {n : ℕ} (f : Fin n → ℝ) : ((∑ i, f i : ℝ) : EReal) = ∑ i, (f i : EReal) :=
  map_sum (⟨⟨fun r : ℝ => (r : EReal), rfl⟩, EReal.coe_add⟩ : ℝ →+ EReal) f Finset.univ

/-! ## The masks -/

theorem sel_ofBool {α : Type} (P : Prop) [Decidable P] (a b : α) :
    Scalar.select (BitVec.ofBool (decide P)) a b = if P then a else b := by
  by_cases h : P <;> simp [h, Scalar.select]

theorem row_at (r : Fin 128) (l : Fin 256) : row (ix2 r l) = BitVec.ofNat 32 r.val := by
  pointwise [row]

theorem col_at (r : Fin 128) (i : Fin 2) (j : Fin 128) : col (ix2 r (pk i j)) = BitVec.ofNat 32 j.val := by
  pointwise [col]
  revert i j
  decide +kernel

theorem lane_lt : ∀ (i : Fin 2) (j : Fin 128),
    IntOp.cmpi .slt (BitVec.ofNat 32 (pk i j).val) 128#32 = BitVec.ofBool (decide (i = 0)) := by
  decide +kernel

theorem lane_ge : ∀ (i : Fin 2) (j : Fin 128),
    IntOp.cmpi .sge (BitVec.ofNat 32 (pk i j).val) 128#32 = BitVec.ofBool (decide (i = 1)) := by
  decide +kernel

theorem causal_at (r : Fin 128) (i : Fin 2) (j : Fin 128) : causal (ix2 r (pk i j)) = BitVec.ofBool (decide (j ≤ r)) := by
  show IntOp.cmpi .sge (row _) (col _) = _
  rw [row_at, col_at, cmpi_sge_ofNat (by omega) (by omega)]
  rfl

theorem strict_at (r : Fin 128) (i : Fin 2) (j : Fin 128) : strict (ix2 r (pk i j)) = BitVec.ofBool (decide (j < r)) := by
  show IntOp.cmpi .sgt (row _) (col _) = _
  rw [row_at, col_at, cmpi_sgt_ofNat (by omega) (by omega)]
  rfl

theorem shr_at : ∀ (s : Fin 8) (a : Fin 128),
    IntOp.shrsi .vector (BitVec.ofNat 32 a.val) (BitVec.ofNat 32 s.val) = BitVec.ofNat 32 (a.val / 2 ^ s.val) := by
  decide +kernel

theorem same_at (s : Fin 8) (r : Fin 128) (i : Fin 2) (j : Fin 128) :
    same (BitVec.ofNat 32 s.val) (ix2 r (pk i j)) = BitVec.ofBool (decide (Delta.Same s.val r j)) := by
  show IntOp.cmpi .eq (IntOp.shrsi .vector (row _) _) (IntOp.shrsi .vector (col _) _) = _
  have h : ∀ a : Fin 128, a.val / 2 ^ s.val < 2 ^ 32 := fun a => lt_of_le_of_lt (Nat.div_le_self _ _) (by omega)
  rw [row_at, col_at]
  show IntOp.cmpi .eq (IntOp.shrsi .vector _ (BitVec.ofNat 32 s.val)) (IntOp.shrsi .vector _ (BitVec.ofNat 32 s.val)) = _
  rw [shr_at, shr_at, cmpi_eq_ofNat (h r) (h j)]
  rfl

theorem level_at (s : Fin 7) (r : Fin 128) (i : Fin 2) (j : Fin 128) :
    level (BitVec.ofNat 32 (s.val + 1)) (BitVec.ofNat 32 s.val) (ix2 r (pk i j))
      = BitVec.ofBool (decide (Delta.Same (s.val + 1) r j ∧ ¬ Delta.Same s.val r j)) := by
  show IntOp.andi (same (BitVec.ofNat 32 (s.val + 1)) _) (IntOp.xori (same (BitVec.ofNat 32 s.val) _) 1#1) = _
  rw [same_at ⟨s.val + 1, by omega⟩, same_at ⟨s.val, by omega⟩]
  by_cases h1 : Delta.Same (s.val + 1) r j <;> by_cases h2 : Delta.Same s.val r j <;> simp [h1, h2] <;> rfl

/-! ## Pair blocks of real matrices -/

/-- A pair block holds two real matrices. -/
def Pr {φ : FTy} (x : FVec Ideal S128x256 φ) (X : Fin 2 → Mat 128) : Prop :=
  ∀ (r : Fin 128) (i : Fin 2) (j : Fin 128), x (ix2 r (pk i j)) = ((X i r j : ℝ) : EReal)

theorem keep_pr {c : IVec S128x256 1} {x : FVec Ideal S128x256 .f32} {X : Fin 2 → Mat 128} (P : Fin 128 → Fin 128 → Prop)
    [∀ r j, Decidable (P r j)] (hc : ∀ r i j, c (ix2 r (pk i j)) = BitVec.ofBool (decide (P r j))) (hx : Pr x X) :
    Pr (keep c x) (fun i r j => if P r j then X i r j else 0) := by
  intro r i j
  pointwise [keep]
  rw [hc, sel_ofBool, hx r i j]
  split <;> rfl

theorem bdiag_at (x : FVec Ideal S128x256 .bf16) (a i : Fin 2) (s j : Fin 128) :
    bdiag x (ix2 (pk a s) (pk i j)) = if a = i then x (ix2 s (pk i j)) else 0 := by
  pointwise [bdiag, lane]
  simp only [lane_lt, lane_ge, sel_ofBool]
  fin_cases a <;> fin_cases i <;> simp [pk]

theorem mm_pr {x y : FVec Ideal S128x256 .f32} {X Y : Fin 2 → Mat 128} (hx : Pr x X) (hy : Pr y Y) :
    Pr (mm x y) (fun i => X i * Y i) := by
  intro r i j
  pointwise [mm]
  rw [sum_pk, Matrix.mul_apply, coe_sum]
  rw [Finset.sum_eq_single i]
  · refine Finset.sum_congr rfl fun s _ => ?_
    rw [bdiag_at, if_pos rfl, EReal.coe_mul, ← hx r i s, ← hy s i j]
    rfl
  · intro a _ ha
    refine Finset.sum_eq_zero fun s _ => ?_
    rw [bdiag_at, if_neg ha, mul_zero]
  · simp

theorem sub_pr {x y : FVec Ideal S128x256 .f32} {X Y : Fin 2 → Mat 128} (hx : Pr x X) (hy : Pr y Y) :
    Pr (subf x y) (fun i => X i - Y i) := by
  intro r i j
  pointwise
  rw [hx r i j, hy r i j]
  rfl

theorem add_pr {x y : FVec Ideal S128x256 .f32} {X Y : Fin 2 → Mat 128} (hx : Pr x X) (hy : Pr y Y) :
    Pr (addf x y) (fun i => X i + Y i) := by
  intro r i j
  pointwise
  rw [hx r i j, hy r i j]
  rfl

theorem mul_pr {x y : FVec Ideal S128x256 .f32} {X Y : Fin 2 → Mat 128} (hx : Pr x X) (hy : Pr y Y) :
    Pr (mulf x y) (fun i r j => X i r j * Y i r j) := by
  intro r i j
  pointwise
  rw [hx r i j, hy r i j]
  rfl

theorem eye_pr : Pr (eye (F := Ideal)) (fun _ => 1) := by
  intro r i j
  pointwise [eye]
  rw [row_at, col_at, cmpi_eq_ofNat (by omega) (by omega), Matrix.one_apply]
  by_cases h : r = j
  · subst h
    simp
    show (((1#32 : BitVec 32).toInt : ℝ) : EReal) = 1
    simp
  · have : r.val ≠ j.val := fun h' => h (Fin.ext h')
    simp [h, this]
    show (((0#32 : BitVec 32).toInt : ℝ) : EReal) = 0
    simp

theorem tInv0_pr {a : FVec Ideal S128x256 .f32} {A : Fin 2 → Mat 128} (ha : Pr a A) :
    Pr (tInv0 a) (fun i => Delta.tInv (A i) 0) := by
  have hd : Pr (keep (same 3#32) a) (fun i => Delta.blk 3 (A i)) :=
    keep_pr (Delta.Same 3) (fun r i j => same_at 3 r i j) ha
  have h1 := add_pr (sub_pr eye_pr hd) (mm_pr (sub_pr eye_pr hd) (mm_pr hd hd))
  exact add_pr h1 (mm_pr h1 (mm_pr (mm_pr hd hd) (mm_pr hd hd)))

theorem tStep_pr {a t : FVec Ideal S128x256 .f32} {A : Fin 2 → Mat 128} (ha : Pr a A) (n : Fin 4)
    (ht : Pr t (fun i => Delta.tInv (A i) n.val)) :
    Pr (tStep a (BitVec.ofNat 32 (n.val + 4)) (BitVec.ofNat 32 (n.val + 3)) t) (fun i => Delta.tInv (A i) (n.val + 1)) := by
  have hl : Pr (keep (level (BitVec.ofNat 32 (n.val + 4)) (BitVec.ofNat 32 (n.val + 3))) a)
      (fun i => Delta.lev (n.val + 3) (A i)) :=
    keep_pr (fun r j => Delta.Same (n.val + 3 + 1) r j ∧ ¬ Delta.Same (n.val + 3) r j)
      (fun r i j => level_at ⟨n.val + 3, by omega⟩ r i j) ha
  exact sub_pr ht (mm_pr ht (mm_pr hl ht))

theorem tInv_pr {a : FVec Ideal S128x256 .f32} {A : Fin 2 → Mat 128} (ha : Pr a A) :
    Pr (tInv a) (fun i => Delta.tInv (A i) 4) :=
  tStep_pr ha 3 (tStep_pr ha 2 (tStep_pr ha 1 (tStep_pr ha 0 (tInv0_pr ha))))

/-! ## The gates -/

/-- Two columns hold real numbers, and two rows do. -/
def Cl (c0 c1 : FVec Ideal S128x1 .f32) (C : Fin 2 → Fin 128 → ℝ) : Prop :=
  ∀ r : Fin 128, c0 (ix2 r 0) = ((C 0 r : ℝ) : EReal) ∧ c1 (ix2 r 0) = ((C 1 r : ℝ) : EReal)

def Rl (c0 c1 : FVec Ideal S1x128 .f32) (C : Fin 2 → Fin 128 → ℝ) : Prop :=
  ∀ r : Fin 128, c0 (ix2 0 r) = ((C 0 r : ℝ) : EReal) ∧ c1 (ix2 0 r) = ((C 1 r : ℝ) : EReal)

theorem cols_pr {c0 c1 : FVec Ideal S128x1 .f32} {C : Fin 2 → Fin 128 → ℝ} (h : Cl c0 c1 C) :
    Pr (cols c0 c1) (fun i r _ => C i r) := by
  intro r i j
  pointwise [cols]
  fin_cases i <;> simp [pk, h r]

/-- A pair block of values holds two real matrices. -/
def Pv {φ : FTy} (x : FVec Ideal S128x512 φ) (X : Fin 2 → Fin 128 → Fin 256 → ℝ) : Prop :=
  ∀ (r : Fin 128) (i : Fin 2) (e : Fin 256), x (ix2 r (pv i e)) = ((X i r e : ℝ) : EReal)

theorem colsV_pv {c0 c1 : FVec Ideal S128x1 .f32} {C : Fin 2 → Fin 128 → ℝ} (h : Cl c0 c1 C) :
    Pv (colsV c0 c1) (fun i r _ => C i r) := by
  intro r i j
  pointwise [colsV]
  fin_cases i <;> simp [pv, h r]

theorem gam_pr {c0 c1 : FVec Ideal S128x1 .f32} {C : Fin 2 → Fin 128 → ℝ} (h : Cl c0 c1 C) :
    Pr (gam c0 c1) (fun i r _ => Real.exp (C i r)) := by
  intro r i j
  pointwise [gam]
  rw [cols_pr h r i j]
  rfl

theorem decay_pr {g0 g1 : FVec Ideal S128x1 .f32} {r0 r1 : FVec Ideal S1x128 .f32} {C : Fin 2 → Fin 128 → ℝ}
    (h : Cl g0 g1 C) (h' : Rl r0 r1 C) :
    Pr (decay g0 g1 r0 r1) (fun i r j => if j ≤ r then Real.exp (C i r - C i j) else 0) := by
  refine keep_pr (X := fun i r j => Real.exp (C i r - C i j)) (fun r j => j ≤ r) causal_at ?_
  intro r i j
  pointwise
  fin_cases i
  · simp only [pk, h r, h' j]
    simp [h' j]
    rw [← EReal.coe_sub]; rfl
  · simp only [pk, h r, h' j]
    simp [h' j]
    rw [← EReal.coe_sub]; rfl

/-! ## The products with the keys -/

theorem prods_at {q k : FVec Ideal S128x256 .bf16} {Q K : Fin 2 → Mat 128} (hq : Pr q Q) (hk : Pr k K)
    (a i : Fin 2) (s j : Fin 128) :
    prods (F := Ideal) q k (ix2 (pk a s) (pk i j))
      = ((∑ d, (if a = 0 then Q i s d else K i s d) * K i j d : ℝ) : EReal) := by
  pointwise [prods]
  rw [sum_pk, coe_sum, Finset.sum_eq_single i]
  · refine Finset.sum_congr rfl fun d _ => ?_
    rw [bdiag_at, show (if i = i then k (ix2 j (pk i d)) else 0) = ((K i j d : ℝ) : EReal) from
      (if_pos rfl).trans (hk j i d), EReal.coe_mul]
    refine congrArg₂ (· * ·) ?_ rfl
    obtain rfl | rfl := fin2 a
    · have h : (pk 0 s).val = s.val := by simp [pk]
      rw [dif_pos (by omega), if_pos rfl, ← hq s i d]
      exact congrArg q (congrArg (fun a => ix2 a (pk i d)) (Fin.ext h))
    · have h : (pk 1 s).val = 128 + s.val := by simp [pk]
      have h' : (⟨(pk 1 s).val - 128, by omega⟩ : Fin 128) = s := Fin.ext (show (pk 1 s).val - 128 = s.val by omega)
      rw [dif_neg (by omega)]
      refine (congrArg k (congrArg (fun a => ix2 a (pk i d)) h')).trans ((hk s i d).trans ?_)
      rw [if_neg (by decide)]
  · intro b _ hb
    refine Finset.sum_eq_zero fun d _ => ?_
    rw [bdiag_at, if_neg (Ne.symm hb), mul_zero]
  · simp

theorem qk_pr {q k : FVec Ideal S128x256 .bf16} {D : FVec Ideal S128x256 .f32} {Q K E : Fin 2 → Mat 128}
    (hq : Pr q Q) (hk : Pr k K) (hD : Pr D E) :
    Pr (qk q k D) (fun i r j => (∑ d, Q i r d * K i j d) * E i r j) := by
  refine mul_pr (X := fun i r j => ∑ d, Q i r d * K i j d) ?_ hD
  intro r i j
  pointwise
  rw [show (⟨r.val, by omega⟩ : Fin 256) = pk 0 r from Fin.ext (by simp [pk]), prods_at hq hk]
  rfl

theorem amat_pr {q k : FVec Ideal S128x256 .bf16} {b0 b1 : FVec Ideal S128x1 .f32} {D : FVec Ideal S128x256 .f32}
    {Q K E : Fin 2 → Mat 128} {B : Fin 2 → Fin 128 → ℝ} (hq : Pr q Q) (hk : Pr k K) (hb : Cl b0 b1 B) (hD : Pr D E) :
    Pr (amat q k b0 b1 D) (fun i r j => if j < r then B i r * (∑ d, K i r d * K i j d) * E i r j else 0) := by
  refine keep_pr (X := fun i r j => B i r * (∑ d, K i r d * K i j d) * E i r j) (fun r j => j < r) strict_at ?_
  refine mul_pr (X := fun i r j => B i r * (∑ d, K i r d * K i j d))
    (mul_pr (X := fun i r _ => B i r) (Y := fun i r j => ∑ d, K i r d * K i j d) (cols_pr hb) ?_) hD
  intro r i j
  pointwise
  rw [show (⟨128 + r.val, by omega⟩ : Fin 256) = pk 1 r from Fin.ext (by simp [pk]), prods_at hq hk]
  rfl

/-! ## The inverse applied to keys and values -/

theorem rw_pr {k : FVec Ideal S128x256 .bf16} {b0 b1 : FVec Ideal S128x1 .f32} {G : FVec Ideal S128x256 .f32}
    {K E : Fin 2 → Mat 128} {B : Fin 2 → Fin 128 → ℝ} (hk : Pr k K) (hb : Cl b0 b1 B) (hG : Pr G E) :
    Pr (rw k b0 b1 G) (fun i r d => B i r * E i r d * K i r d) := by
  intro r i j
  pointwise [rw]
  rw [cols_pr hb r i j, hG r i j, hk r i j]
  rfl

theorem ru_pv {v : FVec Ideal S128x512 .bf16} {b0 b1 : FVec Ideal S128x1 .f32}
    {V : Fin 2 → Fin 128 → Fin 256 → ℝ} {B : Fin 2 → Fin 128 → ℝ} (hv : Pv v V) (hb : Cl b0 b1 B) :
    Pv (ru v b0 b1) (fun i r e => B i r * V i r e) := by
  intro r i j
  pointwise [ru]
  rw [colsV_pv hb r i j, hv r i j]
  rfl

/-- The columns of the weighted keys and of the weighted values of a head. -/
def l1 (i : Fin 2) (d : Fin 128) : Fin 768 := ⟨128 * i.val + d.val, by omega⟩
def l2 (i : Fin 2) (e : Fin 256) : Fin 768 := ⟨256 + (256 * i.val + e.val), by omega⟩

theorem wu_at1 {t : FVec Ideal S128x256 .f32} {w : FVec Ideal S128x256 .bf16} {u : FVec Ideal S128x512 .bf16}
    {T W : Fin 2 → Mat 128} (ht : Pr t T) (hw : Pr w W) (r : Fin 128) (i : Fin 2) (d : Fin 128) :
    wu t w u (ix2 r (l1 i d)) = ((∑ s, T i r s * W i s d : ℝ) : EReal) := by
  pointwise [wu]
  rw [coe_sum]
  obtain rfl | rfl := fin2 i
  · have hL : (l1 0 d).val = d.val := by simp [l1]
    refine (congrArg₂ (· + ·) (Finset.sum_congr rfl fun s _ => ?_) (Finset.sum_eq_zero fun s _ => ?_)).trans (add_zero _)
    · rw [EReal.coe_mul, ← ht r 0 s, ← hw s 0 d, dif_pos (by omega)]
      exact congrArg₂ (· * ·) (congrArg t (congrArg (ix2 r) (Fin.ext (by simp [pk]))))
        (congrArg w (congrArg (ix2 s) (Fin.ext (by simp [pk, hL]))))
    · rw [dif_pos (by omega), mul_zero]
  · have hL : (l1 1 d).val = 128 + d.val := by simp [l1]
    refine (congrArg₂ (· + ·) (Finset.sum_eq_zero fun s _ => ?_) (Finset.sum_congr rfl fun s _ => ?_)).trans (zero_add _)
    · rw [dif_neg (by omega), dif_pos (by omega), mul_zero]
    · rw [EReal.coe_mul, ← ht r 1 s, ← hw s 1 d, dif_neg (by omega), dif_pos (by omega)]
      exact congrArg₂ (· * ·) (congrArg t (congrArg (ix2 r) (Fin.ext (by simp [pk]))))
        (congrArg w (congrArg (ix2 s) (Fin.ext (by simp [pk, hL]))))

theorem wu_at2 {t : FVec Ideal S128x256 .f32} {w : FVec Ideal S128x256 .bf16} {u : FVec Ideal S128x512 .bf16}
    {T : Fin 2 → Mat 128} {U : Fin 2 → Fin 128 → Fin 256 → ℝ} (ht : Pr t T) (hu : Pv u U)
    (r : Fin 128) (i : Fin 2) (e : Fin 256) :
    wu t w u (ix2 r (l2 i e)) = ((∑ s, T i r s * U i s e : ℝ) : EReal) := by
  pointwise [wu]
  rw [coe_sum]
  obtain rfl | rfl := fin2 i
  · have hL : (l2 0 e).val = 256 + e.val := by simp [l2]
    refine (congrArg₂ (· + ·) (Finset.sum_congr rfl fun s _ => ?_) (Finset.sum_eq_zero fun s _ => ?_)).trans (add_zero _)
    · rw [EReal.coe_mul, ← ht r 0 s, ← hu s 0 e, dif_neg (by omega), dif_neg (by omega), dif_pos (by omega)]
      exact congrArg₂ (· * ·) (congrArg t (congrArg (ix2 r) (Fin.ext (by simp [pk]))))
        (congrArg u (congrArg (ix2 s) (Fin.ext (by simp [pv, hL]; omega))))
    · rw [dif_neg (by omega), dif_neg (by omega), dif_pos (by omega), mul_zero]
  · have hL : (l2 1 e).val = 512 + e.val := by simp [l2]; omega
    refine (congrArg₂ (· + ·) (Finset.sum_eq_zero fun s _ => ?_) (Finset.sum_congr rfl fun s _ => ?_)).trans (zero_add _)
    · rw [dif_neg (by omega), dif_neg (by omega), dif_neg (by omega), mul_zero]
    · rw [EReal.coe_mul, ← ht r 1 s, ← hu s 1 e, dif_neg (by omega), dif_neg (by omega), dif_neg (by omega)]
      exact congrArg₂ (· * ·) (congrArg t (congrArg (ix2 r) (Fin.ext (by simp [pk]))))
        (congrArg u (congrArg (ix2 s) (Fin.ext (by simp [pv, hL]; omega))))

/-! ## The state's products, the new values, the output and the next state -/

theorem head_at {x : FVec Ideal S128x256 .f32} (r : Fin 128) (i : Fin 2) (d : Fin 128) :
    head i x (ix2 r d) = x (ix2 r (pk i d)) := by
  obtain rfl | rfl := fin2 i
  · pointwise [head]
    exact congrArg x (congrArg (ix2 r) (Fin.ext (by simp [pk])))
  · pointwise [head]
    exact congrArg x (congrArg (ix2 r) (Fin.ext (by simp [pk])))

theorem headV_at {x : FVec Ideal S128x512 .f32} (r : Fin 128) (i : Fin 2) (e : Fin 256) :
    headV i x (ix2 r e) = x (ix2 r (pv i e)) := by
  obtain rfl | rfl := fin2 i
  · pointwise [headV]
    exact congrArg x (congrArg (ix2 r) (Fin.ext (by simp [pv])))
  · pointwise [headV]
    exact congrArg x (congrArg (ix2 r) (Fin.ext (by simp [pv])))

/-- A block holds a real state. -/
def Stt (S : FVec Ideal S1x128x256 .f32) (Z : St) : Prop := ∀ d e, S (ix3 0 d e) = ((Z d e : ℝ) : EReal)

theorem ws_at1 {i : Fin 2} {q : FVec Ideal S128x256 .bf16} {G : FVec Ideal S128x256 .f32} {x : FVec Ideal S128x768 .f32}
    {S : FVec Ideal S1x128x256 .f32} {W : Mat 128} {Z : St}
    (hx : ∀ r d, x (ix2 r (l1 i d)) = ((W r d : ℝ) : EReal)) (hS : Stt S Z) (r : Fin 128) (e : Fin 256) :
    ws (F := Ideal) i q G x S (ix2 (pk 0 r) e) = ((∑ d, W r d * Z d e : ℝ) : EReal) := by
  pointwise [ws]
  rw [coe_sum]
  refine Finset.sum_congr rfl fun d _ => ?_
  rw [dif_pos (by simp [pk]), head_at, EReal.coe_mul, ← hx r d, ← hS d e]
  pointwise
  exact congrArg₂ (· * ·) (congrArg x (congr (congrArg ix2 (Fin.ext (by simp [pk]))) (Fin.ext (by simp [pk, l1])))) rfl

theorem ws_at2 {i : Fin 2} {q : FVec Ideal S128x256 .bf16} {G : FVec Ideal S128x256 .f32} {x : FVec Ideal S128x768 .f32}
    {S : FVec Ideal S1x128x256 .f32} {Q E : Fin 2 → Mat 128} {Z : St}
    (hq : Pr q Q) (hG : Pr G E) (hS : Stt S Z) (r : Fin 128) (e : Fin 256) :
    ws (F := Ideal) i q G x S (ix2 (pk 1 r) e) = ((∑ d, (Q i r d * E i r d) * Z d e : ℝ) : EReal) := by
  pointwise [ws]
  rw [coe_sum]
  refine Finset.sum_congr rfl fun d _ => ?_
  rw [dif_neg (by simp [pk]), head_at, EReal.coe_mul, ← hS d e]
  refine congrArg₂ (· * ·) ?_ rfl
  pointwise
  rw [EReal.coe_mul, ← hq r i d, ← hG r i d]
  have : (⟨(pk 1 r).val - 128, by simp [pk]⟩ : Fin 128) = r := Fin.ext (by simp [pk])
  rw [this]

theorem vnew_at {i : Fin 2} {x : FVec Ideal S128x768 .f32} {y : FVec Ideal S256x256 .f32}
    {U A : Fin 128 → Fin 256 → ℝ} (hx : ∀ r e, x (ix2 r (l2 i e)) = ((U r e : ℝ) : EReal))
    (hy : ∀ r e, y (ix2 (pk 0 r) e) = ((A r e : ℝ) : EReal)) (r : Fin 128) (e : Fin 256) :
    vnew i x y (ix2 r e) = ((U r e - A r e : ℝ) : EReal) := by
  pointwise [vnew]
  rw [headV_at, EReal.coe_sub, ← hx r e, ← hy r e]
  pointwise
  exact congrArg₂ (· - ·) (congrArg x (congrArg (ix2 r) (Fin.ext (by simp [pv, l2]))))
    (congrArg y (congrArg (fun a => ix2 a e) (Fin.ext (by simp [pk]))))

theorem out_at {i : Fin 2} {Q : FVec Ideal S128x256 .f32} {y : FVec Ideal S256x256 .f32} {n : FVec Ideal S128x256 .f32}
    {K : Fin 2 → Mat 128} {A N : Fin 128 → Fin 256 → ℝ} (hQ : Pr Q K)
    (hy : ∀ r e, y (ix2 (pk 1 r) e) = ((A r e : ℝ) : EReal))
    (hn : ∀ r e, n (ix2 r e) = ((N r e : ℝ) : EReal)) (r : Fin 128) (e : Fin 256) :
    out i Q y n (ix2 r e) = ((A r e + ∑ s, K i r s * N s e : ℝ) : EReal) := by
  pointwise [out]
  rw [EReal.coe_add, coe_sum, ← hy r e]
  refine congrArg₂ (· + ·) (congrArg y (congrArg (fun a => ix2 a e) (Fin.ext (by simp [pk])))) ?_
  refine Finset.sum_congr rfl fun s _ => ?_
  rw [head_at, hQ r i s, hn s e, EReal.coe_mul]

theorem next_at {k : FVec Ideal S128x128 .bf16} {g : FVec Ideal S128x1 .f32} {S : FVec Ideal S1x128x256 .f32}
    {n : FVec Ideal S128x256 .f32} {K : Mat 128} {C : Fin 128 → ℝ} {Z : St} {N : Fin 128 → Fin 256 → ℝ}
    (hk : ∀ s d, k (ix2 s d) = ((K s d : ℝ) : EReal)) (hg : ∀ r, g (ix2 r 0) = ((C r : ℝ) : EReal)) (hS : Stt S Z)
    (hn : ∀ r e, n (ix2 r e) = ((N r e : ℝ) : EReal)) :
    Stt (next (F := Ideal) k g S n)
      (fun d e => Real.exp (C 127) * Z d e + ∑ s, (K s d * Real.exp (C 127 - C s)) * N s e) := by
  intro d e
  pointwise [next]
  rw [hg, hS d e, EReal.coe_add, EReal.coe_mul, coe_sum]
  refine congrArg₂ (· + ·) rfl (Finset.sum_congr rfl fun s _ => ?_)
  rw [hk, hg, hn, ← EReal.coe_sub, EReal.coe_mul, EReal.coe_mul]
  rfl

/-! ## The running sums of the gates -/

theorem tri_at (r s : Fin 128) : tri (F := Ideal) (ix2 r s) = (((if s ≤ r then 1 else 0 : ℝ)) : EReal) := by
  pointwise [tri]
  rw [cmpi_sge_ofNat (by omega) (by omega)]
  by_cases h : s ≤ r
  · have : s.val ≤ r.val := h
    simp [h, this]
    show (((1#32 : BitVec 32).toInt : ℝ) : EReal) = 1
    simp
  · have : ¬ s.val ≤ r.val := h
    simp [h, this]
    show (((0#32 : BitVec 32).toInt : ℝ) : EReal) = 0
    simp

theorem eyeH_at (r s : Fin 16) : eyeH (F := Ideal) (ix2 r s) = (((if s = r then 1 else 0 : ℝ)) : EReal) := by
  pointwise [eyeH]
  rw [cmpi_eq_ofNat (by omega) (by omega)]
  by_cases h : s = r
  · subst h
    simp
    show (((1#32 : BitVec 32).toInt : ℝ) : EReal) = 1
    simp
  · have : ¬ r.val = s.val := fun h' => h (Fin.ext h'.symm)
    simp [h, this]
    show (((0#32 : BitVec 32).toInt : ℝ) : EReal) = 0
    simp

/-- A block of gate columns holds real numbers. -/
def Gt (g : FVec Ideal S128x16 .f32) (C : Fin 128 → Fin 16 → ℝ) : Prop := ∀ r l, g (ix2 r l) = ((C r l : ℝ) : EReal)

theorem rest_gt {g : FVec Ideal S128x16 .f32} {C : Fin 128 → Fin 16 → ℝ} (h : Gt g C) : Gt (rest g) (fun _ _ => 0) := by
  intro r l
  pointwise [rest, hi]
  rw [h r l, ← EReal.coe_sub, sub_self]

theorem gc_gt {g : FVec Ideal S128x16 .f32} {C : Fin 128 → Fin 16 → ℝ} (h : Gt g C) :
    Gt (gc g) (fun r l => ∑ s, if s ≤ r then C s l else 0) := by
  intro r l
  pointwise [gc, hi]
  have h1 := rest_gt h
  have h2 := rest_gt h1
  simp only [h _ _, h1 _ _, h2 _ _, EReal.coe_zero, mul_zero, Finset.sum_const_zero, add_zero]
  rw [coe_sum]
  refine Finset.sum_congr rfl fun s _ => ?_
  rw [tri_at, ← EReal.coe_mul]
  split <;> simp

theorem gct_at {g : FVec Ideal S128x16 .f32} {C : Fin 128 → Fin 16 → ℝ} (h : Gt g C) (r : Fin 128) (l : Fin 16) :
    gct g (ix2 l r) = ((C r l : ℝ) : EReal) := by
  pointwise [gct, hi]
  have h1 := rest_gt h
  have h2 := rest_gt h1
  simp only [h _ _, h1 _ _, h2 _ _, EReal.coe_zero, mul_zero, Finset.sum_const_zero, add_zero]
  rw [Finset.sum_eq_single l]
  · rw [eyeH_at, if_pos rfl, EReal.coe_one, one_mul]
  · intro b _ hb
    rw [eyeH_at, if_neg hb, EReal.coe_zero, zero_mul]
  · simp

/-! ## The norm -/

theorem norm_at {o : FVec Ideal S128x256 .f32} (nw : FVec Ideal S1x256 .f32) (r : Fin 128) (e : Fin 256) :
    norm (F := Ideal) o nw (ix2 r e) = rms (fun e => o (ix2 r e)) (nw (ix2 0 e)) e := by
  pointwise [norm]
  rfl

/-! ## One head of the pair -/

section head

variable {q k : FVec Ideal S128x256 .bf16} {v : FVec Ideal S128x512 .bf16} {b0 b1 g0 g1 : FVec Ideal S128x1 .f32}
  {r0 r1 : FVec Ideal S1x128 .f32} {S : FVec Ideal S1x128x256 .f32} {x : Fin 2 → Fin 128 → Tok} {Z : St}

/-- The values the pair loads are the tokens of its two heads. -/
structure Loads (q k : FVec Ideal S128x256 .bf16) (v : FVec Ideal S128x512 .bf16) (b0 b1 g0 g1 : FVec Ideal S128x1 .f32)
    (r0 r1 : FVec Ideal S1x128 .f32) (x : Fin 2 → Fin 128 → Tok) : Prop where
  hq : Pr q (fun i r d => (x i r).q d)
  hk : Pr k (fun i r d => (x i r).k d)
  hv : Pv v (fun i r e => (x i r).v e)
  hb : Cl b0 b1 (fun i r => (x i r).b)
  hg : Cl g0 g1 (fun i r => Delta.gcum (x i) r)
  hr : Rl r0 r1 (fun i r => Delta.gcum (x i) r)

/-- The solution matrix of a chunk. -/
def sol (x : Fin 128 → Tok) : Mat 128 := Delta.tInv (Delta.amat x) 4

theorem Loads.decay (h : Loads q k v b0 b1 g0 g1 r0 r1 x) :
    Pr (decay g0 g1 r0 r1) (fun i => Delta.dec (x i)) := decay_pr h.hg h.hr

theorem Loads.inv (h : Loads q k v b0 b1 g0 g1 r0 r1 x) :
    Pr (tInv (amat (F := Ideal) q k b0 b1 (Pair.decay g0 g1 r0 r1))) (fun i => sol (x i)) :=
  tInv_pr (A := fun i => Delta.amat (x i)) (amat_pr h.hq h.hk h.hb h.decay)

theorem Loads.w (h : Loads q k v b0 b1 g0 g1 r0 r1 x) (i : Fin 2) (r d : Fin 128) :
    wu (tInv (amat (F := Ideal) q k b0 b1 (Pair.decay g0 g1 r0 r1))) (rw (F := Ideal) k b0 b1 (gam g0 g1)) (ru (F := Ideal) v b0 b1)
      (ix2 r (l1 i d)) = ((Delta.wmat (x i) (sol (x i)) r d : ℝ) : EReal) :=
  wu_at1 h.inv (rw_pr h.hk h.hb (gam_pr h.hg)) r i d

theorem Loads.u (h : Loads q k v b0 b1 g0 g1 r0 r1 x) (i : Fin 2) (r : Fin 128) (e : Fin 256) :
    wu (tInv (amat (F := Ideal) q k b0 b1 (Pair.decay g0 g1 r0 r1))) (rw (F := Ideal) k b0 b1 (gam g0 g1)) (ru (F := Ideal) v b0 b1)
      (ix2 r (l2 i e)) = ((Delta.umat (x i) (sol (x i)) r e : ℝ) : EReal) :=
  wu_at2 h.inv (ru_pv h.hv h.hb) r i e

theorem Loads.new (h : Loads q k v b0 b1 g0 g1 r0 r1 x) (i : Fin 2) (hS : Stt S Z) (r : Fin 128) (e : Fin 256) :
    vnewOf (F := Ideal) i q k v b0 b1 g0 g1 r0 r1 S (ix2 r e)
      = ((Delta.unew (x i) Z (sol (x i)) r e : ℝ) : EReal) :=
  vnew_at (h.u i) (ws_at1 (h.w i) hS) r e

theorem Loads.y (h : Loads q k v b0 b1 g0 g1 r0 r1 x) (i : Fin 2) (hS : Stt S Z) (nw : FVec Ideal S1x256 .f32)
    (r : Fin 128) (e : Fin 256) :
    yOf (F := Ideal) i q k v b0 b1 g0 g1 r0 r1 S nw (ix2 r e)
      = rms (fun e => ((Delta.chunkOut (x i) Z (sol (x i)) r e : ℝ) : EReal)) (nw (ix2 0 e)) e := by
  refine (norm_at nw r e).trans ?_
  refine congrArg (fun f => rms f (nw (ix2 0 e)) e) (funext fun e => ?_)
  exact out_at (qk_pr h.hq h.hk h.decay) (ws_at2 h.hq (gam_pr h.hg) hS) (h.new i hS) r e

theorem Loads.next (h : Loads q k v b0 b1 g0 g1 r0 r1 x) (i : Fin 2) (hS : Stt S Z) {kh : FVec Ideal S128x128 .bf16}
    {g : FVec Ideal S128x1 .f32} (hkh : ∀ s d, kh (ix2 s d) = (((x i s).k d : ℝ) : EReal))
    (hg : ∀ r, g (ix2 r 0) = ((Delta.gcum (x i) r : ℝ) : EReal)) :
    Stt (Pair.next (F := Ideal) kh g S (vnewOf (F := Ideal) i q k v b0 b1 g0 g1 r0 r1 S))
      (Delta.chunkState (x i) Z (sol (x i))) :=
  next_at (K := fun s d => (x i s).k d) hkh hg hS (h.new i hS)

end head

end Cert.KernelIdeal.Gen.Pair
-- ==== Proof.Pieces.lean ====
/- The stores of one grid point. What each of the 32 stores into the output block and each of the 32 stores into the
   carried states holds is the pair computation of its head, at the values the point loads. -/
module

public import proofs.«01_k».proof.Proof.Pair

@[expose] public section

set_option maxRecDepth 16384

noncomputable section

namespace Cert.KernelIdeal.Gen.Pair

open Idealize.ShloMosaic Idealize.SL.Sem

variable {F : FTy → Type} [FloatOps F]

theorem slC (j : ℕ) (hj : j < 16) : S128x16.Slices ![0, j] S128x1 :=
  ⟨rfl, fun a => by fin_cases a <;> simp [S128x16, S128x1] <;> omega⟩

theorem slR (j : ℕ) (hj : j < 16) : S16x128.Slices ![j, 0] S1x128 :=
  ⟨rfl, fun a => by fin_cases a <;> simp [S16x128, S1x128] <;> omega⟩

theorem inbQ (j : ℕ) (hj : j < 16) : ∀ a, (![0, 256 * j] : Fin 2 → ℕ) a + S128x256.size a ≤ S128x4096.size a :=
  fun a => by fin_cases a <;> simp [S128x256, S128x4096] <;> omega

theorem inbK (j : ℕ) (hj : j < 32) : ∀ a, (![0, 128 * j] : Fin 2 → ℕ) a + S128x128.size a ≤ S128x4096.size a :=
  fun a => by fin_cases a <;> simp [S128x128, S128x4096] <;> omega

theorem inbV (j : ℕ) (hj : j < 16) : ∀ a, (![0, 512 * j] : Fin 2 → ℕ) a + S128x512.size a ≤ S128x8192.size a :=
  fun a => by fin_cases a <;> simp [S128x512, S128x8192] <;> omega

theorem inbG (j : ℕ) (hj : j < 4) : ∀ a, (![0, 128 * j] : Fin 2 → ℕ) a + S128x16.size a ≤ S128x512.size a :=
  fun a => by fin_cases a <;> simp [S128x16, S128x512] <;> omega

theorem inbS (j : ℕ) (hj : j < 32) :
    ∀ a, (![j, 0, 0] : Fin 3 → ℕ) a + S1x128x256.size a ≤ S32x128x256.size a :=
  fun a => by fin_cases a <;> simp [S1x128x256, S32x128x256] <;> omega

theorem inbN : ∀ a, (![0, 0] : Fin 2 → ℕ) a + S1x256.size a ≤ S1x256.size a :=
  fun a => by fin_cases a <;> simp [S1x256]

theorem inbY (j : ℕ) (hj : j < 32) : ∀ a, (![0, 256 * j] : Fin 2 → ℕ) a + S128x256.size a ≤ S128x8192.size a :=
  fun a => by fin_cases a <;> simp [S128x256, S128x8192] <;> omega

/-- Column `j` of a block of gates, and row `j` of a transposed one. -/
def cl (g : FVec F S128x16 .f32) (j : ℕ) (hj : j < 16) : FVec F S128x1 .f32 :=
  extractStridedSlice S128x1 ![0, j] g (slC j hj)

def rl (g : FVec F S16x128 .f32) (j : ℕ) (hj : j < 16) : FVec F S1x128 .f32 :=
  extractStridedSlice S1x128 ![j, 0] g (slR j hj)

section

variable (arg2 : Memref sig .tc .vmem S128x4096 .bf16) (harg2 : arg2.IsWhole) (arg3 : Memref sig .tc .vmem S128x4096 .bf16) (harg3 : arg3.IsWhole) (arg4 : Memref sig .tc .vmem S128x8192 .bf16) (harg4 : arg4.IsWhole) (arg5 : Memref sig .tc .vmem S128x512 .f32) (harg5 : arg5.IsWhole) (arg6 : Memref sig .tc .vmem S1x256 .f32) (harg6 : arg6.IsWhole) (arg8 : Memref sig .tc .vmem S32x128x256 .f32) (harg8 : arg8.IsWhole)
    (x0 : Vec F S128x4096 .bf16) (x1 : Vec F S128x4096 .bf16) (x2 : Vec F S128x8192 .bf16) (x3 : Vec F S128x512 .f32) (x4 : Vec F S1x256 .f32) (xs0 : Vec F S32x128x256 .f32)

def ldQ (j : ℕ) (hj : j < 16) : Vec F S128x256 .bf16 :=
  View.readAt (Elt F) arg2.view (Rect.unit (s := S128x4096) ![0, 256 * j] S128x256.size (inbQ j hj)).toLoadRect (harg2.unread x0)

def ldK (j : ℕ) (hj : j < 32) : Vec F S128x128 .bf16 :=
  View.readAt (Elt F) arg3.view (Rect.unit (s := S128x4096) ![0, 128 * j] S128x128.size (inbK j hj)).toLoadRect (harg3.unread x1)

def ldV (j : ℕ) (hj : j < 16) : Vec F S128x512 .bf16 :=
  View.readAt (Elt F) arg4.view (Rect.unit (s := S128x8192) ![0, 512 * j] S128x512.size (inbV j hj)).toLoadRect (harg4.unread x2)

def ldG (j : ℕ) (hj : j < 4) : Vec F S128x16 .f32 :=
  View.readAt (Elt F) arg5.view (Rect.unit (s := S128x512) ![0, 128 * j] S128x16.size (inbG j hj)).toLoadRect (harg5.unread x3)

def ldN : Vec F S1x256 .f32 :=
  View.readAt (Elt F) arg6.view (Rect.unit (s := S1x256) ![0, 0] S1x256.size inbN).toLoadRect (harg6.unread x4)

def ldS (j : ℕ) (hj : j < 32) : Vec F S1x128x256 .f32 :=
  View.readAt (Elt F) arg8.view (Rect.unit (s := S32x128x256) ![j, 0, 0] S1x128x256.size (inbS j hj)).toLoadRect (harg8.unread xs0)

/-- The stored output of head `2 * p + i` of batch `b` of the step, from the loads and a state. -/
def yAt (b p : ℕ) (i : Fin 2) (hb : b < 4) (hp : p < 4) (S : Vec F S1x128x256 .f32) : FVec F S128x256 .bf16 :=
  have g := ldG arg5 harg5 x3 b hb
  have c := gc g
  have r := gct c
  yOf i (ldQ arg2 harg2 x0 (4 * b + p) (by omega)) (ldQ arg3 harg3 x1 (4 * b + p) (by omega))
    (ldV arg4 harg4 x2 (4 * b + p) (by omega))
    (cl g (2 * p) (by omega)) (cl g (2 * p + 1) (by omega))
    (cl c (8 + 2 * p) (by omega)) (cl c (8 + (2 * p + 1)) (by omega))
    (rl r (8 + 2 * p) (by omega)) (rl r (8 + (2 * p + 1)) (by omega)) S (ldN arg6 harg6 x4)

/-- The stored state of head `2 * p + i` of batch `b` of the step, from the loads and a state. -/
def sAt (b p : ℕ) (i : Fin 2) (hb : b < 4) (hp : p < 4) (S : Vec F S1x128x256 .f32) : FVec F S1x128x256 .f32 :=
  have g := ldG arg5 harg5 x3 b hb
  have c := gc g
  have r := gct c
  next (ldK arg3 harg3 x1 (8 * b + (2 * p + i.val)) (by have := i.isLt; omega))
    (cl c (8 + (2 * p + i.val)) (by have := i.isLt; omega)) S
    (vnewOf i (ldQ arg2 harg2 x0 (4 * b + p) (by omega)) (ldQ arg3 harg3 x1 (4 * b + p) (by omega))
      (ldV arg4 harg4 x2 (4 * b + p) (by omega))
      (cl g (2 * p) (by omega)) (cl g (2 * p + 1) (by omega))
      (cl c (8 + 2 * p) (by omega)) (cl c (8 + (2 * p + 1)) (by omega))
      (rl r (8 + 2 * p) (by omega)) (rl r (8 + (2 * p + 1)) (by omega)) S)

/-- The store of head `n`'s output. -/
def pieceY (S : (n : ℕ) → n < 32 → Vec F S1x128x256 .f32) (n : Fin 32) : View.Piece (Elt F) S128x8192 .bf16 :=
  ⟨Rect.unit (s := S128x8192) ![0, 256 * n.val] S128x256.size (inbY n.val n.isLt),
    yAt arg2 harg2 arg3 harg3 arg4 harg4 arg5 harg5 arg6 harg6 x0 x1 x2 x3 x4 (n.val / 8) (n.val % 8 / 2) ⟨n.val % 2, by omega⟩ (by have := n.isLt; omega) (by omega) (S n.val n.isLt)⟩

/-- The store of head `n`'s state. -/
def pieceS (S : (n : ℕ) → n < 32 → Vec F S1x128x256 .f32) (n : Fin 32) : View.Piece (Elt F) S32x128x256 .f32 :=
  ⟨Rect.unit (s := S32x128x256) ![n.val, 0, 0] S1x128x256.size (inbS n.val n.isLt),
    sAt arg2 harg2 arg3 harg3 arg4 harg4 arg5 harg5 x0 x1 x2 x3 (n.val / 8) (n.val % 8 / 2) ⟨n.val % 2, by omega⟩ (by have := n.isLt; omega) (by omega) (S n.val n.isLt)⟩

end

/-- The states a chunk that is its sequence's first starts from. -/
def ldZ (arg8 : Memref sig .tc .vmem S32x128x256 .f32) (j : ℕ) (hj : j < 32) : Vec F S1x128x256 .f32 :=
  arg8.view.readCov [(⟨Rect.unit (s := S32x128x256) ![0, 0, 0] S32x128x256.size (fun a => by fin_cases a <;> simp), k0_pay2⟩ : View.Piece (Elt F) S32x128x256 .f32)]
    (Rect.unit (s := S32x128x256) ![j, 0, 0] S1x128x256.size (inbS j hj)).toLoadRect

theorem piecesY_B (c : Dev nD) (i : grid0.Coords) (arg2 : Memref sig .tc .vmem S128x4096 .bf16) (harg2 : arg2.IsWhole) (arg3 : Memref sig .tc .vmem S128x4096 .bf16) (harg3 : arg3.IsWhole) (arg4 : Memref sig .tc .vmem S128x8192 .bf16) (harg4 : arg4.IsWhole) (arg5 : Memref sig .tc .vmem S128x512 .f32) (harg5 : arg5.IsWhole) (arg6 : Memref sig .tc .vmem S1x256 .f32) (harg6 : arg6.IsWhole) (arg7 : Memref sig .tc .vmem S128x8192 .bf16) (harg7 : arg7.IsWhole) (arg8 : Memref sig .tc .vmem S32x128x256 .f32) (harg8 : arg8.IsWhole) (hc0 : ¬cond0_0 i)
    (x0 : Vec F S128x4096 .bf16) (x1 : Vec F S128x4096 .bf16) (x2 : Vec F S128x8192 .bf16) (x3 : Vec F S128x512 .f32) (x4 : Vec F S1x256 .f32) (xs0 : Vec F S32x128x256 .f32) :
    (kernelRun0_B c i arg2 harg2 arg3 harg3 arg4 harg4 arg5 harg5 arg6 harg6 arg7 harg7 arg8 harg8 hc0 x0 x1 x2 x3 x4 xs0).1 = (List.finRange 32).reverse.map (pieceY arg2 harg2 arg3 harg3 arg4 harg4 arg5 harg5 arg6 harg6 x0 x1 x2 x3 x4 (ldS arg8 harg8 xs0)) := rfl

theorem piecesS_B (c : Dev nD) (i : grid0.Coords) (arg2 : Memref sig .tc .vmem S128x4096 .bf16) (harg2 : arg2.IsWhole) (arg3 : Memref sig .tc .vmem S128x4096 .bf16) (harg3 : arg3.IsWhole) (arg4 : Memref sig .tc .vmem S128x8192 .bf16) (harg4 : arg4.IsWhole) (arg5 : Memref sig .tc .vmem S128x512 .f32) (harg5 : arg5.IsWhole) (arg6 : Memref sig .tc .vmem S1x256 .f32) (harg6 : arg6.IsWhole) (arg7 : Memref sig .tc .vmem S128x8192 .bf16) (harg7 : arg7.IsWhole) (arg8 : Memref sig .tc .vmem S32x128x256 .f32) (harg8 : arg8.IsWhole) (hc0 : ¬cond0_0 i)
    (x0 : Vec F S128x4096 .bf16) (x1 : Vec F S128x4096 .bf16) (x2 : Vec F S128x8192 .bf16) (x3 : Vec F S128x512 .f32) (x4 : Vec F S1x256 .f32) (xs0 : Vec F S32x128x256 .f32) :
    (kernelRun0_B c i arg2 harg2 arg3 harg3 arg4 harg4 arg5 harg5 arg6 harg6 arg7 harg7 arg8 harg8 hc0 x0 x1 x2 x3 x4 xs0).2.1 = (List.finRange 32).reverse.map (pieceS arg2 harg2 arg3 harg3 arg4 harg4 arg5 harg5 x0 x1 x2 x3 (ldS arg8 harg8 xs0)) := rfl

theorem piecesY_A (c : Dev nD) (i : grid0.Coords) (arg2 : Memref sig .tc .vmem S128x4096 .bf16) (harg2 : arg2.IsWhole) (arg3 : Memref sig .tc .vmem S128x4096 .bf16) (harg3 : arg3.IsWhole) (arg4 : Memref sig .tc .vmem S128x8192 .bf16) (harg4 : arg4.IsWhole) (arg5 : Memref sig .tc .vmem S128x512 .f32) (harg5 : arg5.IsWhole) (arg6 : Memref sig .tc .vmem S1x256 .f32) (harg6 : arg6.IsWhole) (arg7 : Memref sig .tc .vmem S128x8192 .bf16) (harg7 : arg7.IsWhole) (arg8 : Memref sig .tc .vmem S32x128x256 .f32) (harg8 : arg8.IsWhole) (hc0 : cond0_0 i)
    (x0 : Vec F S128x4096 .bf16) (x1 : Vec F S128x4096 .bf16) (x2 : Vec F S128x8192 .bf16) (x3 : Vec F S128x512 .f32) (x4 : Vec F S1x256 .f32) :
    (kernelRun0_A c i arg2 harg2 arg3 harg3 arg4 harg4 arg5 harg5 arg6 harg6 arg7 harg7 arg8 harg8 hc0 x0 x1 x2 x3 x4).1 = (List.finRange 32).reverse.map (pieceY arg2 harg2 arg3 harg3 arg4 harg4 arg5 harg5 arg6 harg6 x0 x1 x2 x3 x4 (ldZ arg8)) := rfl

theorem piecesS_A (c : Dev nD) (i : grid0.Coords) (arg2 : Memref sig .tc .vmem S128x4096 .bf16) (harg2 : arg2.IsWhole) (arg3 : Memref sig .tc .vmem S128x4096 .bf16) (harg3 : arg3.IsWhole) (arg4 : Memref sig .tc .vmem S128x8192 .bf16) (harg4 : arg4.IsWhole) (arg5 : Memref sig .tc .vmem S128x512 .f32) (harg5 : arg5.IsWhole) (arg6 : Memref sig .tc .vmem S1x256 .f32) (harg6 : arg6.IsWhole) (arg7 : Memref sig .tc .vmem S128x8192 .bf16) (harg7 : arg7.IsWhole) (arg8 : Memref sig .tc .vmem S32x128x256 .f32) (harg8 : arg8.IsWhole) (hc0 : cond0_0 i)
    (x0 : Vec F S128x4096 .bf16) (x1 : Vec F S128x4096 .bf16) (x2 : Vec F S128x8192 .bf16) (x3 : Vec F S128x512 .f32) (x4 : Vec F S1x256 .f32) :
    ∃ z, (kernelRun0_A c i arg2 harg2 arg3 harg3 arg4 harg4 arg5 harg5 arg6 harg6 arg7 harg7 arg8 harg8 hc0 x0 x1 x2 x3 x4).2.1 = (List.finRange 32).reverse.map (pieceS arg2 harg2 arg3 harg3 arg4 harg4 arg5 harg5 x0 x1 x2 x3 (ldZ arg8)) ++ [z] := ⟨_, rfl⟩

end Cert.KernelIdeal.Gen.Pair
-- ==== Proof.Block.lean ====
/- One grid point as a whole. The stores of a point, put together: at real operands the output block holds the chunk
   rule's normalised outputs of all 32 heads, and the carried block holds their states after the chunk. -/
module

public import Idealize.ShloMosaic.Lib.WholeRead
public import Idealize.ShloMosaic.Lib.Pipeline.Value
public import Idealize.ShloMosaic.Lib.Pipeline.CanonAppend
public import proofs.«01_k».proof.Proof.Eval
public import proofs.«01_k».proof.Proof.Pieces

@[expose] public section

noncomputable section

namespace Cert.KernelIdeal.Gen.Pair

open Idealize.ShloMosaic Idealize.SL.Sem
open Delta (Mat Tok St rms)

/-- Every entry is a real number. -/
def Re {s : Shape} {φ : FTy} (x : FVec Ideal s φ) : Prop := ∀ i, ((EReal.toReal (x i) : ℝ) : EReal) = x i

/-- The tokens of head `n` of a block: its 128 rows. -/
def tok (x0 x1 : FVec Ideal S128x4096 .bf16) (x2 : FVec Ideal S128x8192 .bf16) (x3 : FVec Ideal S128x512 .f32)
    (n : Fin 32) (r : Fin 128) : Tok where
  q d := EReal.toReal (x0 (ix2 r ⟨128 * n.val + d.val, by omega⟩))
  k d := EReal.toReal (x1 (ix2 r ⟨128 * n.val + d.val, by omega⟩))
  v e := EReal.toReal (x2 (ix2 r ⟨256 * n.val + e.val, by omega⟩))
  b := EReal.toReal (x3 (ix2 r ⟨128 * (n.val / 8) + n.val % 8, by omega⟩))
  g := EReal.toReal (x3 (ix2 r ⟨128 * (n.val / 8) + (8 + n.val % 8), by omega⟩))

/-- Head `2 * p + i` of batch `b`. -/
def hd (b p : ℕ) (i : Fin 2) (hb : b < 4) (hp : p < 4) : Fin 32 := ⟨8 * b + (2 * p + i.val), by omega⟩

section

variable (arg2 : Memref sig .tc .vmem S128x4096 .bf16) (harg2 : arg2.IsWhole) (arg3 : Memref sig .tc .vmem S128x4096 .bf16)
    (harg3 : arg3.IsWhole) (arg4 : Memref sig .tc .vmem S128x8192 .bf16) (harg4 : arg4.IsWhole)
    (arg5 : Memref sig .tc .vmem S128x512 .f32) (harg5 : arg5.IsWhole) (arg6 : Memref sig .tc .vmem S1x256 .f32)
    (harg6 : arg6.IsWhole) (arg8 : Memref sig .tc .vmem S32x128x256 .f32) (harg8 : arg8.IsWhole)
    (x0 x1 : FVec Ideal S128x4096 .bf16) (x2 : FVec Ideal S128x8192 .bf16) (x3 : FVec Ideal S128x512 .f32)
    (x4 : FVec Ideal S1x256 .f32) (xs0 : FVec Ideal S32x128x256 .f32)

theorem ldQ_at (j : ℕ) (hj : j < 16) (r : Fin 128) (l : Fin 256) :
    ldQ (F := Ideal) arg2 harg2 x0 j hj (ix2 r l) = x0 (ix2 r ⟨256 * j + l.val, by omega⟩) :=
  (harg2.readAt_unread _ _ _).trans (congrArg x0 (funext fun a => Fin.ext (by
    fin_cases a
    · show 0 + 1 * r.val = r.val; omega
    · show 256 * j + 1 * l.val = 256 * j + l.val; omega)))

theorem ldK_at (j : ℕ) (hj : j < 32) (r l : Fin 128) :
    ldK (F := Ideal) arg3 harg3 x1 j hj (ix2 r l) = x1 (ix2 r ⟨128 * j + l.val, by omega⟩) :=
  (harg3.readAt_unread _ _ _).trans (congrArg x1 (funext fun a => Fin.ext (by
    fin_cases a
    · show 0 + 1 * r.val = r.val; omega
    · show 128 * j + 1 * l.val = 128 * j + l.val; omega)))

theorem ldV_at (j : ℕ) (hj : j < 16) (r : Fin 128) (l : Fin 512) :
    ldV (F := Ideal) arg4 harg4 x2 j hj (ix2 r l) = x2 (ix2 r ⟨512 * j + l.val, by omega⟩) :=
  (harg4.readAt_unread _ _ _).trans (congrArg x2 (funext fun a => Fin.ext (by
    fin_cases a
    · show 0 + 1 * r.val = r.val; omega
    · show 512 * j + 1 * l.val = 512 * j + l.val; omega)))

theorem ldG_at (j : ℕ) (hj : j < 4) (r : Fin 128) (l : Fin 16) :
    ldG (F := Ideal) arg5 harg5 x3 j hj (ix2 r l) = x3 (ix2 r ⟨128 * j + l.val, by omega⟩) :=
  (harg5.readAt_unread _ _ _).trans (congrArg x3 (funext fun a => Fin.ext (by
    fin_cases a
    · show 0 + 1 * r.val = r.val; omega
    · show 128 * j + 1 * l.val = 128 * j + l.val; omega)))

theorem ldN_at (e : Fin 256) : ldN (F := Ideal) arg6 harg6 x4 (ix2 0 e) = x4 (ix2 0 e) :=
  (harg6.readAt_unread _ _ _).trans (congrArg x4 (funext fun a => Fin.ext (by
    fin_cases a
    · rfl
    · show 0 + 1 * e.val = e.val; omega)))

theorem ldS_at (j : ℕ) (hj : j < 32) (d : Fin 128) (e : Fin 256) :
    ldS (F := Ideal) arg8 harg8 xs0 j hj (ix3 0 d e) = xs0 (ix3 ⟨j, hj⟩ d e) :=
  (harg8.readAt_unread _ _ _).trans (congrArg xs0 (funext fun a => Fin.ext (by
    fin_cases a
    · show j + 1 * 0 = j; omega
    · show 0 + 1 * d.val = d.val; omega
    · show 0 + 1 * e.val = e.val; omega)))

/-- A chunk that is its sequence's first starts from zero states. -/
theorem ldZ_stt (j : ℕ) (hj : j < 32) : Stt (ldZ (F := Ideal) arg8 j hj) 0 := fun d e => by
  unfold ldZ
  rw [View.readCov_eq_canon', View.canon_unit_zero (by funext a; fin_cases a <;> rfl)]
  show k0_pay2 (F := Ideal) _ = _
  pointwise [k0_pay2]
  simp

theorem cl_at {φ : FTy} (g : FVec Ideal S128x16 .f32) (j : ℕ) (hj : j < 16) (r : Fin 128) :
    cl (F := Ideal) g j hj (ix2 r 0) = g (ix2 r ⟨j, hj⟩) := by
  unfold cl
  exact congrArg g (funext fun a => Fin.ext (by
    fin_cases a
    · show 0 + r.val = r.val; omega
    · show j + 0 = j; omega))

theorem rl_at (g : FVec Ideal S16x128 .f32) (j : ℕ) (hj : j < 16) (r : Fin 128) :
    rl (F := Ideal) g j hj (ix2 0 r) = g (ix2 ⟨j, hj⟩ r) := by
  unfold rl
  exact congrArg g (funext fun a => Fin.ext (by
    fin_cases a
    · show j + 0 = j; omega
    · show 0 + r.val = r.val; omega))

/-- The gates of a batch, and their running sums. -/
theorem gates_gt (h3 : Re x3) (b : ℕ) (hb : b < 4) :
    Gt (ldG (F := Ideal) arg5 harg5 x3 b hb) (fun r l => EReal.toReal (x3 (ix2 r ⟨128 * b + l.val, by omega⟩))) :=
  fun r l => (ldG_at arg5 harg5 x3 b hb r l).trans (h3 _).symm

theorem beta_at (h3 : Re x3) (b p : ℕ) (i : Fin 2) (hb : b < 4) (hp : p < 4) (j : ℕ) (hj : j < 16) (e : j = 2 * p + i.val)
    (r : Fin 128) :
    cl (F := Ideal) (ldG (F := Ideal) arg5 harg5 x3 b hb) j hj (ix2 r 0) = (((tok x0 x1 x2 x3 (hd b p i hb hp) r).b : ℝ) : EReal) := by
  refine (cl_at (φ := .f32) _ j hj r).trans ((gates_gt arg5 harg5 x3 h3 b hb r ⟨j, hj⟩).trans ?_)
  show ((EReal.toReal (x3 (ix2 r _)) : ℝ) : EReal) = ((EReal.toReal (x3 (ix2 r _)) : ℝ) : EReal)
  congr 4
  apply Fin.ext
  show 128 * b + j = 128 * ((8 * b + (2 * p + i.val)) / 8) + (8 * b + (2 * p + i.val)) % 8
  omega

theorem gcum_eq (b p : ℕ) (i : Fin 2) (hb : b < 4) (hp : p < 4) (j : ℕ) (hj : j < 16) (e : j = 8 + (2 * p + i.val))
    (r : Fin 128) :
    (∑ s : Fin 128, if s ≤ r then EReal.toReal (x3 (ix2 s ⟨128 * b + j, by omega⟩)) else 0)
      = Delta.gcum (tok x0 x1 x2 x3 (hd b p i hb hp)) r := by
  unfold Delta.gcum
  refine Finset.sum_congr rfl fun s _ => ?_
  have h' : (⟨128 * b + j, by omega⟩ : Fin 512)
      = ⟨128 * ((hd b p i hb hp).val / 8) + (8 + (hd b p i hb hp).val % 8), by have := (hd b p i hb hp).isLt; omega⟩ := by
    apply Fin.ext
    show 128 * b + j = 128 * ((8 * b + (2 * p + i.val)) / 8) + (8 + (8 * b + (2 * p + i.val)) % 8)
    omega
  rw [h']
  rfl

theorem cumc_at (h3 : Re x3) (b p : ℕ) (i : Fin 2) (hb : b < 4) (hp : p < 4) (j : ℕ) (hj : j < 16)
    (e : j = 8 + (2 * p + i.val)) (r : Fin 128) :
    cl (F := Ideal) (gc (ldG (F := Ideal) arg5 harg5 x3 b hb)) j hj (ix2 r 0)
      = ((Delta.gcum (tok x0 x1 x2 x3 (hd b p i hb hp)) r : ℝ) : EReal) :=
  (cl_at (φ := .f32) _ j hj r).trans ((gc_gt (gates_gt arg5 harg5 x3 h3 b hb) r ⟨j, hj⟩).trans
    (congrArg _ (gcum_eq x0 x1 x2 x3 b p i hb hp j hj e r)))

theorem cumr_at (h3 : Re x3) (b p : ℕ) (i : Fin 2) (hb : b < 4) (hp : p < 4) (j : ℕ) (hj : j < 16)
    (e : j = 8 + (2 * p + i.val)) (r : Fin 128) :
    rl (F := Ideal) (gct (gc (ldG (F := Ideal) arg5 harg5 x3 b hb))) j hj (ix2 0 r)
      = ((Delta.gcum (tok x0 x1 x2 x3 (hd b p i hb hp)) r : ℝ) : EReal) :=
  (rl_at _ j hj r).trans ((gct_at (gc_gt (gates_gt arg5 harg5 x3 h3 b hb)) r ⟨j, hj⟩).trans
    (congrArg _ (gcum_eq x0 x1 x2 x3 b p i hb hp j hj e r)))

/-- What a pair loads are the tokens of its two heads. -/
theorem loads (h0 : Re x0) (h1 : Re x1) (h2 : Re x2) (h3 : Re x3) (b p : ℕ) (hb : b < 4) (hp : p < 4) :
    Loads (ldQ (F := Ideal) arg2 harg2 x0 (4 * b + p) (by omega)) (ldQ (F := Ideal) arg3 harg3 x1 (4 * b + p) (by omega))
      (ldV (F := Ideal) arg4 harg4 x2 (4 * b + p) (by omega))
      (cl (F := Ideal) (ldG (F := Ideal) arg5 harg5 x3 b hb) (2 * p) (by omega))
      (cl (F := Ideal) (ldG (F := Ideal) arg5 harg5 x3 b hb) (2 * p + 1) (by omega))
      (cl (F := Ideal) (gc (ldG (F := Ideal) arg5 harg5 x3 b hb)) (8 + 2 * p) (by omega))
      (cl (F := Ideal) (gc (ldG (F := Ideal) arg5 harg5 x3 b hb)) (8 + (2 * p + 1)) (by omega))
      (rl (F := Ideal) (gct (gc (ldG (F := Ideal) arg5 harg5 x3 b hb))) (8 + 2 * p) (by omega))
      (rl (F := Ideal) (gct (gc (ldG (F := Ideal) arg5 harg5 x3 b hb))) (8 + (2 * p + 1)) (by omega))
      (fun i => tok x0 x1 x2 x3 (hd b p i hb hp)) where
  hq r i d := (ldQ_at arg2 harg2 x0 _ _ r _).trans ((h0 _).symm.trans (by
    show ((EReal.toReal (x0 (ix2 r _)) : ℝ) : EReal) = ((EReal.toReal (x0 (ix2 r _)) : ℝ) : EReal)
    congr 4; apply Fin.ext
    show 256 * (4 * b + p) + (128 * i.val + d.val) = 128 * (8 * b + (2 * p + i.val)) + d.val
    omega))
  hk r i d := (ldQ_at arg3 harg3 x1 _ _ r _).trans ((h1 _).symm.trans (by
    show ((EReal.toReal (x1 (ix2 r _)) : ℝ) : EReal) = ((EReal.toReal (x1 (ix2 r _)) : ℝ) : EReal)
    congr 4; apply Fin.ext
    show 256 * (4 * b + p) + (128 * i.val + d.val) = 128 * (8 * b + (2 * p + i.val)) + d.val
    omega))
  hv r i d := (ldV_at arg4 harg4 x2 _ _ r _).trans ((h2 _).symm.trans (by
    show ((EReal.toReal (x2 (ix2 r _)) : ℝ) : EReal) = ((EReal.toReal (x2 (ix2 r _)) : ℝ) : EReal)
    congr 4; apply Fin.ext
    show 512 * (4 * b + p) + (256 * i.val + d.val) = 256 * (8 * b + (2 * p + i.val)) + d.val
    omega))
  hb r := ⟨beta_at arg5 harg5 x0 x1 x2 x3 h3 b p 0 hb hp _ _ rfl r, beta_at arg5 harg5 x0 x1 x2 x3 h3 b p 1 hb hp _ _ rfl r⟩
  hg r := ⟨cumc_at arg5 harg5 x0 x1 x2 x3 h3 b p 0 hb hp _ _ rfl r, cumc_at arg5 harg5 x0 x1 x2 x3 h3 b p 1 hb hp _ _ rfl r⟩
  hr r := ⟨cumr_at arg5 harg5 x0 x1 x2 x3 h3 b p 0 hb hp _ _ rfl r, cumr_at arg5 harg5 x0 x1 x2 x3 h3 b p 1 hb hp _ _ rfl r⟩

theorem hd_eq (n : Fin 32) : hd (n.val / 8) (n.val % 8 / 2) ⟨n.val % 2, by omega⟩ (by omega) (by omega) = n := by
  apply Fin.ext
  show 8 * (n.val / 8) + (2 * (n.val % 8 / 2) + n.val % 2) = n.val
  omega

variable (Z : Fin 32 → St)

/-- The output block of a chunk that starts from the states `Z`. -/
def outBlk (y : S128x8192.Idx) : EReal :=
  have n : Fin 32 := ⟨(y 1).val / 256, by have := (y 1).isLt; change (y 1).val < 8192 at this; omega⟩
  rms (fun e => ((Delta.chunkOut (tok x0 x1 x2 x3 n) (Z n) (sol (tok x0 x1 x2 x3 n)) (y 0) e : ℝ) : EReal))
    (x4 (ix2 0 ⟨(y 1).val % 256, Nat.mod_lt _ (by decide)⟩)) ⟨(y 1).val % 256, Nat.mod_lt _ (by decide)⟩

/-- The states after it. -/
def stBlk (y : S32x128x256.Idx) : EReal :=
  ((Delta.chunkState (tok x0 x1 x2 x3 (y 0)) (Z (y 0)) (sol (tok x0 x1 x2 x3 (y 0))) (y 1) (y 2) : ℝ) : EReal)

/-- Every output store of a point is a tile of the output block. -/
theorem pieceY_at (h0 : Re x0) (h1 : Re x1) (h2 : Re x2) (h3 : Re x3)
    (S : (n : ℕ) → n < 32 → FVec Ideal S1x128x256 .f32) (hS : ∀ n : Fin 32, Stt (S n.val n.isLt) (Z n)) (n : Fin 32)
    (x : S128x256.Idx) :
    (pieceY (F := Ideal) arg2 harg2 arg3 harg3 arg4 harg4 arg5 harg5 arg6 harg6 x0 x1 x2 x3 x4 S n).2 x
      = outBlk x0 x1 x2 x3 x4 Z ((pieceY (F := Ideal) arg2 harg2 arg3 harg3 arg4 harg4 arg5 harg5 arg6 harg6 x0 x1 x2 x3 x4 S n).1.idx x) := by
  obtain ⟨r, e, rfl⟩ : ∃ (r : Fin 128) (e : Fin 256), x = ix2 r e := ⟨x 0, x 1, eq_ix2 x⟩
  refine ((loads arg2 harg2 arg3 harg3 arg4 harg4 arg5 harg5 x0 x1 x2 x3 h0 h1 h2 h3 (n.val / 8) (n.val % 8 / 2) (by omega)
    (by omega)).y ⟨n.val % 2, by omega⟩ (hS n) (ldN (F := Ideal) arg6 harg6 x4) r e).trans ?_
  rw [ldN_at]
  simp only [hd_eq]
  have key : ∀ y : S128x8192.Idx, y 0 = r → (y 1).val = 256 * n.val + e.val →
      rms (fun e => ((Delta.chunkOut (tok x0 x1 x2 x3 n) (Z n) (sol (tok x0 x1 x2 x3 n)) r e : ℝ) : EReal)) (x4 (ix2 0 e)) e
        = outBlk x0 x1 x2 x3 x4 Z y := by
    intro y hy0 hy1
    have e1 : (⟨(y 1).val / 256, by have := (y 1).isLt; change (y 1).val < 8192 at this; omega⟩ : Fin 32) = n :=
      Fin.ext (by show (y 1).val / 256 = n.val; omega)
    have e2 : (⟨(y 1).val % 256, Nat.mod_lt _ (by decide)⟩ : Fin 256) = e :=
      Fin.ext (by show (y 1).val % 256 = e.val; omega)
    simp only [outBlk, e1, e2, hy0]
  refine key _ ?_ ?_
  · exact Fin.ext (by show 0 + 1 * r.val = r.val; omega)
  · show 256 * n.val + 1 * e.val = 256 * n.val + e.val; omega

/-- Every state store of a point is a tile of the block of states. -/
theorem pieceS_at (h0 : Re x0) (h1 : Re x1) (h2 : Re x2) (h3 : Re x3)
    (S : (n : ℕ) → n < 32 → FVec Ideal S1x128x256 .f32) (hS : ∀ n : Fin 32, Stt (S n.val n.isLt) (Z n)) (n : Fin 32)
    (x : S1x128x256.Idx) :
    (pieceS (F := Ideal) arg2 harg2 arg3 harg3 arg4 harg4 arg5 harg5 x0 x1 x2 x3 S n).2 x
      = stBlk x0 x1 x2 x3 Z ((pieceS (F := Ideal) arg2 harg2 arg3 harg3 arg4 harg4 arg5 harg5 x0 x1 x2 x3 S n).1.idx x) := by
  obtain ⟨d, e, rfl⟩ : ∃ (d : Fin 128) (e : Fin 256), x = ix3 0 d e :=
    ⟨x 1, x 2, (eq_ix3 x).trans (congrArg (fun a => ix3 a (x 1) (x 2)) (Subsingleton.elim (α := Fin 1) _ _))⟩
  have hb : n.val / 8 < 4 := by omega
  have hp : n.val % 8 / 2 < 4 := by omega
  refine ((loads arg2 harg2 arg3 harg3 arg4 harg4 arg5 harg5 x0 x1 x2 x3 h0 h1 h2 h3 (n.val / 8) (n.val % 8 / 2) hb hp).next
    ⟨n.val % 2, by omega⟩ (hS n)
    (fun s d => (ldK_at arg3 harg3 x1 _ _ s d).trans (h1 _).symm)
    (fun r => cumc_at arg5 harg5 x0 x1 x2 x3 h3 _ _ ⟨n.val % 2, by omega⟩ hb hp _ _ rfl r) d e).trans ?_
  simp only [hd_eq]
  have key : ∀ y : S32x128x256.Idx, y 0 = n → y 1 = d → y 2 = e →
      ((Delta.chunkState (tok x0 x1 x2 x3 n) (Z n) (sol (tok x0 x1 x2 x3 n)) d e : ℝ) : EReal) = stBlk x0 x1 x2 x3 Z y := by
    intro y hy0 hy1 hy2
    simp only [stBlk, hy0, hy1, hy2]
  refine key _ ?_ ?_ ?_
  · exact Fin.ext (by show n.val + 1 * 0 = n.val; omega)
  · exact Fin.ext (by show 0 + 1 * d.val = d.val; omega)
  · exact Fin.ext (by show 0 + 1 * e.val = e.val; omega)

/-- The output stores of a point leave the output block. -/
theorem canonY (h0 : Re x0) (h1 : Re x1) (h2 : Re x2) (h3 : Re x3)
    (S : (n : ℕ) → n < 32 → FVec Ideal S1x128x256 .f32) (hS : ∀ n : Fin 32, Stt (S n.val n.isLt) (Z n)) (y : S128x8192.Idx) :
    View.canon ((List.finRange 32).reverse.map
        (pieceY (F := Ideal) arg2 harg2 arg3 harg3 arg4 harg4 arg5 harg5 arg6 harg6 x0 x1 x2 x3 x4 S)) y
      = outBlk x0 x1 x2 x3 x4 Z y := by
  have hy : (y 1).val < 8192 := (y 1).isLt
  refine View.canon_apply_of_pieces (Val := Elt Ideal) (e := .bf16) (outBlk x0 x1 x2 x3 x4 Z) _ ?_ y ?_
  · intro p hp x
    obtain ⟨n, -, rfl⟩ := List.mem_map.mp hp
    exact pieceY_at arg2 harg2 arg3 harg3 arg4 harg4 arg5 harg5 arg6 harg6 x0 x1 x2 x3 x4 Z h0 h1 h2 h3 S hS n x
  · refine ⟨_, List.mem_map.mpr ⟨⟨(y 1).val / 256, by omega⟩, by simp, rfl⟩, ?_⟩
    refine Eq.subst (motive := fun z => z ∈ _) ?_ (LoadRect.idx_mem _ (ix2 (y 0) (⟨(y 1).val % 256, Nat.mod_lt _ (by decide)⟩ : Fin 256)))
    funext a
    apply Fin.ext
    fin_cases a
    · show 0 + 1 * (y 0).val = (y 0).val; omega
    · show 256 * ((y 1).val / 256) + 1 * ((y 1).val % 256) = (y 1).val; omega

/-- The state stores of a point, whatever was stored before them, leave the block of states. -/
theorem canonS (h0 : Re x0) (h1 : Re x1) (h2 : Re x2) (h3 : Re x3)
    (S : (n : ℕ) → n < 32 → FVec Ideal S1x128x256 .f32) (hS : ∀ n : Fin 32, Stt (S n.val n.isLt) (Z n))
    (R : List (View.Piece (Elt Ideal) S32x128x256 .f32)) (y : S32x128x256.Idx) :
    View.canon ((List.finRange 32).reverse.map
        (pieceS (F := Ideal) arg2 harg2 arg3 harg3 arg4 harg4 arg5 harg5 x0 x1 x2 x3 S) ++ R) y
      = stBlk x0 x1 x2 x3 Z y := by
  refine View.canon_append_of_pieces (Val := Elt Ideal) (e := .f32) (stBlk x0 x1 x2 x3 Z) R _ ?_ y ?_
  · intro p hp x
    obtain ⟨n, -, rfl⟩ := List.mem_map.mp hp
    exact pieceS_at arg2 harg2 arg3 harg3 arg4 harg4 arg5 harg5 x0 x1 x2 x3 Z h0 h1 h2 h3 S hS n x
  · refine ⟨_, List.mem_map.mpr ⟨(y 0 : Fin 32), List.mem_reverse.mpr (List.mem_finRange _), rfl⟩, ?_⟩
    refine Eq.subst (motive := fun z => z ∈ _) ?_ (LoadRect.idx_mem _ (ix3 (0 : Fin 1) (y 1) (y 2)))
    funext a
    apply Fin.ext
    fin_cases a
    · show (y 0).val + 1 * 0 = (y 0).val; omega
    · show 0 + 1 * (y 1).val = (y 1).val; omega
    · show 0 + 1 * (y 2).val = (y 2).val; omega

end

end Cert.KernelIdeal.Gen.Pair
-- ==== Proof.Point.lean ====
/- The grid. At each point the operands' blocks are the tokens of one chunk of 32 heads; so, point after point, the
   carried block holds the states the token-by-token rule reaches, and the array holds its normalised outputs. -/
module

public import proofs.«01_k».proof.Proof.Block
public import proofs.«01_k».proof.Proof.Gen.KernelIdeal.Value

@[expose] public section

noncomputable section

namespace Cert.KernelIdeal.Gen.Pair

open Idealize.ShloMosaic Idealize.ShloMosaic.TcCoe Idealize.SL.Sem
open Delta (Mat Tok St rms gtok outAt)

section

variable (c : Dev nD) (i : grid0.Coords) (arg2 : Memref sig .tc .vmem S128x4096 .bf16) (harg2 : arg2.IsWhole) (arg3 : Memref sig .tc .vmem S128x4096 .bf16)
    (harg3 : arg3.IsWhole) (arg4 : Memref sig .tc .vmem S128x8192 .bf16) (harg4 : arg4.IsWhole)
    (arg5 : Memref sig .tc .vmem S128x512 .f32) (harg5 : arg5.IsWhole) (arg6 : Memref sig .tc .vmem S1x256 .f32)
    (harg6 : arg6.IsWhole) (arg7 : Memref sig .tc .vmem S128x8192 .bf16) (harg7 : arg7.IsWhole)
    (arg8 : Memref sig .tc .vmem S32x128x256 .f32) (harg8 : arg8.IsWhole)
    (x0 x1 : FVec Ideal S128x4096 .bf16) (x2 : FVec Ideal S128x8192 .bf16) (x3 : FVec Ideal S128x512 .f32)
    (x4 : FVec Ideal S1x256 .f32) (xs0 : FVec Ideal S32x128x256 .f32)
    (h0 : Re x0) (h1 : Re x1) (h2 : Re x2) (h3 : Re x3)

include h0 h1 h2 h3

theorem outA (hc : cond0_0 i) (y : S128x8192.Idx) :
    out0_A_5 (F := Ideal) c i arg2 harg2 arg3 harg3 arg4 harg4 arg5 harg5 arg6 harg6 arg7 harg7 arg8 harg8 hc x0 x1 x2 x3 x4 y
      = outBlk x0 x1 x2 x3 x4 (fun _ => 0) y := by
  unfold out0_A_5
  rw [View.read_writes_junk_eq_canon, piecesY_A]
  exact canonY arg2 harg2 arg3 harg3 arg4 harg4 arg5 harg5 arg6 harg6 x0 x1 x2 x3 x4 _ h0 h1 h2 h3 _
    (fun n => ldZ_stt arg8 n.val n.isLt) y

theorem soutA (hc : cond0_0 i) (y : S32x128x256.Idx) :
    sout0_A_0 (F := Ideal) c i arg2 harg2 arg3 harg3 arg4 harg4 arg5 harg5 arg6 harg6 arg7 harg7 arg8 harg8 hc x0 x1 x2 x3 x4 y
      = stBlk x0 x1 x2 x3 (fun _ => 0) y := by
  unfold sout0_A_0
  obtain ⟨z, hz⟩ := piecesS_A (F := Ideal) c i arg2 harg2 arg3 harg3 arg4 harg4 arg5 harg5 arg6 harg6 arg7 harg7 arg8 harg8 hc x0 x1 x2 x3 x4
  rw [View.read_writes_junk_eq_canon, hz]
  exact canonS arg2 harg2 arg3 harg3 arg4 harg4 arg5 harg5 x0 x1 x2 x3 _ h0 h1 h2 h3 _
    (fun n => ldZ_stt arg8 n.val n.isLt) [z] y

variable (Z : Fin 32 → St) (hZ : ∀ n d e, xs0 (ix3 n d e) = ((Z n d e : ℝ) : EReal))

include hZ

theorem outB (hc : ¬cond0_0 i) (y : S128x8192.Idx) :
    out0_B_5 (F := Ideal) c i arg2 harg2 arg3 harg3 arg4 harg4 arg5 harg5 arg6 harg6 arg7 harg7 arg8 harg8 hc x0 x1 x2 x3 x4 xs0 y
      = outBlk x0 x1 x2 x3 x4 Z y := by
  unfold out0_B_5
  rw [View.read_writes_junk_eq_canon, piecesY_B]
  exact canonY arg2 harg2 arg3 harg3 arg4 harg4 arg5 harg5 arg6 harg6 x0 x1 x2 x3 x4 _ h0 h1 h2 h3 _
    (fun n d e => (ldS_at arg8 harg8 xs0 n.val n.isLt d e).trans (hZ n d e)) y

theorem soutB (hc : ¬cond0_0 i) (y : S32x128x256.Idx) :
    sout0_B_0 (F := Ideal) c i arg2 harg2 arg3 harg3 arg4 harg4 arg5 harg5 arg6 harg6 arg7 harg7 arg8 harg8 hc x0 x1 x2 x3 x4 xs0 y
      = stBlk x0 x1 x2 x3 Z y := by
  unfold sout0_B_0
  rw [View.read_writes_junk_eq_canon, piecesS_B]
  refine (congrFun (congrArg View.canon (List.append_nil _).symm) y).trans ?_
  exact canonS arg2 harg2 arg3 harg3 arg4 harg4 arg5 harg5 x0 x1 x2 x3 _ h0 h1 h2 h3 _
    (fun n d e => (ldS_at arg8 harg8 xs0 n.val n.isLt d e).trans (hZ n d e)) [] y

end

variable (m : (ℓ : Loc nD τ sig) → Buf (Elt Ideal) ℓ) (c : Dev nD)

/-! ## The operands' blocks -/

def aq (r : Fin 4096) (l : Fin 8192) : EReal := m ((c : Thread nD τ).loc main_arg0) (ix2 r l)
def ak (r : Fin 4096) (l : Fin 8192) : EReal := m ((c : Thread nD τ).loc main_arg1) (ix2 r l)
def av (r : Fin 4096) (l : Fin 16384) : EReal := m ((c : Thread nD τ).loc main_arg2) (ix2 r l)
def ag (r : Fin 4096) (l : Fin 1024) : EReal := m ((c : Thread nD τ).loc main_arg3) (ix2 r l)
def an (e : Fin 256) : EReal := m ((c : Thread nD τ).loc main_arg4) (ix1 e)

theorem ix_facts : ∀ t : Fin cfg0.N,
    (win0_0.index t (0 : Fin 2) = t.val % 32 ∧ win0_0.index t (1 : Fin 2) = t.val / 32)
    ∧ (win0_1.index t (0 : Fin 2) = t.val % 32 ∧ win0_1.index t (1 : Fin 2) = t.val / 32)
    ∧ (win0_2.index t (0 : Fin 2) = t.val % 32 ∧ win0_2.index t (1 : Fin 2) = t.val / 32)
    ∧ (win0_3.index t (0 : Fin 2) = t.val % 32 ∧ win0_3.index t (1 : Fin 2) = t.val / 32)
    ∧ (win0_4.index t (0 : Fin 2) = 0 ∧ win0_4.index t (1 : Fin 2) = 0) :=
  (by decide +kernel : ∀ t : Fin grid0.N, _)

theorem N64 : cfg0.N = 64 := N_0

/-- Row `r` of the chunk of point `t`, and column `l` of its half. -/
def rw' (t : Fin cfg0.N) (r : Fin 128) : Fin 4096 := ⟨128 * (t.val % 32) + r.val, by omega⟩

theorem blk_q (t : Fin cfg0.N) (r : Fin 128) (l : Fin 4096) :
    iblk m c 0 t (ix2 r l) = aq m c (rw' t r) ⟨4096 * (t.val / 32) + l.val, by have := t.isLt; have := N64; omega⟩ := by
  unfold iblk aq
  rw [show V m c (Pipeline.arrRef spec0 0) = m ((c : Thread nD τ).loc main_arg0) from V_main_arg0 m c]
  refine congrArg (m ((c : Thread nD τ).loc main_arg0)) (funext fun a => Fin.ext ?_)
  obtain ⟨⟨e0, e1⟩, -⟩ := ix_facts t
  fin_cases a
  · show win0_0.index t (0 : Fin 2) * 128 + 1 * r.val = 128 * (t.val % 32) + r.val; omega
  · show win0_0.index t (1 : Fin 2) * 4096 + 1 * l.val = 4096 * (t.val / 32) + l.val; omega

theorem blk_k (t : Fin cfg0.N) (r : Fin 128) (l : Fin 4096) :
    iblk m c 1 t (ix2 r l) = ak m c (rw' t r) ⟨4096 * (t.val / 32) + l.val, by have := t.isLt; have := N64; omega⟩ := by
  unfold iblk ak
  rw [show V m c (Pipeline.arrRef spec0 1) = m ((c : Thread nD τ).loc main_arg1) from V_main_arg1 m c]
  refine congrArg (m ((c : Thread nD τ).loc main_arg1)) (funext fun a => Fin.ext ?_)
  obtain ⟨-, ⟨e0, e1⟩, -⟩ := ix_facts t
  fin_cases a
  · show win0_1.index t (0 : Fin 2) * 128 + 1 * r.val = 128 * (t.val % 32) + r.val; omega
  · show win0_1.index t (1 : Fin 2) * 4096 + 1 * l.val = 4096 * (t.val / 32) + l.val; omega

theorem blk_v (t : Fin cfg0.N) (r : Fin 128) (l : Fin 8192) :
    iblk m c 2 t (ix2 r l) = av m c (rw' t r) ⟨8192 * (t.val / 32) + l.val, by have := t.isLt; have := N64; omega⟩ := by
  unfold iblk av
  rw [show V m c (Pipeline.arrRef spec0 2) = m ((c : Thread nD τ).loc main_arg2) from V_main_arg2 m c]
  refine congrArg (m ((c : Thread nD τ).loc main_arg2)) (funext fun a => Fin.ext ?_)
  obtain ⟨-, -, ⟨e0, e1⟩, -⟩ := ix_facts t
  fin_cases a
  · show win0_2.index t (0 : Fin 2) * 128 + 1 * r.val = 128 * (t.val % 32) + r.val; omega
  · show win0_2.index t (1 : Fin 2) * 8192 + 1 * l.val = 8192 * (t.val / 32) + l.val; omega

theorem blk_g (t : Fin cfg0.N) (r : Fin 128) (l : Fin 512) :
    iblk m c 3 t (ix2 r l) = ag m c (rw' t r) ⟨512 * (t.val / 32) + l.val, by have := t.isLt; have := N64; omega⟩ := by
  unfold iblk ag
  rw [show V m c (Pipeline.arrRef spec0 3) = m ((c : Thread nD τ).loc main_arg3) from V_main_arg3 m c]
  refine congrArg (m ((c : Thread nD τ).loc main_arg3)) (funext fun a => Fin.ext ?_)
  obtain ⟨-, -, -, ⟨e0, e1⟩, -⟩ := ix_facts t
  fin_cases a
  · show win0_3.index t (0 : Fin 2) * 128 + 1 * r.val = 128 * (t.val % 32) + r.val; omega
  · show win0_3.index t (1 : Fin 2) * 512 + 1 * l.val = 512 * (t.val / 32) + l.val; omega

/-- The weights reach the kernel reshaped to one row. -/
theorem V_nw : V m c main_v0 = shapeCast S1x256 (m ((c : Thread nD τ).loc main_arg4)) shapeCasts_S256_S1x256 := by
  show StableHlo.after hostOps0 _ (Proc.devRef .tc main_v0) = _
  after_results
  rfl

theorem blk_n (t : Fin cfg0.N) (e : Fin 256) : iblk m c 4 t (ix2 0 e) = an m c e := by
  unfold iblk an
  rw [show V m c (Pipeline.arrRef spec0 4) = _ from V_nw m c]
  obtain ⟨-, -, -, -, e0, e1⟩ := ix_facts t
  refine (congrArg (shapeCast S1x256 (m ((c : Thread nD τ).loc main_arg4)) shapeCasts_S256_S1x256)
    (show _ = ix2 (0 : Fin 1) e from funext fun a => Fin.ext ?_)).trans ?_
  · fin_cases a
    · show win0_4.index t (0 : Fin 2) * 1 + 1 * 0 = 0; omega
    · show win0_4.index t (1 : Fin 2) * 256 + 1 * e.val = e.val; omega
  · pointwise []

/-! ## One point is one chunk -/

/-- The tokens of head `H`. -/
abbrev toks (H : Fin 64) (t : ℕ) : Tok := gtok (aq m c) (ak m c) (av m c) (ag m c) H t

/-- Head `n` of the half of point `t`. -/
def hH (t : Fin cfg0.N) (n : Fin 32) : Fin 64 := ⟨32 * (t.val / 32) + n.val, by have := t.isLt; have := N64; omega⟩

theorem tok_eq (t : Fin cfg0.N) (n : Fin 32) (r : Fin 128) :
    tok (iblk m c 0 t) (iblk m c 1 t) (iblk m c 2 t) (iblk m c 3 t) n r = toks m c (hH t n) (128 * (t.val % 32) + r.val) := by
  have ht := t.isLt
  have hN := N64
  have hr : rw' t r = (⟨(128 * (t.val % 32) + r.val) % 4096, Nat.mod_lt _ (by decide)⟩ : Fin 4096) :=
    Fin.ext (by show 128 * (t.val % 32) + r.val = (128 * (t.val % 32) + r.val) % 4096; omega)
  unfold tok toks gtok
  rw [Tok.mk.injEq]
  refine ⟨funext fun d => ?_, funext fun d => ?_, funext fun e => ?_, ?_, ?_⟩
  · rw [blk_q, hr]; congr 2; apply Fin.ext
    show 4096 * (t.val / 32) + (128 * n.val + d.val) = 128 * (32 * (t.val / 32) + n.val) + d.val; omega
  · rw [blk_k, hr]; congr 2; apply Fin.ext
    show 4096 * (t.val / 32) + (128 * n.val + d.val) = 128 * (32 * (t.val / 32) + n.val) + d.val; omega
  · rw [blk_v, hr]; congr 2; apply Fin.ext
    show 8192 * (t.val / 32) + (256 * n.val + e.val) = 256 * (32 * (t.val / 32) + n.val) + e.val; omega
  · rw [blk_g, hr]; congr 2; apply Fin.ext
    show 512 * (t.val / 32) + (128 * (n.val / 8) + n.val % 8)
      = 128 * ((32 * (t.val / 32) + n.val) / 8) + (32 * (t.val / 32) + n.val) % 8
    omega
  · rw [blk_g, hr]; congr 2; apply Fin.ext
    show 512 * (t.val / 32) + (128 * (n.val / 8) + (8 + n.val % 8))
      = 128 * ((32 * (t.val / 32) + n.val) / 8) + (8 + (32 * (t.val / 32) + n.val) % 8)
    omega

/-- The state of head `n` of point `t`'s half before the point's chunk. -/
def before (t : Fin cfg0.N) (n : Fin 32) : St := Delta.run (toks m c (hH t n)) 0 (128 * (t.val % 32))

theorem chunk_state (t : Fin cfg0.N) (n : Fin 32) :
    Delta.chunkState (tok (iblk m c 0 t) (iblk m c 1 t) (iblk m c 2 t) (iblk m c 3 t) n) (before m c t n)
      (sol (tok (iblk m c 0 t) (iblk m c 1 t) (iblk m c 2 t) (iblk m c 3 t) n))
      = Delta.run (toks m c (hH t n)) 0 (128 * (t.val % 32 + 1)) := by
  refine (Delta.run_chunk _ _ (Delta.tInv_inv _ (Delta.amat_strict _)) (fun i => toks m c (hH t n) (128 * (t.val % 32) + i))
    (fun r => (tok_eq m c t n r).symm)).symm.trans ?_
  exact (Delta.run_add (toks m c (hH t n)) 0 (128 * (t.val % 32)) 128).symm

theorem chunk_out (t : Fin cfg0.N) (n : Fin 32) (r : Fin 128) (e : Fin 256) :
    Delta.chunkOut (tok (iblk m c 0 t) (iblk m c 1 t) (iblk m c 2 t) (iblk m c 3 t) n) (before m c t n)
      (sol (tok (iblk m c 0 t) (iblk m c 1 t) (iblk m c 2 t) (iblk m c 3 t) n)) r e
      = (toks m c (hH t n) (128 * (t.val % 32) + r.val)).out
          (Delta.run (toks m c (hH t n)) 0 (128 * (t.val % 32) + r.val + 1)) e := by
  refine (Delta.out_chunk _ _ (Delta.tInv_inv _ (Delta.amat_strict _)) (fun i => toks m c (hH t n) (128 * (t.val % 32) + i))
    (fun r => (tok_eq m c t n r).symm) r e).symm.trans ?_
  rw [tok_eq]
  exact congrArg (fun Z => Tok.out _ Z e) (Delta.run_add (toks m c (hH t n)) 0 (128 * (t.val % 32)) (r.val + 1)).symm

/-- Every operand entry but the weights' is a real number. -/
structure Fin' : Prop where
  q : ∀ r l, ((EReal.toReal (aq m c r l) : ℝ) : EReal) = aq m c r l
  k : ∀ r l, ((EReal.toReal (ak m c r l) : ℝ) : EReal) = ak m c r l
  v : ∀ r l, ((EReal.toReal (av m c r l) : ℝ) : EReal) = av m c r l
  g : ∀ r l, ((EReal.toReal (ag m c r l) : ℝ) : EReal) = ag m c r l

variable {m c}

theorem Fin'.re0 (h : Fin' m c) (t : Fin cfg0.N) : Re (s := S128x4096) (φ := .bf16) (iblk m c 0 t) := fun i => by
  obtain ⟨r, l, rfl⟩ : ∃ (r : Fin 128) (l : Fin 4096), i = ix2 r l := ⟨i 0, i 1, eq_ix2 i⟩
  rw [blk_q]; exact h.q _ _

theorem Fin'.re1 (h : Fin' m c) (t : Fin cfg0.N) : Re (s := S128x4096) (φ := .bf16) (iblk m c 1 t) := fun i => by
  obtain ⟨r, l, rfl⟩ : ∃ (r : Fin 128) (l : Fin 4096), i = ix2 r l := ⟨i 0, i 1, eq_ix2 i⟩
  rw [blk_k]; exact h.k _ _

theorem Fin'.re2 (h : Fin' m c) (t : Fin cfg0.N) : Re (s := S128x8192) (φ := .bf16) (iblk m c 2 t) := fun i => by
  obtain ⟨r, l, rfl⟩ : ∃ (r : Fin 128) (l : Fin 8192), i = ix2 r l := ⟨i 0, i 1, eq_ix2 i⟩
  rw [blk_v]; exact h.v _ _

theorem Fin'.re3 (h : Fin' m c) (t : Fin cfg0.N) : Re (s := S128x512) (φ := .f32) (iblk m c 3 t) := fun i => by
  obtain ⟨r, l, rfl⟩ : ∃ (r : Fin 128) (l : Fin 512), i = ix2 r l := ⟨i 0, i 1, eq_ix2 i⟩
  rw [blk_g]; exact h.g _ _

theorem ptA (h : Fin' m c) (t : Fin cfg0.N) (ht : t.val % 32 = 0) :
    (∀ y, (outsAt0 m c t.val t.isLt).1 y = outBlk (iblk m c 0 t) (iblk m c 1 t) (iblk m c 2 t) (iblk m c 3 t) (iblk m c 4 t) (fun _ => 0) y)
    ∧ ∀ y, (outsAt0 m c t.val t.isLt).2 y = stBlk (iblk m c 0 t) (iblk m c 1 t) (iblk m c 2 t) (iblk m c 3 t) (fun _ => 0) y := by
  have e := outsAt0_A m c t ht
  refine ⟨fun y => ?_, fun y => ?_⟩
  · have e1 := congrArg Prod.fst e
    dsimp only at e1
    rw [e1]
    exact outA c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) (iblk m c 0 t) (iblk m c 1 t) (iblk m c 2 t) (iblk m c 3 t) (iblk m c 4 t)
      (h.re0 t) (h.re1 t) (h.re2 t) (h.re3 t) ((hcond0_0 t).mpr ht) y
  · have e2 := congrArg Prod.snd e
    dsimp only at e2
    rw [e2]
    exact soutA c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) (iblk m c 0 t) (iblk m c 1 t) (iblk m c 2 t) (iblk m c 3 t) (iblk m c 4 t)
      (h.re0 t) (h.re1 t) (h.re2 t) (h.re3 t) ((hcond0_0 t).mpr ht) y

theorem ptB (h : Fin' m c) (t : Fin cfg0.N) (ht : ¬t.val % 32 = 0) (Z : Fin 32 → St)
    (hZ : ∀ n d e, (outsAt0 m c (t.val - 1) (Nat.lt_of_le_of_lt (Nat.sub_le _ _) t.isLt)).2 (ix3 n d e) = ((Z n d e : ℝ) : EReal)) :
    (∀ y, (outsAt0 m c t.val t.isLt).1 y = outBlk (iblk m c 0 t) (iblk m c 1 t) (iblk m c 2 t) (iblk m c 3 t) (iblk m c 4 t) Z y)
    ∧ ∀ y, (outsAt0 m c t.val t.isLt).2 y = stBlk (iblk m c 0 t) (iblk m c 1 t) (iblk m c 2 t) (iblk m c 3 t) Z y := by
  have e := outsAt0_B m c t ht
  refine ⟨fun y => ?_, fun y => ?_⟩
  · have e1 := congrArg Prod.fst e
    dsimp only at e1
    rw [e1]
    exact outB c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) (iblk m c 0 t) (iblk m c 1 t) (iblk m c 2 t) (iblk m c 3 t) (iblk m c 4 t)
          (outsAt0 m c (t.val - 1) (Nat.lt_of_le_of_lt (Nat.sub_le _ _) t.isLt)).2
      (h.re0 t) (h.re1 t) (h.re2 t) (h.re3 t) Z hZ (fun h => ht ((hcond0_0 t).mp h)) y
  · have e2 := congrArg Prod.snd e
    dsimp only at e2
    rw [e2]
    exact soutB c (grid0.coords t) (ms0_0 t) (hs0_0 t) (ms0_1 t) (hs0_1 t) (ms0_2 t) (hs0_2 t) (ms0_3 t) (hs0_3 t) (ms0_4 t) (hs0_4 t) (ms0_5 t) (hs0_5 t)
      scM0_0 (Memref.isWhole_whole _) (iblk m c 0 t) (iblk m c 1 t) (iblk m c 2 t) (iblk m c 3 t) (iblk m c 4 t)
          (outsAt0 m c (t.val - 1) (Nat.lt_of_le_of_lt (Nat.sub_le _ _) t.isLt)).2
      (h.re0 t) (h.re1 t) (h.re2 t) (h.re3 t) Z hZ (fun h => ht ((hcond0_0 t).mp h)) y

/-- What a point leaves, from the states before it. -/
theorem pt (h : Fin' m c) (t : Fin cfg0.N)
    (hZ : ¬t.val % 32 = 0 → ∀ n d e, (outsAt0 m c (t.val - 1) (Nat.lt_of_le_of_lt (Nat.sub_le _ _) t.isLt)).2 (ix3 n d e)
      = ((before m c t n d e : ℝ) : EReal)) :
    (∀ y, (outsAt0 m c t.val t.isLt).1 y = outBlk (iblk m c 0 t) (iblk m c 1 t) (iblk m c 2 t) (iblk m c 3 t) (iblk m c 4 t) (before m c t) y)
    ∧ ∀ y, (outsAt0 m c t.val t.isLt).2 y = stBlk (iblk m c 0 t) (iblk m c 1 t) (iblk m c 2 t) (iblk m c 3 t) (before m c t) y := by
  by_cases ht : t.val % 32 = 0
  · have hz : before m c t = fun _ => 0 := funext fun N => by
      show Delta.run _ 0 (128 * (t.val % 32)) = 0
      rw [ht]; rfl
    rw [hz]
    exact ptA h t ht
  · exact ptB h t ht _ (hZ ht)

theorem states (t : Fin cfg0.N) (N : Fin 32) (d : Fin 128) (e : Fin 256) :
    stBlk (iblk m c 0 t) (iblk m c 1 t) (iblk m c 2 t) (iblk m c 3 t) (before m c t) (ix3 N d e)
      = ((Delta.run (toks m c (hH t N)) 0 (128 * (t.val % 32 + 1)) d e : ℝ) : EReal) :=
  congrArg (fun Z : St => ((Z d e : ℝ) : EReal)) (chunk_state m c t N)

/-- After each point: the point's outputs, and the states after its chunk. -/
theorem point (h : Fin' m c) (n : ℕ) : ∀ t : Fin cfg0.N, t.val = n →
    (∀ y, (outsAt0 m c t.val t.isLt).1 y = outBlk (iblk m c 0 t) (iblk m c 1 t) (iblk m c 2 t) (iblk m c 3 t) (iblk m c 4 t) (before m c t) y)
    ∧ ∀ y, (outsAt0 m c t.val t.isLt).2 y = stBlk (iblk m c 0 t) (iblk m c 1 t) (iblk m c 2 t) (iblk m c 3 t) (before m c t) y := by
  induction n with
  | zero => exact fun t ht => pt h t fun h0 => absurd (by rw [ht]) h0
  | succ n ih =>
    intro t ht
    refine pt h t fun h0 N d e => ?_
    have e1 : t.val - 1 = n := by omega
    have e2 : hH ⟨t.val - 1, Nat.lt_of_le_of_lt (Nat.sub_le _ _) t.isLt⟩ N = hH t N :=
      Fin.ext (by show 32 * ((t.val - 1) / 32) + N.val = 32 * (t.val / 32) + N.val; omega)
    refine ((ih ⟨t.val - 1, Nat.lt_of_le_of_lt (Nat.sub_le _ _) t.isLt⟩ e1).2 (ix3 N d e)).trans ((states _ N d e).trans ?_)
    rw [e2]
    show ((Delta.run _ 0 (128 * ((t.val - 1) % 32 + 1)) d e : ℝ) : EReal) = ((Delta.run _ 0 (128 * (t.val % 32)) d e : ℝ) : EReal)
    rw [show (t.val - 1) % 32 + 1 = t.val % 32 by omega]

/-- The array the kernel leaves. -/
theorem result (h : Fin' m c) (r : Fin 4096) (H : Fin 64) (e : Fin 256) :
    Value.G5 m c (ix2 r (⟨256 * H.val + e.val, by omega⟩ : Fin 16384))
      = outAt (aq m c) (ak m c) (av m c) (ag m c) (an m c) r H e := by
  have hN := N64
  have hlt : r.val / 128 + 32 * (H.val / 32) < cfg0.N := by omega
  obtain ⟨t, ht⟩ : ∃ t : Fin cfg0.N, t.val = r.val / 128 + 32 * (H.val / 32) := ⟨⟨_, hlt⟩, rfl⟩
  have hp : Value.pt5Of (ix2 r (⟨256 * H.val + e.val, by omega⟩ : Fin 16384)) = t.val := by
    rw [ht]
    show 1 * (r.val / 128 - 0) + 32 * ((256 * H.val + e.val) / 8192 - 0) = _
    omega
  have hl : Value.loc5Of (ix2 r (⟨256 * H.val + e.val, by omega⟩ : Fin 16384))
      = ix2 (⟨r.val % 128, by omega⟩ : Fin 128) (⟨256 * (H.val % 32) + e.val, by omega⟩ : Fin 8192) := by
    funext a
    apply Fin.ext
    fin_cases a
    · rfl
    · show (256 * H.val + e.val) % 8192 = 256 * (H.val % 32) + e.val; omega
  have hG : Value.G5 m c (ix2 r (⟨256 * H.val + e.val, by omega⟩ : Fin 16384))
      = (outsAt0 m c t.val t.isLt).1 (ix2 (⟨r.val % 128, by omega⟩ : Fin 128) (⟨256 * (H.val % 32) + e.val, by omega⟩ : Fin 8192)) := by
    unfold Value.G5
    rw [dif_pos (hp ▸ t.isLt), hl, Value.outsAt0_sweep m c _ t.isLt, Value.fold0_congr m c _ _ _ _ hp]
  rw [hG, (point h _ t rfl).1]
  have e3 : hH t ⟨H.val % 32, by omega⟩ = H :=
    Fin.ext (by show 32 * (t.val / 32) + H.val % 32 = H.val; omega)
  have e4 : 128 * (t.val % 32) + r.val % 128 = r.val := by omega
  have key : ∀ (n : Fin 32) (e' : Fin 256), n = ⟨H.val % 32, by omega⟩ → e' = e →
      rms (fun e => ((Delta.chunkOut (tok (iblk m c 0 t) (iblk m c 1 t) (iblk m c 2 t) (iblk m c 3 t) n) (before m c t n)
        (sol (tok (iblk m c 0 t) (iblk m c 1 t) (iblk m c 2 t) (iblk m c 3 t) n)) ⟨r.val % 128, by omega⟩ e : ℝ) : EReal))
        (iblk m c 4 t (ix2 0 e')) e' = outAt (aq m c) (ak m c) (av m c) (ag m c) (an m c) r H e := by
    rintro n e' rfl rfl
    rw [blk_n]
    refine congrArg (fun f => rms f (an m c e') e') (funext fun e' => congrArg _ ?_)
    rw [chunk_out, e3]
    show (toks m c H (128 * (t.val % 32) + r.val % 128)).out
      (Delta.run (toks m c H) 0 (128 * (t.val % 32) + r.val % 128 + 1)) e' = _
    rw [e4]
  exact key _ _ (Fin.ext (by show (256 * (H.val % 32) + e.val) / 256 = H.val % 32; omega))
    (Fin.ext (by show (256 * (H.val % 32) + e.val) % 256 = e.val; omega))

end Cert.KernelIdeal.Gen.Pair
-- ==== Proof.Finite.lean ====
/- The precondition read at an element: an operand entry that less itself is zero is a real number. -/
module

public import Idealize.ShloMosaic.Lib.Pointwise
public import proofs.«01_k».proof.Defs
public import proofs.«01_k».proof.Proof.Point

@[expose] public section

noncomputable section

namespace Cert.Pre_finite

open Idealize.ShloMosaic Idealize.SL.Sem

/-- What the predicate's operations ask of the shapes. -/
instance facts : Cert.Pre_finite.Facts where
  bitsLt_bf16_f32 := by decide
  bcast_S_S4096x8192 := by decide
  bcast_S_S4096x16384 := by decide
  bcast_S_S4096x1024 := by decide

theorem real_of (x : EReal) (h : Ideal.cmp .oeq (x - x) (Ideal.ofBits .f32 0x00000000#32) = 1#1) :
    ((EReal.toReal x : ℝ) : EReal) = x := by
  refine EReal.coe_toReal ?_ ?_
  · rintro rfl
    simp [Ideal.cmp, Ideal.ofBits_zero_f32] at h
  · rintro rfl
    simp [Ideal.cmp, Ideal.ofBits_zero_f32] at h

end Cert.Pre_finite

namespace Cert.KernelIdeal.Gen.Pair

open Idealize.ShloMosaic Idealize.ShloMosaic.TcCoe Idealize.SL.Sem

/-- Under the precondition every query, key, value and gate the kernel is given is a real number. -/
theorem fin_of_pre (m : (ℓ : Loc nD τ sig) → Buf (Elt Ideal) ℓ) (h : Cert.Pre_KernelIdeal_finite m) (c : Dev nD) : Fin' m c where
  q r l := Cert.Pre_finite.real_of _ (congrFun (h c).1 (ix2 r l))
  k r l := Cert.Pre_finite.real_of _ (congrFun (h c).2.1 (ix2 r l))
  v r l := Cert.Pre_finite.real_of _ (congrFun (h c).2.2.1 (ix2 r l))
  g r l := Cert.Pre_finite.real_of _ (congrFun (h c).2.2.2 (ix2 r l))

end Cert.KernelIdeal.Gen.Pair
-- ==== Proof.RefStep.lean ====
/- One trip of the reference's loop, read at an index: the decayed state, the state after the token and the token's
   output row, when the carried arrays hold real numbers. -/
module

public import Idealize.ShloMosaic.Lib.Pointwise
public import Idealize.ShloMosaic.Lib.WordCmp
public import Idealize.ShloMosaic.Lib.MatmulPlain
public import proofs.«01_k».proof.Proof.Tokens
public import proofs.«01_k».proof.Proof.Gen.ReferenceIdeal.Run

@[expose] public section

noncomputable section

namespace Cert.ReferenceIdeal.Value

open Idealize.ShloMosaic Idealize.ShloMosaic.TcCoe Idealize.SL.Sem
open Cert.ReferenceIdeal Cert.ReferenceIdeal.Gen
open Idealize.ShloMosaic.WordCmp
open Idealize.ShloMosaic.ValueIdx (contrEquiv1 contrEquiv1_symm_val)
open Delta (Tok St)

theorem coe_sum {n : ℕ} (f : Fin n → ℝ) : ((∑ i, f i : ℝ) : EReal) = ∑ i, (f i : EReal) :=
  map_sum (⟨⟨fun r : ℝ => (r : EReal), rfl⟩, EReal.coe_add⟩ : ℝ →+ EReal) f Finset.univ

/-- Slicing row `k` out of an array of 4096. -/
theorem slice4 {α : Type} {n : ℕ} (x : (⟨4, ![4096, 8, 8, n]⟩ : Shape).Idx → α) (k : Fin 4096) (start : Fin 4 → Int)
    (hs : Shape.Slices ⟨4, ![4096, 8, 8, n]⟩ (fun _ => 0) ⟨4, ![1, 8, 8, n]⟩)
    (h : ∀ a, start a = ((![k.val, 0, 0, 0] : Fin 4 → ℕ) a : Int)) (b h' : Fin 8) (d : Fin n) :
    Host.dynamicSlice ⟨4, ![1, 8, 8, n]⟩ x start hs (ix4 0 b h' d) = x (ix4 k b h' d) := by
  rw [dynamicSlice_eq_extract _ x start hs ![k.val, 0, 0, 0] ⟨rfl, fun a => by
    have := k.isLt
    fin_cases a <;> simp <;> omega⟩ h]
  pointwise
  refine congrArg x (funext fun a => Fin.ext ?_)
  rw [Shape.Idx.norm_def]
  fin_cases a <;> simp [ix4]

theorem slice3 {α : Type} (x : S4096x8x8.Idx → α) (k : Fin 4096) (start : Fin 3 → Int)
    (hs : S4096x8x8.Slices (fun _ => 0) S1x8x8)
    (h : ∀ a, start a = ((![k.val, 0, 0] : Fin 3 → ℕ) a : Int)) (b h' : Fin 8) :
    Host.dynamicSlice S1x8x8 x start hs (ix3 0 b h') = x (ix3 k b h') := by
  rw [dynamicSlice_eq_extract _ x start hs ![k.val, 0, 0] ⟨rfl, fun a => by
    have := k.isLt
    fin_cases a <;> simp <;> omega⟩ h]
  pointwise

/-- Writing row `k` of an array of 4096. -/
theorem update4 {α : Type} (x : S4096x8x8x256.Idx → α) (u : S1x8x8x256.Idx → α) (k : Fin 4096) (start : Fin 4 → Int)
    (hs : S4096x8x8x256.Slices (fun _ => 0) S1x8x8x256)
    (h : ∀ a, start a = ((![k.val, 0, 0, 0] : Fin 4 → ℕ) a : Int)) (r : Fin 4096) (b h' : Fin 8) (d : Fin 256) :
    Host.dynamicUpdateSlice x u start hs (ix4 r b h' d) = if r = k then u (ix4 0 b h' d) else x (ix4 r b h' d) := by
  rw [dynamicUpdateSlice_eq_update x u start hs ![k.val, 0, 0, 0] ⟨rfl, fun a => by
    have := k.isLt
    fin_cases a <;> simp <;> omega⟩ h]
  by_cases e : r = k
  · subst e
    rw [if_pos rfl]
    pointwise
    simp
  · rw [if_neg e]
    pointwise
    exact dif_neg fun q => e (Fin.ext (by omega))

/-- The batched product of a vector with the state. -/
theorem dot_at (l : FVec Ideal S8x8x128 .f32) (s : FVec Ideal S8x8x128x256 .f32) (b h : Fin 8) (e : Fin 256) :
    Host.dotGeneral dot_S8x8x128_S8x8x128x256_S8x8x256_2_2_n_3_01_01 none l s (ix3 b h e)
      = ∑ d : Fin 128, l (ix3 b h d) * s (ix4 b h d e) := by
  let D := dot_S8x8x128_S8x8x128x256_S8x8x256_2_2_n_3_01_01
  have hr : D.contr.rank = 1 := rfl
  have hc : D.contr.size ⟨0, by rw [hr]; omega⟩ = 128 := rfl
  simp only [Host.dotGeneral]
  rw [Ideal.dotGeneral_apply, ← Equiv.sum_comp (contrEquiv1 D 128 hr hc).symm]
  refine Finset.sum_congr rfl fun d _ => ?_
  have hd := contrEquiv1_symm_val D 128 hr hc d
  have el : D.lhsIdx (ix3 b h e) ((contrEquiv1 D 128 hr hc).symm d) = ix3 b h d := by
    funext a; apply Fin.ext
    match a with
    | ⟨0, _⟩ => rfl
    | ⟨1, _⟩ => rfl
    | ⟨2, _⟩ => exact hd
  have er : D.rhsIdx (ix3 b h e) ((contrEquiv1 D 128 hr hc).symm d) = ix4 b h d e := by
    funext a; apply Fin.ext
    match a with
    | ⟨0, _⟩ => rfl
    | ⟨1, _⟩ => rfl
    | ⟨2, _⟩ => exact hd
    | ⟨3, _⟩ => rfl
  rw [el, er]

theorem cast_q (y : FVec Ideal S1x8x8x128 .f32) (b h : Fin 8) (d : Fin 128) :
    shapeCast S8x8x128 y shapeCasts_S1x8x8x128_S8x8x128 (ix3 b h d) = y (ix4 0 b h d) := by
  pointwise

theorem cast_v (y : FVec Ideal S1x8x8x256 .f32) (b h : Fin 8) (d : Fin 256) :
    shapeCast S8x8x256 y shapeCasts_S1x8x8x256_S8x8x256 (ix3 b h d) = y (ix4 0 b h d) := by
  pointwise

theorem cast_g (y : FVec Ideal S1x8x8 .f32) (b h : Fin 8) :
    shapeCast S8x8 y shapeCasts_S1x8x8_S8x8 (ix2 b h) = y (ix3 0 b h) := by
  pointwise

theorem cast_out (y : FVec Ideal S8x8x256 .f32) (b h : Fin 8) (e : Fin 256) :
    broadcastInDim S1x8x8x256 ![1, 2, 3] bcast_S8x8x256_S1x8x8x256_1_2_3 y (ix4 0 b h e) = y (ix3 b h e) := by
  pointwise

/-- What the loop carries before trip `n`: the tokens' rows, the counter, each head's state, the rows already written. -/
structure At (x : Fin 8 → Fin 8 → ℕ → Tok) (n : ℕ) (V : Valuation τ sig (Elt Ideal)) : Prop where
  q : ∀ (t : Fin 4096) b h (d : Fin 128), (V (Proc.devRef .tc main_v11_0) : FVec Ideal S4096x8x8x128 .f32) (ix4 t b h d) = (((x b h t.val).q d : ℝ) : EReal)
  k : ∀ (t : Fin 4096) b h (d : Fin 128), (V (Proc.devRef .tc main_v11_1) : FVec Ideal S4096x8x8x128 .f32) (ix4 t b h d) = (((x b h t.val).k d : ℝ) : EReal)
  v : ∀ (t : Fin 4096) b h (e : Fin 256), (V (Proc.devRef .tc main_v11_2) : FVec Ideal S4096x8x8x256 .f32) (ix4 t b h e) = (((x b h t.val).v e : ℝ) : EReal)
  b : ∀ (t : Fin 4096) b h, (V (Proc.devRef .tc main_v11_3) : FVec Ideal S4096x8x8 .f32) (ix3 t b h) = (((x b h t.val).b : ℝ) : EReal)
  g : ∀ (t : Fin 4096) b h, (V (Proc.devRef .tc main_v11_4) : FVec Ideal S4096x8x8 .f32) (ix3 t b h) = (((x b h t.val).g : ℝ) : EReal)
  ctr : (V (Proc.devRef .tc main_v11_5) : IVec S_ 32) = fun _ => BitVec.ofNat 32 n
  st : ∀ b h (d : Fin 128) (e : Fin 256), (V (Proc.devRef .tc main_v11_6) : FVec Ideal S8x8x128x256 .f32) (ix4 b h d e) = ((Delta.run (x b h) 0 n d e : ℝ) : EReal)
  out : ∀ (r : Fin 4096) b h (e : Fin 256), r.val < n →
    (V (Proc.devRef .tc main_v11_7) : FVec Ideal S4096x8x8x256 .f32) (ix4 r b h e) = (((x b h r.val).out (Delta.run (x b h) 0 (r.val + 1)) e : ℝ) : EReal)

/-- The token's queries. -/
def qRow (V : Valuation τ sig (Elt Ideal)) : FVec Ideal S8x8x128 .f32 :=
  shapeCast S8x8x128 (Host.dynamicSlice S1x8x8x128 (V (Proc.devRef .tc main_v11_0)) (fun k => (((![V (Proc.devRef .tc main_v11_5), constantI S_ 32 0#32, constantI S_ 32 0#32, constantI S_ 32 0#32] : Fin 4 → (⟨S_, .i32⟩ : BufTy).Contents (Elt Ideal))) k (Shape.Idx.first h_S_)).toInt) sliceFits_S4096x8x8x128_S1x8x8x128) shapeCasts_S1x8x8x128_S8x8x128

section

variable {x : Fin 8 → Fin 8 → ℕ → Tok} {V : Valuation τ sig (Elt Ideal)} (k : Fin 4096) (A : At x k.val V)

include A

theorem At.start4 (a : Fin 4) :
    ((![V (Proc.devRef .tc main_v11_5), constantI S_ 32 0#32, constantI S_ 32 0#32, constantI S_ 32 0#32] : Fin 4 → (⟨S_, .i32⟩ : BufTy).Contents (Elt Ideal)) a (Shape.Idx.first h_S_)).toInt
      = ((![k.val, 0, 0, 0] : Fin 4 → ℕ) a : Int) := by
  fin_cases a
  · show ((V (Proc.devRef .tc main_v11_5) : IVec S_ 32) _).toInt = (k.val : Int)
    rw [A.ctr]
    exact toInt_ofNat_of_lt (by omega)
  all_goals rfl

theorem At.start3 (a : Fin 3) :
    ((![V (Proc.devRef .tc main_v11_5), constantI S_ 32 0#32, constantI S_ 32 0#32] : Fin 3 → (⟨S_, .i32⟩ : BufTy).Contents (Elt Ideal)) a (Shape.Idx.first h_S_)).toInt
      = ((![k.val, 0, 0] : Fin 3 → ℕ) a : Int) := by
  fin_cases a
  · show ((V (Proc.devRef .tc main_v11_5) : IVec S_ 32) _).toInt = (k.val : Int)
    rw [A.ctr]
    exact toInt_ofNat_of_lt (by omega)
  all_goals rfl

theorem At.v28 (b h : Fin 8) (d : Fin 128) :
    (res_main_while0b_v28 V : FVec Ideal S8x8x128 .f32) (ix3 b h d) = (((x b h k.val).k d : ℝ) : EReal) := by
  unfold res_main_while0b_v28
  rw [cast_q]
  exact (slice4 _ k _ _ (A.start4 k) b h d).trans (A.k k b h d)

theorem At.v35 (b h : Fin 8) (d : Fin 128) (e : Fin 256) :
    (res_main_while0b_v35 V : FVec Ideal S8x8x128x256 .f32) (ix4 b h d e)
      = ((Real.exp (x b h k.val).g * Delta.run (x b h) 0 k.val d e : ℝ) : EReal) := by
  unfold res_main_while0b_v35
  rw [EReal.coe_mul, ← A.st b h d e, ← Ideal.exp_coe, ← A.g k b h, ← slice3 (V (Proc.devRef .tc main_v11_4) : FVec Ideal S4096x8x8 .f32) k _ sliceFits_S4096x8x8_S1x8x8 (A.start3 k) b h]
  pointwise
  rfl

theorem At.v46 (b h : Fin 8) (d : Fin 128) (e : Fin 256) :
    (res_main_while0b_v46 V : FVec Ideal S8x8x128x256 .f32) (ix4 b h d e) = ((Delta.run (x b h) 0 (k.val + 1) d e : ℝ) : EReal) := by
  have e1 : ((Delta.run (x b h) 0 (k.val + 1) d e : ℝ) : EReal)
      = ((Real.exp (x b h k.val).g * Delta.run (x b h) 0 k.val d e : ℝ) : EReal)
        + (((x b h k.val).k d : ℝ) : EReal) * ((((x b h k.val).b : ℝ) : EReal) * ((((x b h k.val).v e : ℝ) : EReal)
          - ∑ d : Fin 128, (((x b h k.val).k d : ℝ) : EReal) * ((Real.exp (x b h k.val).g * Delta.run (x b h) 0 k.val d e : ℝ) : EReal))) := by
    simp only [← EReal.coe_mul, ← coe_sum, ← EReal.coe_sub, ← EReal.coe_add]
    rfl
  have e2 : (Host.dotGeneral (F := Ideal) (φ₁ := .f32) (φ₂ := .f32) dot_S8x8x128_S8x8x128x256_S8x8x256_2_2_n_3_01_01 none (res_main_while0b_v28 V) (res_main_while0b_v35 V) : FVec Ideal S8x8x256 .f32) (ix3 b h e)
      = ∑ d : Fin 128, (((x b h k.val).k d : ℝ) : EReal) * ((Real.exp (x b h k.val).g * Delta.run (x b h) 0 k.val d e : ℝ) : EReal) := by
    rw [dot_at]
    exact Finset.sum_congr rfl fun d _ => by rw [A.v28 k, A.v35 k]
  rw [e1, ← e2, ← A.v35 k b h d e, ← A.v28 k b h d, ← A.b k b h, ← A.v k b h e,
    ← slice3 (V (Proc.devRef .tc main_v11_3) : FVec Ideal S4096x8x8 .f32) k _ sliceFits_S4096x8x8_S1x8x8 (A.start3 k) b h, ← slice4 (V (Proc.devRef .tc main_v11_2) : FVec Ideal S4096x8x8x256 .f32) k _ sliceFits_S4096x8x8x256_S1x8x8x256 (A.start4 k) b h e]
  unfold res_main_while0b_v46
  pointwise
  rfl

theorem At.qRow (b h : Fin 8) (d : Fin 128) : Value.qRow V (ix3 b h d) = (((x b h k.val).q d : ℝ) : EReal) := by
  unfold Value.qRow
  rw [cast_q]
  exact (slice4 _ k _ _ (A.start4 k) b h d).trans (A.q k b h d)

theorem At.row (b h : Fin 8) (e : Fin 256) :
    (Host.dotGeneral (F := Ideal) (φ₁ := .f32) (φ₂ := .f32) dot_S8x8x128_S8x8x128x256_S8x8x256_2_2_n_3_01_01 none (Value.qRow V) (res_main_while0b_v46 V) : FVec Ideal S8x8x256 .f32) (ix3 b h e)
      = (((x b h k.val).out (Delta.run (x b h) 0 (k.val + 1)) e : ℝ) : EReal) := by
  rw [dot_at, Tok.out, coe_sum]
  exact Finset.sum_congr rfl fun d _ => by rw [A.qRow k, A.v46 k, EReal.coe_mul]

/-- One trip is one token for every head. -/
theorem At.step : At x (k.val + 1) (STEP V) where
  q := by rw [STEP_main_v11_0]; exact A.q
  k := by rw [STEP_main_v11_1]; exact A.k
  v := by rw [STEP_main_v11_2]; exact A.v
  b := by rw [STEP_main_v11_3]; exact A.b
  g := by rw [STEP_main_v11_4]; exact A.g
  ctr := by
    rw [STEP_main_v11_5]
    funext i
    show IntOp.addi ((V (Proc.devRef .tc main_v11_5) : IVec S_ 32) i) 1#32 = _
    rw [A.ctr, BitVec.ofNat_add]
    rfl
  st b h d e := by
    rw [STEP_main_v11_6]
    exact A.v46 k b h d e
  out r b h e hr := by
    rw [STEP_main_v11_7]
    unfold step_main_v11_7
    refine (update4 _ _ k _ _ (A.start4 k) r b h e).trans ?_
    by_cases er : r = k
    · subst er
      rw [if_pos rfl]
      exact (cast_out _ b h e).trans (A.row r b h e)
    · rw [if_neg er]
      exact A.out r b h e (by have := fun q => er (Fin.ext q); omega)

end

end Cert.ReferenceIdeal.Value
-- ==== Proof.RefValue.lean ====
/- The reference's result array: after all the trips each head has run through all its tokens, and the rows written are
   normalized. -/
module

public import proofs.«01_k».proof.Proof.RefStep

@[expose] public section

noncomputable section

namespace Cert.ReferenceIdeal.Value

open Idealize.ShloMosaic Idealize.ShloMosaic.TcCoe Idealize.ShloMosaic.Tactic Idealize.SL.Sem
open Idealize.ShloMosaic.StableHlo
open Cert.ReferenceIdeal Cert.ReferenceIdeal.Gen
open Delta (Tok St gtok outAt rms)

variable (m : (ℓ : Loc nD τ sig) → Buf (Elt Ideal) ℓ) (c : Dev nD)

/-- The argument arrays. -/
def aq (r : Fin 4096) (l : Fin 8192) : EReal := (m ((c : Thread nD τ).loc main_arg0) : FVec Ideal S4096x8192 .bf16) (ix2 r l)
def ak (r : Fin 4096) (l : Fin 8192) : EReal := (m ((c : Thread nD τ).loc main_arg1) : FVec Ideal S4096x8192 .bf16) (ix2 r l)
def av (r : Fin 4096) (l : Fin 16384) : EReal := (m ((c : Thread nD τ).loc main_arg2) : FVec Ideal S4096x16384 .bf16) (ix2 r l)
def ag (r : Fin 4096) (l : Fin 1024) : EReal := (m ((c : Thread nD τ).loc main_arg3) : FVec Ideal S4096x1024 .f32) (ix2 r l)
def an (e : Fin 256) : EReal := (m ((c : Thread nD τ).loc main_arg4) : FVec Ideal S256 .f32) (ix1 e)

/-- Head `h` of batch `b`. -/
def hd (b h : Fin 8) : Fin 64 := ⟨8 * b.val + h.val, by omega⟩

/-! ## The arrays the loop starts from -/

theorem entry_q : entryContents preI m c (Proc.devRef .tc main_v11_0)
    = (shapeCast S4096x8x8x128 (extf .f32 (m ((c : Thread nD τ).loc main_arg0) : FVec Ideal S4096x8192 .bf16) bitsLt_bf16_f32) shapeCasts_S4096x8192_S4096x8x8x128 : FVec Ideal S4096x8x8x128 .f32) := by
  simp only [entryContents, afterL_cons, afterL_nil]
  after_reads_simp
  rfl

theorem entry_k : entryContents preI m c (Proc.devRef .tc main_v11_1)
    = (shapeCast S4096x8x8x128 (extf .f32 (m ((c : Thread nD τ).loc main_arg1) : FVec Ideal S4096x8192 .bf16) bitsLt_bf16_f32) shapeCasts_S4096x8192_S4096x8x8x128 : FVec Ideal S4096x8x8x128 .f32) := by
  simp only [entryContents, afterL_cons, afterL_nil]
  after_reads_simp
  rfl

theorem entry_v : entryContents preI m c (Proc.devRef .tc main_v11_2)
    = (shapeCast S4096x8x8x256 (extf .f32 (m ((c : Thread nD τ).loc main_arg2) : FVec Ideal S4096x16384 .bf16) bitsLt_bf16_f32) shapeCasts_S4096x16384_S4096x8x8x256 : FVec Ideal S4096x8x8x256 .f32) := by
  simp only [entryContents, afterL_cons, afterL_nil]
  after_reads_simp
  rfl

theorem entry_b : entryContents preI m c (Proc.devRef .tc main_v11_3)
    = (extractStridedSlice S4096x8x8 ![0, 0, 0] (shapeCast S4096x8x128 (m ((c : Thread nD τ).loc main_arg3) : FVec Ideal S4096x1024 .f32) shapeCasts_S4096x1024_S4096x8x128) slices_S4096x8x128_S4096x8x8_0_0_0 : FVec Ideal S4096x8x8 .f32) := by
  simp only [entryContents, afterL_cons, afterL_nil]
  after_reads_simp
  rfl

theorem entry_g : entryContents preI m c (Proc.devRef .tc main_v11_4)
    = (extractStridedSlice S4096x8x8 ![0, 0, 8] (shapeCast S4096x8x128 (m ((c : Thread nD τ).loc main_arg3) : FVec Ideal S4096x1024 .f32) shapeCasts_S4096x1024_S4096x8x128) slices_S4096x8x128_S4096x8x8_0_0_8 : FVec Ideal S4096x8x8 .f32) := by
  simp only [entryContents, afterL_cons, afterL_nil]
  after_reads_simp
  rfl

theorem entry_st : entryContents preI m c (Proc.devRef .tc main_v11_6)
    = (broadcastInDim S8x8x128x256 ![] bcast_S_S8x8x128x256 (constant S_ .f32 0x00000000#32 : FVec Ideal S_ .f32) : FVec Ideal S8x8x128x256 .f32) := by
  simp only [entryContents, afterL_cons, afterL_nil]
  after_reads_simp
  rfl

theorem split_q (x : FVec Ideal S4096x8192 .bf16) (t : Fin 4096) (b h : Fin 8) (d : Fin 128) (l : Fin 8192)
    (hl : l.val = 128 * (8 * b.val + h.val) + d.val) :
    (shapeCast S4096x8x8x128 (extf .f32 x bitsLt_bf16_f32) shapeCasts_S4096x8192_S4096x8x8x128 : FVec Ideal S4096x8x8x128 .f32) (ix4 t b h d)
      = x (ix2 t l) := by
  pointwise
  exact congrArg (fun l => x (ix2 t l)) (Fin.ext (by simp only; omega))

theorem split_v (x : FVec Ideal S4096x16384 .bf16) (t : Fin 4096) (b h : Fin 8) (e : Fin 256) (l : Fin 16384)
    (hl : l.val = 256 * (8 * b.val + h.val) + e.val) :
    (shapeCast S4096x8x8x256 (extf .f32 x bitsLt_bf16_f32) shapeCasts_S4096x16384_S4096x8x8x256 : FVec Ideal S4096x8x8x256 .f32) (ix4 t b h e)
      = x (ix2 t l) := by
  pointwise
  exact congrArg (fun l => x (ix2 t l)) (Fin.ext (by simp only; omega))

theorem split_g (x : FVec Ideal S4096x1024 .f32) (t : Fin 4096) (b : Fin 8) (j : Fin 128) (l : Fin 1024)
    (hl : l.val = 128 * b.val + j.val) :
    (shapeCast S4096x8x128 x shapeCasts_S4096x1024_S4096x8x128 : FVec Ideal S4096x8x128 .f32) (ix3 t b j) = x (ix2 t l) := by
  pointwise
  exact congrArg (fun l => x (ix2 t l)) (Fin.ext (by simp only; omega))

theorem first_g (x : FVec Ideal S4096x8x128 .f32) (t : Fin 4096) (b h : Fin 8) :
    extractStridedSlice S4096x8x8 ![0, 0, 0] x slices_S4096x8x128_S4096x8x8_0_0_0 (ix3 t b h) = x (ix3 t b ⟨h.val, by omega⟩) := by
  pointwise

theorem second_g (x : FVec Ideal S4096x8x128 .f32) (t : Fin 4096) (b h : Fin 8) :
    extractStridedSlice S4096x8x8 ![0, 0, 8] x slices_S4096x8x128_S4096x8x8_0_0_8 (ix3 t b h) = x (ix3 t b ⟨8 + h.val, by omega⟩) := by
  pointwise

/-- The operands are real numbers. -/
structure Real' : Prop where
  q : ∀ r l, ((EReal.toReal (aq m c r l) : ℝ) : EReal) = aq m c r l
  k : ∀ r l, ((EReal.toReal (ak m c r l) : ℝ) : EReal) = ak m c r l
  v : ∀ r l, ((EReal.toReal (av m c r l) : ℝ) : EReal) = av m c r l
  g : ∀ r l, ((EReal.toReal (ag m c r l) : ℝ) : EReal) = ag m c r l

/-- The tokens of a head. -/
abbrev toks (b h : Fin 8) : ℕ → Tok := gtok (aq m c) (ak m c) (av m c) (ag m c) (hd b h)

theorem row_mod (t : Fin 4096) (h : t.val % 4096 < 4096) : (⟨t.val % 4096, h⟩ : Fin 4096) = t :=
  Fin.ext (Nat.mod_eq_of_lt t.isLt)

variable {m c} (R : Real' m c)

include R

/-- Before the first trip: no token seen, every state zero. -/
theorem at_zero : At (toks m c) 0 (entryContents preI m c) where
  q t b h d := by
    rw [entry_q]
    refine (split_q _ t b h d ⟨128 * (hd b h).val + d.val, by have := (hd b h).isLt; omega⟩ rfl).trans ?_
    show aq m c _ _ = ((EReal.toReal (aq m c _ _) : ℝ) : EReal)
    rw [R.q, row_mod]
  k t b h d := by
    rw [entry_k]
    refine (split_q _ t b h d ⟨128 * (hd b h).val + d.val, by have := (hd b h).isLt; omega⟩ rfl).trans ?_
    show ak m c _ _ = ((EReal.toReal (ak m c _ _) : ℝ) : EReal)
    rw [R.k, row_mod]
  v t b h e := by
    rw [entry_v]
    refine (split_v _ t b h e ⟨256 * (hd b h).val + e.val, by have := (hd b h).isLt; omega⟩ rfl).trans ?_
    show av m c _ _ = ((EReal.toReal (av m c _ _) : ℝ) : EReal)
    rw [R.v, row_mod]
  b t b h := by
    rw [entry_b]
    refine (first_g _ t b h).trans ((split_g _ t b _ ⟨128 * ((hd b h).val / 8) + (hd b h).val % 8, by have := (hd b h).isLt; omega⟩
      (by simp only [hd]; omega)).trans ?_)
    show ag m c _ _ = ((EReal.toReal (ag m c _ _) : ℝ) : EReal)
    rw [R.g, row_mod]
  g t b h := by
    rw [entry_g]
    refine (second_g _ t b h).trans ((split_g _ t b _ ⟨128 * ((hd b h).val / 8) + (8 + (hd b h).val % 8), by have := (hd b h).isLt; omega⟩
      (by simp only [hd]; omega)).trans ?_)
    show ag m c _ _ = ((EReal.toReal (ag m c _ _) : ℝ) : EReal)
    rw [R.g, row_mod]
  ctr := ctr_entry m c
  st b h d e := by
    rw [entry_st]
    pointwise
    simp [Delta.run]
  out r b h e hr := absurd hr (Nat.not_lt_zero _)

theorem at_trip : ∀ n, n ≤ 4096 → At (toks m c) n (STEP^[n] (entryContents preI m c))
  | 0, _ => at_zero R
  | n + 1, h => by
    rw [Function.iterate_succ_apply']
    exact (at_trip n (by omega)).step ⟨n, by omega⟩

/-- The reference's result, an element at a time. -/
theorem result (r : Fin 4096) (b h : Fin 8) (e : Fin 256) :
    (out_main_v26 (STEP^[4096] (entryContents preI m c)) : FVec Ideal S4096x16384 .bf16)
        (ix2 r (⟨256 * (hd b h).val + e.val, by have := (hd b h).isLt; omega⟩ : Fin 16384))
      = outAt (aq m c) (ak m c) (av m c) (ag m c) (an m c) r (hd b h) e := by
  have A := at_trip R 4096 le_rfl
  have ho : (fun e => (((gtok (aq m c) (ak m c) (av m c) (ag m c) (hd b h) r.val).out (Delta.run (gtok (aq m c) (ak m c) (av m c) (ag m c) (hd b h)) 0 (r.val + 1)) e : ℝ) : EReal))
      = fun e => ((STEP^[4096] (entryContents preI m c)) (Proc.devRef .tc main_v11_7) : FVec Ideal S4096x8x8x256 .f32) (ix4 r b h e) :=
    funext fun e => (A.out r b h e r.isLt).symm
  rw [outAt, ho]
  unfold out_main_v26
  rw [iter_main_arg4]
  pointwise [hd, rms, an]

end Cert.ReferenceIdeal.Value
-- ==== Proof.Gates.lean ====
/- The formulas of the input and output calls, one row at a time: what one element of the result is, from the row's
   operands. The kernels (Proof/S5In.lean, Proof/S5Out.lean, Proof/GdnOut.lean) and the references (Proof/S5InRef.lean,
   Proof/S5OutRef.lean, Proof/GdnOutRef.lean) are each shown to compute these. -/
module

public import Idealize.ShloMosaic.Lib.Pointwise

@[expose] public section

noncomputable section

namespace Gates

open Idealize.ShloMosaic

/-- The logistic function. -/
def sg (x : EReal) : EReal := Ideal.div 1 (1 + Ideal.exp (0 - x))

/-- Column `n` of one row of the S5 output: the row's activations `y` gated by their own projection, times the silu of
    the gate `z`, projected back, and added to the row's residual entry `x` with the modulation's weight `g`. -/
def s5 (y z : Fin 2048 → EReal) (wg : Fin 2048 → Fin 2048 → EReal) (wo : Fin 2048 → Fin 1024 → EReal) (x g : EReal)
    (n : Fin 1024) : EReal :=
  x + g * ∑ l, y l * sg (∑ k, y k * wg k l) * (z l * sg (z l)) * wo l n

/-- Column `n` of one row's root mean square norm, with weights `w`. -/
def rms (x w : Fin 1024 → EReal) (n : Fin 1024) : EReal :=
  x n * Ideal.rsqrt (Ideal.div (∑ k, x k * x k) (Ideal.ofBits .f32 0x44800000#32) + Ideal.ofBits .f32 0x358637BD#32) * w n

/-- One row of a projection to 2048 columns: the residual row `x`, normalised and modulated, times `wz`. -/
def gate (x nw sc sh : Fin 1024 → EReal) (wz : Fin 1024 → Fin 2048 → EReal) (l : Fin 2048) : EReal :=
  ∑ k, (rms x nw k * (1 + sc k) + sh k) * wz k l

/-- Column `n` of one row of the delta rule's output: the rule's outputs `y` times the silu of their gate, projected by
    `wo`, added to the residual row `x` with the modulation's weights `g`, and normalised with weights `fw`. -/
def gdn (x nw sc sh g fw : Fin 1024 → EReal) (y : Fin 2048 → EReal) (wz : Fin 1024 → Fin 2048 → EReal)
    (wo : Fin 2048 → Fin 1024 → EReal) (n : Fin 1024) : EReal :=
  rms (fun n => x n + g n * ∑ l, y l * (gate x nw sc sh wz l * sg (gate x nw sc sh wz l)) * wo l n) fw n

end Gates
-- ==== Proof.GdnOutPieces.lean ====
/- The stores of one grid point of the delta rule's output call. The point keeps its 512 rows as eight slabs of 128
   columns, reads back the rows of each batch, and stores eight blocks, one a batch: each is the same computation on its
   batch's rows, named here once. -/
module

public import proofs.«01_k».proof.Proof.Gen.Kernel2Ideal.Value

@[expose] public section

set_option maxRecDepth 16384

noncomputable section

namespace Cert.Kernel2Ideal.Gen.GdnOut

open Idealize.ShloMosaic Idealize.ShloMosaic.TcCoe Idealize.SL.Sem

variable {F : FTy → Type} [FloatOps F]

theorem inbX (j : Fin 8) : ∀ a, (![0, 128 * j.val] : Fin 2 → ℕ) a + S512x128.size a ≤ S512x1024.size a := by revert j; decide

theorem inbS (j : Fin 8) : ∀ a, (![j.val, 0, 0] : Fin 3 → ℕ) a + S1x512x128.size a ≤ S8x512x128.size a := by revert j; decide

theorem inbR (b j : Fin 8) : ∀ a, S1x64x128.size a = 0 ∨ (![j.val, b.val, 0] : Fin 3 → ℕ) a + (![1, 8, 1] : Fin 3 → ℕ) a * (S1x64x128.size a - 1) < S8x512x128.size a := by
  revert b j; decide

theorem inbM (b : Fin 8) : ∀ a, (![b.val, 0] : Fin 2 → ℕ) a + S1x1024.size a ≤ S8x1024.size a := by revert b; decide

theorem inbY (b : Fin 8) : ∀ a, (![0, 2048 * b.val] : Fin 2 → ℕ) a + S64x2048.size a ≤ S64x16384.size a := by revert b; decide

theorem inbO (b : Fin 8) : ∀ a, (![b.val, 0, 0] : Fin 3 → ℕ) a + S1x64x1024.size a ≤ S8x64x1024.size a := by revert b; decide

theorem slO (b : Fin 8) : S8x64x1024.Slices ![b.val, 0, 0] S1x64x1024 := ⟨rfl, by revert b; decide⟩

/-! ## The computation, from the values read -/

/-- The rows of one batch, from its eight pieces of 128 columns. -/
def cat (s : Fin 8 → Vec F S1x64x128 .f32) : FVec F S64x1024 .f32 :=
  k0_pay19 (s 0) (s 1) (s 2) (s 3) (s 4) (s 5) (s 6) (s 7)

/-- The gated rule's outputs of all eight batches: `h` the batches' modulated rows, `y` the rule's outputs. -/
def gated (h : Fin 8 → FVec F S64x1024 .bf16) (y : Fin 8 → Vec F S64x2048 .bf16) (wz : Vec F S1024x2048 .bf16) : FVec F S512x2048 .bf16 :=
  have h' : FVec F S512x1024 .bf16 := concatenate S512x1024 0 [⟨S64x1024, h 0⟩, ⟨S64x1024, h 1⟩, ⟨S64x1024, h 2⟩, ⟨S64x1024, h 3⟩, ⟨S64x1024, h 4⟩, ⟨S64x1024, h 5⟩, ⟨S64x1024, h 6⟩, ⟨S64x1024, h 7⟩] concatenates_S64x1024_S64x1024_S64x1024_S64x1024_S64x1024_S64x1024_S64x1024_S64x1024_S512x1024_d0
  have y' : FVec F S512x2048 .bf16 := concatenate S512x2048 0 [⟨S64x2048, y 0⟩, ⟨S64x2048, y 1⟩, ⟨S64x2048, y 2⟩, ⟨S64x2048, y 3⟩, ⟨S64x2048, y 4⟩, ⟨S64x2048, y 5⟩, ⟨S64x2048, y 6⟩, ⟨S64x2048, y 7⟩] concatenates_S64x2048_S64x2048_S64x2048_S64x2048_S64x2048_S64x2048_S64x2048_S64x2048_S512x2048_d0
  have z : FVec F S512x2048 .f32 := matmul dot_S512x1024_S1024x2048_S512x2048_1_0_0_1_n_n none h' (shapeCast S1024x2048 wz shapeCasts_S1024x2048_S1024x2048) (constant S512x2048 .f32 0x00000000#32)
  have s : FVec F S512x2048 .f32 := divf (broadcast S512x2048 (Scalar.ofBits .f32 0x3F800000#32)) (addf (broadcast S512x2048 (Scalar.ofBits .f32 0x3F800000#32)) (exp (subf (broadcast S512x2048 (Scalar.ofBits .f32 0x00000000#32)) z)))
  truncf .bf16 (mulf (extf .f32 y' bitsLt_bf16_f32) (mulf z s)) bitsLt_bf16_f32

/-- Batch `b`'s residual sum: its rows `x`, plus its gate times its part of the projected output `o`. -/
def resid (b : Fin 8) (x : FVec F S64x1024 .f32) (o : FVec F S8x64x1024 .f32) (g : Vec F S1x1024 .f32) : FVec F S64x1024 .f32 :=
  addf x (mulf (broadcastTo S64x1024 g broadcasts_S1x1024_S64x1024) (shapeCast S64x1024 (extractStridedSlice S1x64x1024 ![b.val, 0, 0] o (slO b)) shapeCasts_S1x64x1024_S64x1024))

/-- The normalised rows of one batch, as stored. -/
def normed (v : FVec F S64x1024 .f32) (w : Vec F S1x1024 .f32) : FVec F S1x64x1024 .f32 :=
  k0_pay66 v (shapeCast S64x1 (multiReduction .add [1] S64 (mulf v v) 0x00000000#32 reduces_S64x1024_S64 (.inl rfl) rfl) shapeCasts_S64_S64x1) w

/-! ## The stores -/

section

variable (arg1 : Memref sig .tc .vmem S64x16384 .bf16) (harg1 : arg1.IsWhole) (arg2 : Memref sig .tc .vmem S512x1024 .f32) (harg2 : arg2.IsWhole) (arg3 : Memref sig .tc .vmem S1x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1024x2048 .bf16) (harg7 : arg7.IsWhole) (arg8 : Memref sig .tc .vmem S2048x1024 .bf16) (harg8 : arg8.IsWhole) (arg9 : Memref sig .tc .vmem S1x1024 .f32) (harg9 : arg9.IsWhole) (arg11 : Memref sig .tc .vmem S8x512x128 .f32)
    (x0 : Vec F S64x16384 .bf16) (x1 : Vec F S512x1024 .f32) (x2 : Vec F S1x1024 .f32) (x3 x4 x5 : Vec F S8x1024 .f32) (x6 : Vec F S1024x2048 .bf16) (x7 : Vec F S2048x1024 .bf16) (x8 : Vec F S1x1024 .f32)

/-- The slabs as stored, the last first. -/
def slabs : List (View.Piece (Elt F) S8x512x128 .f32) :=
  (List.finRange 8).reverse.map fun j => ⟨Rect.unit (s := S8x512x128) ![j.val, 0, 0] S1x512x128.size (inbS j),
    shapeCast S1x512x128 (View.readAt (Elt F) arg2.view (Rect.unit (s := S512x1024) ![0, 128 * j.val] S512x128.size (inbX j)).toLoadRect (harg2.unread x1) : Vec F S512x128 .f32) shapeCasts_S512x128_S1x512x128⟩

/-- Batch `b`'s rows of slab `j`: every eighth row from row `b`. -/
def ldR (b j : Fin 8) : Vec F S1x64x128 .f32 :=
  arg11.view.readCov (slabs arg2 harg2 x1) (⟨![j.val, b.val, 0], S1x64x128.size, ![1, 8, 1], inbR b j⟩ : LoadRect S8x512x128)

def ldM (arg : Memref sig .tc .vmem S8x1024 .f32) (harg : arg.IsWhole) (x : Vec F S8x1024 .f32) (b : Fin 8) : Vec F S1x1024 .f32 :=
  View.readAt (Elt F) arg.view (Rect.unit (s := S8x1024) ![b.val, 0] S1x1024.size (inbM b)).toLoadRect (harg.unread x)

def ldN (arg : Memref sig .tc .vmem S1x1024 .f32) (harg : arg.IsWhole) (x : Vec F S1x1024 .f32) : Vec F S1x1024 .f32 :=
  View.readAt (Elt F) arg.view (Rect.unit (s := S1x1024) ![0, 0] S1x1024.size (by decide)).toLoadRect (harg.unread x)

def ldY (b : Fin 8) : Vec F S64x2048 .bf16 :=
  View.readAt (Elt F) arg1.view (Rect.unit (s := S64x16384) ![0, 2048 * b.val] S64x2048.size (inbY b)).toLoadRect (harg1.unread x0)

def ldZ : Vec F S1024x2048 .bf16 :=
  View.readAt (Elt F) arg7.view (Rect.unit (s := S1024x2048) ![0, 0] S1024x2048.size (by decide)).toLoadRect (harg7.unread x6)

def ldO : Vec F S2048x1024 .bf16 :=
  View.readAt (Elt F) arg8.view (Rect.unit (s := S2048x1024) ![0, 0] S2048x1024.size (by decide)).toLoadRect (harg8.unread x7)

/-- What the stores of a point hold, from the values it loads. -/
def stored (b : Fin 8) : FVec F S1x64x1024 .f32 :=
  normed (resid b (cat (ldR arg2 harg2 arg11 x1 b))
      (k0_pay58 (gated (fun b => k0_pay46 (cat (ldR arg2 harg2 arg11 x1 b)) (ldN arg3 harg3 x2) (ldM arg4 harg4 x3 b) (ldM arg5 harg5 x4 b))
        (ldY arg1 harg1 x0) (ldZ arg7 harg7 x6)) (ldO arg8 harg8 x7)) (ldM arg6 harg6 x5 b))
    (ldN arg9 harg9 x8)

theorem pieces (c : Dev nD) (i : grid0.Coords) (arg10 : Memref sig .tc .vmem S8x64x1024 .f32) (harg10 : arg10.IsWhole) (harg11 : arg11.IsWhole) :
    (kernelRun0_A c i arg1 harg1 arg2 harg2 arg3 harg3 arg4 harg4 arg5 harg5 arg6 harg6 arg7 harg7 arg8 harg8 arg9 harg9 arg10 harg10 arg11 harg11 x0 x1 x2 x3 x4 x5 x6 x7 x8).1
      = (List.finRange 8).reverse.map fun b => ⟨Rect.unit (s := S8x64x1024) ![b.val, 0, 0] S1x64x1024.size (inbO b),
          stored arg1 harg1 arg2 harg2 arg3 harg3 arg4 harg4 arg5 harg5 arg6 harg6 arg7 harg7 arg8 harg8 arg9 harg9 arg11 x0 x1 x2 x3 x4 x5 x6 x7 x8 b⟩ := rfl

end

end Cert.Kernel2Ideal.Gen.GdnOut
-- ==== Proof.GdnOut.lean ====
/- The delta rule's output call: at each grid point block `b` of the kernel is batch `b`'s 64 rows of the output
   (Proof/Gates.lean), and the blocks tile the array, so the array holds it at every row. -/
module

public import Idealize.ShloMosaic.Lib.WholeRead
public import Idealize.ShloMosaic.Lib.Pipeline.Value
public import Idealize.ShloMosaic.Lib.Pipeline.ValueKit
public import proofs.«01_k».proof.Proof.Gates
public import proofs.«01_k».proof.Proof.GdnOutPieces

@[expose] public section

noncomputable section

namespace Cert.Kernel2Ideal.Gen.GdnOut

open Idealize.ShloMosaic Idealize.ShloMosaic.TcCoe Idealize.SL.Sem
open Gates (sg rms gate gdn)

/-! ## The computation at an index -/

/-- Eight pieces of 128 columns side by side. -/
theorem cat8 {α : Type} (x : Fin 8 → (S64x128.Idx → α)) (r : Fin 64) (n : Fin 1024) :
    concatenate S64x1024 1 [⟨S64x128, x 0⟩, ⟨S64x128, x 1⟩, ⟨S64x128, x 2⟩, ⟨S64x128, x 3⟩, ⟨S64x128, x 4⟩, ⟨S64x128, x 5⟩,
      ⟨S64x128, x 6⟩, ⟨S64x128, x 7⟩] concatenates_S64x128_S64x128_S64x128_S64x128_S64x128_S64x128_S64x128_S64x128_S64x1024_d1 (ix2 r n)
      = x ⟨n.val / 128, by omega⟩ (ix2 r ⟨n.val % 128, by omega⟩) := by
  refine concatenate_ofFn_apply (t := S64x1024) (s₁ := S64x128) 1 x _ rfl 128 rfl (ix2 r n) ⟨n.val / 128, by omega⟩ rfl _ rfl fun b hb => ?_
  match b with
  | ⟨0, _⟩ => rfl
  | ⟨1, _⟩ => exact absurd rfl hb

/-- Eight batches of 64 rows one after another, of 1024 columns and of 2048. -/
theorem rows8 {α : Type} (x : Fin 8 → (S64x1024.Idx → α)) (b : Fin 8) (r : Fin 64) (n : Fin 1024) :
    concatenate S512x1024 0 [⟨S64x1024, x 0⟩, ⟨S64x1024, x 1⟩, ⟨S64x1024, x 2⟩, ⟨S64x1024, x 3⟩, ⟨S64x1024, x 4⟩, ⟨S64x1024, x 5⟩,
      ⟨S64x1024, x 6⟩, ⟨S64x1024, x 7⟩] concatenates_S64x1024_S64x1024_S64x1024_S64x1024_S64x1024_S64x1024_S64x1024_S64x1024_S512x1024_d0 (ix2 ⟨b.val * 64 + r.val, by omega⟩ n)
      = x b (ix2 r n) := by
  refine concatenate_ofFn_apply (t := S512x1024) (s₁ := S64x1024) 0 x _ rfl 64 rfl (ix2 _ n) b (by show (b.val * 64 + r.val) / 64 = b.val; omega) _ (by show r.val = (b.val * 64 + r.val) % 64; omega) fun b hb => ?_
  match b with
  | ⟨0, _⟩ => exact absurd rfl hb
  | ⟨1, _⟩ => rfl

theorem rows8' {α : Type} (x : Fin 8 → (S64x2048.Idx → α)) (b : Fin 8) (r : Fin 64) (n : Fin 2048) :
    concatenate S512x2048 0 [⟨S64x2048, x 0⟩, ⟨S64x2048, x 1⟩, ⟨S64x2048, x 2⟩, ⟨S64x2048, x 3⟩, ⟨S64x2048, x 4⟩, ⟨S64x2048, x 5⟩,
      ⟨S64x2048, x 6⟩, ⟨S64x2048, x 7⟩] concatenates_S64x2048_S64x2048_S64x2048_S64x2048_S64x2048_S64x2048_S64x2048_S64x2048_S512x2048_d0 (ix2 ⟨b.val * 64 + r.val, by omega⟩ n)
      = x b (ix2 r n) := by
  refine concatenate_ofFn_apply (t := S512x2048) (s₁ := S64x2048) 0 x _ rfl 64 rfl (ix2 _ n) b (by show (b.val * 64 + r.val) / 64 = b.val; omega) _ (by show r.val = (b.val * 64 + r.val) % 64; omega) fun b hb => ?_
  match b with
  | ⟨0, _⟩ => exact absurd rfl hb
  | ⟨1, _⟩ => rfl

theorem cat_at (s : Fin 8 → FVec Ideal S1x64x128 .f32) (r : Fin 64) (n : Fin 1024) :
    cat (F := Ideal) s (ix2 r n) = s ⟨n.val / 128, by omega⟩ (ix3 0 r ⟨n.val % 128, by omega⟩) :=
  (cat8 (fun i => shapeCast S64x128 (s i) shapeCasts_S1x64x128_S64x128) r n).trans (by pointwise : _ = _)

theorem hid_at (x : FVec Ideal S64x1024 .f32) (nw sc sh : FVec Ideal S1x1024 .f32) (r : Fin 64) (k : Fin 1024) :
    k0_pay46 (F := Ideal) x nw sc sh (ix2 r k)
      = rms (fun n => x (ix2 r n)) (fun n => nw (ix2 0 n)) k * (1 + sc (ix2 0 k)) + sh (ix2 0 k) := by
  pointwise [k0_pay46, rms]

theorem gated_at (h : Fin 8 → FVec Ideal S64x1024 .bf16) (y : Fin 8 → FVec Ideal S64x2048 .bf16) (wz : FVec Ideal S1024x2048 .bf16)
    (b : Fin 8) (r : Fin 64) (l : Fin 2048) (z : EReal) (hz : ∑ k : Fin 1024, h b (ix2 r k) * wz (ix2 k l) = z) :
    gated (F := Ideal) h y wz (ix2 ⟨b.val * 64 + r.val, by omega⟩ l) = y b (ix2 r l) * (z * sg z) := by
  subst hz
  have hh := fun n => rows8 h b r n
  have hy := rows8' y b r l
  unfold gated
  generalize concatenate S512x1024 0 _ _ = w at hh ⊢
  generalize concatenate S512x2048 0 _ _ = v at hy ⊢
  pointwise [sg]
  simp only [hh, hy]

theorem proj_at (v : FVec Ideal S512x2048 .bf16) (w : FVec Ideal S2048x1024 .bf16) (b : Fin 8) (r : Fin 64) (n : Fin 1024) :
    k0_pay58 (F := Ideal) v w (ix3 b r n) = ∑ l : Fin 2048, v (ix2 ⟨b.val * 64 + r.val, by omega⟩ l) * w (ix2 l n) := by
  pointwise [k0_pay58]

theorem resid_at (b : Fin 8) (x : FVec Ideal S64x1024 .f32) (o : FVec Ideal S8x64x1024 .f32) (g : FVec Ideal S1x1024 .f32) (r : Fin 64) (n : Fin 1024) :
    resid (F := Ideal) b x o g (ix2 r n) = x (ix2 r n) + g (ix2 0 n) * o (ix3 b r n) := by
  pointwise [resid]

theorem normed_at (v : FVec Ideal S64x1024 .f32) (w : FVec Ideal S1x1024 .f32) (r : Fin 64) (n : Fin 1024) :
    normed (F := Ideal) v w (ix3 0 r n) = rms (fun n => v (ix2 r n)) (fun n => w (ix2 0 n)) n := by
  pointwise [normed, k0_pay66, rms]

/-! ## The values a point reads -/

section

variable (arg1 : Memref sig .tc .vmem S64x16384 .bf16) (harg1 : arg1.IsWhole) (arg2 : Memref sig .tc .vmem S512x1024 .f32) (harg2 : arg2.IsWhole) (arg3 : Memref sig .tc .vmem S1x1024 .f32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S8x1024 .f32) (harg6 : arg6.IsWhole) (arg7 : Memref sig .tc .vmem S1024x2048 .bf16) (harg7 : arg7.IsWhole) (arg8 : Memref sig .tc .vmem S2048x1024 .bf16) (harg8 : arg8.IsWhole) (arg9 : Memref sig .tc .vmem S1x1024 .f32) (harg9 : arg9.IsWhole) (arg11 : Memref sig .tc .vmem S8x512x128 .f32)
    (x0 : FVec Ideal S64x16384 .bf16) (x1 : FVec Ideal S512x1024 .f32) (x2 : FVec Ideal S1x1024 .f32) (x3 x4 x5 : FVec Ideal S8x1024 .f32)
    (x6 : FVec Ideal S1024x2048 .bf16) (x7 : FVec Ideal S2048x1024 .bf16) (x8 : FVec Ideal S1x1024 .f32)

theorem slab1 (w : FVec Ideal S512x128 .f32) (r : Fin 512) (l : Fin 128) :
    shapeCast S1x512x128 w shapeCasts_S512x128_S1x512x128 (ix3 0 r l) = w (ix2 r l) := by
  pointwise

/-- The slabs hold the block: slab `j` its columns from `128 * j`. -/
theorem slabs_at (y : S8x512x128.Idx) :
    View.canon (slabs (F := Ideal) arg2 harg2 x1) y
      = x1 (ix2 (n0 := 512) (n1 := 1024) (y 1) ⟨128 * (y 0).val + (y 2).val, by have : (y 0).val < 8 := (y 0).isLt; have : (y 2).val < 128 := (y 2).isLt; omega⟩) := by
  refine View.canon_apply_of_pieces (Val := Elt Ideal) (e := .f32) (fun y : S8x512x128.Idx => x1 (ix2 (n0 := 512) (n1 := 1024) (y 1) ⟨128 * (y 0).val + (y 2).val, by have : (y 0).val < 8 := (y 0).isLt; have : (y 2).val < 128 := (y 2).isLt; omega⟩)) _ ?_ y ?_
  · intro p hp x
    obtain ⟨j, -, rfl⟩ := List.mem_map.mp hp
    obtain ⟨a, r, l, rfl⟩ : ∃ (a : Fin 1) (r : Fin 512) (l : Fin 128), x = ix3 a r l := ⟨x 0, x 1, x 2, eq_ix3 x⟩
    obtain rfl : a = 0 := Subsingleton.elim _ _
    refine (slab1 (View.readAt (Elt Ideal) arg2.view (Rect.unit (s := S512x1024) ![0, 128 * j.val] S512x128.size (inbX j)).toLoadRect (harg2.unread x1)) r l).trans
      ((harg2.readAt_unread _ _ _).trans (congrArg x1 (funext fun a => Fin.ext ?_)))
    fin_cases a
    · show 0 + 1 * r.val = 0 + 1 * r.val; rfl
    · show 128 * j.val + 1 * l.val = 128 * (j.val + 1 * 0) + (0 + 1 * l.val); omega
  · refine ⟨_, List.mem_map.mpr ⟨(y 0 : Fin 8), List.mem_reverse.mpr (List.mem_finRange _), rfl⟩, ?_⟩
    refine (Rect.mem_set_unit (inb := inbS (y 0))).mpr fun a => ?_
    have h1 : (y 1).val < 512 := (y 1).isLt
    have h2 : (y 2).val < 128 := (y 2).isLt
    fin_cases a
    · show (y 0).val ≤ (y 0).val ∧ (y 0).val < (y 0).val + 1; omega
    · show 0 ≤ (y 1).val ∧ (y 1).val < 0 + 512; omega
    · show 0 ≤ (y 2).val ∧ (y 2).val < 0 + 128; omega

theorem ldR_at (b j : Fin 8) (r : Fin 64) (l : Fin 128) :
    ldR (F := Ideal) arg2 harg2 arg11 x1 b j (ix3 0 r l) = x1 (ix2 ⟨r.val * 8 + b.val, by omega⟩ ⟨128 * j.val + l.val, by omega⟩) := by
  unfold ldR
  rw [View.readCov_eq_canon']
  refine (slabs_at arg2 harg2 x1 _).trans (congrArg x1 (funext fun a => Fin.ext ?_))
  fin_cases a
  · show b.val + 8 * r.val = r.val * 8 + b.val; omega
  · show 128 * (j.val + 1 * 0) + (0 + 1 * l.val) = 128 * j.val + l.val; omega

/-- Batch `b`'s rows. -/
theorem rows_at (b : Fin 8) (r : Fin 64) (n : Fin 1024) :
    cat (F := Ideal) (ldR arg2 harg2 arg11 x1 b) (ix2 r n) = x1 (ix2 ⟨r.val * 8 + b.val, by omega⟩ n) :=
  (cat_at _ r n).trans ((ldR_at arg2 harg2 arg11 x1 b _ r _).trans
    (congrArg (fun k : Fin 1024 => x1 (ix2 (n0 := 512) ⟨r.val * 8 + b.val, by omega⟩ k)) (Fin.ext (by show 128 * (n.val / 128) + n.val % 128 = n.val; omega))))

theorem ldM_at (arg : Memref sig .tc .vmem S8x1024 .f32) (harg : arg.IsWhole) (x : FVec Ideal S8x1024 .f32) (b : Fin 8) (n : Fin 1024) :
    ldM (F := Ideal) arg harg x b (ix2 0 n) = x (ix2 b n) :=
  (harg.readAt_unread _ _ _).trans (congrArg x (funext fun a => Fin.ext (by
    fin_cases a
    · show b.val + 1 * 0 = b.val; omega
    · show 0 + 1 * n.val = n.val; omega)))

theorem ldN_at (arg : Memref sig .tc .vmem S1x1024 .f32) (harg : arg.IsWhole) (x : FVec Ideal S1x1024 .f32) (n : Fin 1024) :
    ldN (F := Ideal) arg harg x (ix2 0 n) = x (ix2 0 n) :=
  (harg.readAt_unread _ _ _).trans (congrArg x (funext fun a => Fin.ext (by
    fin_cases a
    · rfl
    · show 0 + 1 * n.val = n.val; omega)))

theorem ldY_at (b : Fin 8) (r : Fin 64) (l : Fin 2048) :
    ldY (F := Ideal) arg1 harg1 x0 b (ix2 r l) = x0 (ix2 r ⟨b.val * 2048 + l.val, by omega⟩) :=
  (harg1.readAt_unread _ _ _).trans (congrArg x0 (funext fun a => Fin.ext (by
    fin_cases a
    · show 0 + 1 * r.val = r.val; omega
    · show 2048 * b.val + 1 * l.val = b.val * 2048 + l.val; omega)))

theorem ldZ_at (k : Fin 1024) (l : Fin 2048) : ldZ (F := Ideal) arg7 harg7 x6 (ix2 k l) = x6 (ix2 k l) :=
  (harg7.readAt_unread _ _ _).trans (congrArg x6 (funext fun a => Fin.ext (by
    fin_cases a
    · show 0 + 1 * k.val = k.val; omega
    · show 0 + 1 * l.val = l.val; omega)))

theorem ldO_at (l : Fin 2048) (n : Fin 1024) : ldO (F := Ideal) arg8 harg8 x7 (ix2 l n) = x7 (ix2 l n) :=
  (harg8.readAt_unread _ _ _).trans (congrArg x7 (funext fun a => Fin.ext (by
    fin_cases a
    · show 0 + 1 * l.val = l.val; omega
    · show 0 + 1 * n.val = n.val; omega)))

/-- Row `r` of the block stored for batch `b`, at column `n`. -/
def blk (b : Fin 8) (r : Fin 64) (n : Fin 1024) : EReal :=
  gdn (fun n => x1 (ix2 ⟨r.val * 8 + b.val, by omega⟩ n)) (fun n => x2 (ix2 0 n)) (fun n => x3 (ix2 b n)) (fun n => x4 (ix2 b n)) (fun n => x5 (ix2 b n))
    (fun n => x8 (ix2 0 n)) (fun l => x0 (ix2 r ⟨b.val * 2048 + l.val, by omega⟩)) (fun k l => x6 (ix2 k l)) (fun l n => x7 (ix2 l n)) n

theorem stored_at (b : Fin 8) (r : Fin 64) (n : Fin 1024) :
    stored (F := Ideal) arg1 harg1 arg2 harg2 arg3 harg3 arg4 harg4 arg5 harg5 arg6 harg6 arg7 harg7 arg8 harg8 arg9 harg9 arg11 x0 x1 x2 x3 x4 x5 x6 x7 x8 b (ix3 0 r n)
      = blk x0 x1 x2 x3 x4 x5 x6 x7 x8 b r n := by
  have hg := fun l => gated_at (fun b => k0_pay46 (F := Ideal) (cat (ldR arg2 harg2 arg11 x1 b)) (ldN arg3 harg3 x2) (ldM arg4 harg4 x3 b) (ldM arg5 harg5 x4 b))
    (ldY (F := Ideal) arg1 harg1 x0) (ldZ (F := Ideal) arg7 harg7 x6) b r l (gate (fun n => x1 (ix2 ⟨r.val * 8 + b.val, by omega⟩ n)) (fun n => x2 (ix2 0 n)) (fun n => x3 (ix2 b n)) (fun n => x4 (ix2 b n)) (fun k l => x6 (ix2 k l)) l)
    (Finset.sum_congr rfl fun k _ => by rw [hid_at, ldZ_at]; simp only [rows_at, ldN_at, ldM_at])
  unfold stored blk gdn
  rw [normed_at]
  simp only [resid_at, proj_at, hg, rows_at, ldN_at, ldM_at, ldY_at, ldO_at]

/-- What a point leaves in its block. -/
theorem block_at (c : Dev nD) (i : grid0.Coords) (arg10 : Memref sig .tc .vmem S8x64x1024 .f32) (harg10 : arg10.IsWhole) (harg11 : arg11.IsWhole)
    (b : Fin 8) (r : Fin 64) (n : Fin 1024) :
    out0_A_9 (F := Ideal) c i arg1 harg1 arg2 harg2 arg3 harg3 arg4 harg4 arg5 harg5 arg6 harg6 arg7 harg7 arg8 harg8 arg9 harg9 arg10 harg10 arg11 harg11 x0 x1 x2 x3 x4 x5 x6 x7 x8 (ix3 b r n)
      = blk x0 x1 x2 x3 x4 x5 x6 x7 x8 b r n := by
  unfold out0_A_9
  rw [View.read_writes_junk_eq_canon, pieces]
  refine View.canon_apply_of_pieces (Val := Elt Ideal) (e := .f32) (fun y : S8x64x1024.Idx => blk x0 x1 x2 x3 x4 x5 x6 x7 x8 (y 0) (y 1) (y 2)) _ ?_ _ ?_
  · intro p hp x
    obtain ⟨b, -, rfl⟩ := List.mem_map.mp hp
    obtain ⟨a, r, n, rfl⟩ : ∃ (a : Fin 1) (r : Fin 64) (n : Fin 1024), x = ix3 a r n := ⟨x 0, x 1, x 2, eq_ix3 x⟩
    obtain rfl : a = 0 := Subsingleton.elim _ _
    refine (stored_at arg1 harg1 arg2 harg2 arg3 harg3 arg4 harg4 arg5 harg5 arg6 harg6 arg7 harg7 arg8 harg8 arg9 harg9 arg11 x0 x1 x2 x3 x4 x5 x6 x7 x8 b r n).trans ?_
    congr 1
    · exact Fin.ext (by show r.val = 0 + 1 * r.val; omega)
    · exact Fin.ext (by show n.val = 0 + 1 * n.val; omega)
  · refine ⟨_, List.mem_map.mpr ⟨b, List.mem_reverse.mpr (List.mem_finRange _), rfl⟩, ?_⟩
    refine (Rect.mem_set_unit (inb := inbO b)).mpr fun a => ?_
    fin_cases a
    · show b.val ≤ b.val ∧ b.val < b.val + 1; omega
    · show 0 ≤ r.val ∧ r.val < 0 + 64; omega
    · show 0 ≤ n.val ∧ n.val < 0 + 1024; omega

end

/-! ## The arguments, and the array -/

variable (m : (ℓ : Loc nD τ sig) → Buf (Elt Ideal) ℓ) (c : Dev nD)

def ay (t : Fin 4096) (l : Fin 16384) : EReal := m ((c : Thread nD τ).loc main_arg0) (ix2 t l)
def ax (r : Fin 32768) (n : Fin 1024) : EReal := m ((c : Thread nD τ).loc main_arg1) (ix2 r n)
def an (n : Fin 1024) : EReal := m ((c : Thread nD τ).loc main_arg2) (ix1 n)
def am (b : Fin 16) (n : Fin 3072) : EReal := m ((c : Thread nD τ).loc main_arg3) (ix2 b n)
def az (k : Fin 1024) (l : Fin 6160) : EReal := m ((c : Thread nD τ).loc main_arg4) (ix2 k l)
def ao (l : Fin 2048) (n : Fin 1024) : EReal := m ((c : Thread nD τ).loc main_arg5) (ix2 l n)
def af (n : Fin 1024) : EReal := m ((c : Thread nD τ).loc main_arg6) (ix1 n)

/-- The result of batch `b` at time `t` and column `n`. -/
def at' (b : Fin 8) (t : Fin 4096) (n : Fin 1024) : EReal :=
  gdn (ax m c ⟨t.val * 8 + b.val, by omega⟩) (an m c) (fun n => am m c ⟨8 + b.val, by omega⟩ ⟨1024 + n.val, by omega⟩)
    (fun n => am m c ⟨8 + b.val, by omega⟩ ⟨n.val, by omega⟩) (fun n => am m c ⟨8 + b.val, by omega⟩ ⟨2048 + n.val, by omega⟩) (af m c)
    (fun l => ay m c t ⟨b.val * 2048 + l.val, by omega⟩) (fun k l => az m c k ⟨4096 + l.val, by omega⟩) (ao m c) n

/-- The arrays the host code prepares: the norms' weights as rows, and the projections' weights rounded to bfloat16, which is no change
    at exact values. -/
theorem V_n : V m c main_v1 = (shapeCast S1x1024 (m ((c : Thread nD τ).loc main_arg2) : FVec Ideal S1024 .f32) shapeCasts_S1024_S1x1024 : FVec Ideal S1x1024 .f32) := by
  show StableHlo.after hostOps0 _ (Proc.devRef .tc main_v1) = _
  after_results
  rfl

theorem V_z : V m c main_v2 = (truncf .bf16 (extractStridedSlice S1024x2048 ![0, 4096] (m ((c : Thread nD τ).loc main_arg4) : FVec Ideal S1024x6160 .f32) slices_S1024x6160_S1024x2048_0_4096 : FVec Ideal S1024x2048 .f32) bitsLt_bf16_f32 : FVec Ideal S1024x2048 .bf16) := by
  show StableHlo.after hostOps0 _ (Proc.devRef .tc main_v2) = _
  after_results

theorem V_o : V m c main_v3 = (truncf .bf16 (m ((c : Thread nD τ).loc main_arg5)) bitsLt_bf16_f32 : FVec Ideal S2048x1024 .bf16) := by
  show StableHlo.after hostOps0 _ (Proc.devRef .tc main_v3) = _
  after_results

theorem V_f : V m c main_v4 = (shapeCast S1x1024 (m ((c : Thread nD τ).loc main_arg6) : FVec Ideal S1024 .f32) shapeCasts_S1024_S1x1024 : FVec Ideal S1x1024 .f32) := by
  show StableHlo.after hostOps0 _ (Proc.devRef .tc main_v4) = _
  after_results
  rfl

theorem ix_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 1 ∧ win0_3.index t (1 : Fin 2) = 1)
    ∧ (win0_4.index t (0 : Fin 2) = 1 ∧ win0_4.index t (1 : Fin 2) = 0)
    ∧ (win0_5.index t (0 : Fin 2) = 1 ∧ win0_5.index t (1 : Fin 2) = 2)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 3) = 0 ∧ win0_9.index t (1 : Fin 3) = t.val ∧ win0_9.index t (2 : Fin 3) = 0) :=
  (by decide +kernel : ∀ t : Fin grid0.N, _)

theorem N64 (t : Fin cfg0.N) : t.val < 64 := by have := t.isLt; have : cfg0.N = 64 := N_0; omega

theorem blk_y (t : Fin cfg0.N) (r : Fin 64) (l : Fin 16384) : iblk m c 0 t (ix2 r l) = ay m c ⟨64 * t.val + r.val, by have := N64 t; omega⟩ l := by
  unfold iblk ay
  rw [show V m c (Pipeline.arrRef spec0 0) = m ((c : Thread nD τ).loc main_arg0) from V_main_arg0 m c]
  refine congrArg (m ((c : Thread nD τ).loc main_arg0)) (funext fun a => Fin.ext ?_)
  obtain ⟨⟨e0, e1⟩, -⟩ := ix_facts t
  fin_cases a
  · show win0_0.index t (0 : Fin 2) * 64 + 1 * r.val = 64 * t.val + r.val; omega
  · show win0_0.index t (1 : Fin 2) * 16384 + 1 * l.val = l.val; omega

theorem blk_x (t : Fin cfg0.N) (r : Fin 512) (n : Fin 1024) : iblk m c 1 t (ix2 r n) = ax m c ⟨512 * t.val + r.val, by have := N64 t; omega⟩ n := by
  unfold iblk ax
  rw [show V m c (Pipeline.arrRef spec0 1) = m ((c : Thread nD τ).loc main_arg1) from V_main_arg1 m c]
  refine congrArg (m ((c : Thread nD τ).loc main_arg1)) (funext fun a => Fin.ext ?_)
  obtain ⟨-, ⟨e0, e1⟩, -⟩ := ix_facts t
  fin_cases a
  · show win0_1.index t (0 : Fin 2) * 512 + 1 * r.val = 512 * t.val + r.val; omega
  · show win0_1.index t (1 : Fin 2) * 1024 + 1 * n.val = n.val; omega

theorem blk_sc (t : Fin cfg0.N) (b : Fin 8) (n : Fin 1024) : iblk m c 3 t (ix2 b n) = am m c ⟨8 + b.val, by omega⟩ ⟨1024 + n.val, by omega⟩ := by
  unfold iblk am
  rw [show V m c (Pipeline.arrRef spec0 3) = m ((c : Thread nD τ).loc main_arg3) from V_main_arg3 m c]
  refine congrArg (m ((c : Thread nD τ).loc main_arg3)) (funext fun a => Fin.ext ?_)
  obtain ⟨-, -, -, ⟨e0, e1⟩, -⟩ := ix_facts t
  fin_cases a
  · show win0_3.index t (0 : Fin 2) * 8 + 1 * b.val = 8 + b.val; omega
  · show win0_3.index t (1 : Fin 2) * 1024 + 1 * n.val = 1024 + n.val; omega

theorem blk_sh (t : Fin cfg0.N) (b : Fin 8) (n : Fin 1024) : iblk m c 4 t (ix2 b n) = am m c ⟨8 + b.val, by omega⟩ ⟨n.val, by omega⟩ := by
  unfold iblk am
  rw [show V m c (Pipeline.arrRef spec0 4) = m ((c : Thread nD τ).loc main_arg3) from V_main_arg3 m c]
  refine congrArg (m ((c : Thread nD τ).loc main_arg3)) (funext fun a => Fin.ext ?_)
  obtain ⟨-, -, -, -, ⟨e0, e1⟩, -⟩ := ix_facts t
  fin_cases a
  · show win0_4.index t (0 : Fin 2) * 8 + 1 * b.val = 8 + b.val; omega
  · show win0_4.index t (1 : Fin 2) * 1024 + 1 * n.val = n.val; omega

theorem blk_g (t : Fin cfg0.N) (b : Fin 8) (n : Fin 1024) : iblk m c 5 t (ix2 b n) = am m c ⟨8 + b.val, by omega⟩ ⟨2048 + n.val, by omega⟩ := by
  unfold iblk am
  rw [show V m c (Pipeline.arrRef spec0 5) = m ((c : Thread nD τ).loc main_arg3) from V_main_arg3 m c]
  refine congrArg (m ((c : Thread nD τ).loc main_arg3)) (funext fun a => Fin.ext ?_)
  obtain ⟨-, -, -, -, -, ⟨e0, e1⟩, -⟩ := ix_facts t
  fin_cases a
  · show win0_5.index t (0 : Fin 2) * 8 + 1 * b.val = 8 + b.val; omega
  · show win0_5.index t (1 : Fin 2) * 1024 + 1 * n.val = 2048 + n.val; omega

/-- A row of weights reshaped to one row, read at a column. -/
theorem row1 (x : FVec Ideal S1024 .f32) (n : Fin 1024) : (shapeCast S1x1024 x shapeCasts_S1024_S1x1024 : FVec Ideal S1x1024 .f32) (ix2 0 n) = x (ix1 n) := by
  pointwise

theorem sl_z (x : FVec Ideal S1024x6160 .f32) (k : Fin 1024) (l : Fin 2048) :
    (truncf .bf16 (extractStridedSlice S1024x2048 ![0, 4096] x slices_S1024x6160_S1024x2048_0_4096 : FVec Ideal S1024x2048 .f32) bitsLt_bf16_f32 : FVec Ideal S1024x2048 .bf16) (ix2 k l)
      = x (ix2 k ⟨4096 + l.val, by omega⟩) := by
  pointwise

theorem blk_n (t : Fin cfg0.N) (n : Fin 1024) : iblk m c 2 t (ix2 0 n) = an m c n := by
  refine Eq.trans (congrArg (V m c main_v1) (funext fun a => Fin.ext ?_ : ((cfg0.win 2).blk t).view.emb (ix2 0 n) = (ix2 0 n : S1x1024.Idx))) ((congrFun (V_n m c) _).trans (row1 _ n))
  obtain ⟨-, -, ⟨e0, e1⟩, -⟩ := ix_facts t
  fin_cases a
  · show win0_2.index t (0 : Fin 2) * 1 + 1 * 0 = 0; omega
  · show win0_2.index t (1 : Fin 2) * 1024 + 1 * n.val = n.val; omega

theorem blk_z (t : Fin cfg0.N) (k : Fin 1024) (l : Fin 2048) : iblk m c 6 t (ix2 k l) = az m c k ⟨4096 + l.val, by omega⟩ := by
  refine Eq.trans (congrArg (V m c main_v2) (funext fun a => Fin.ext ?_ : ((cfg0.win 6).blk t).view.emb (ix2 k l) = (ix2 k l : S1024x2048.Idx))) ((congrFun (V_z m c) _).trans (sl_z _ k l))
  obtain ⟨-, -, -, -, -, -, ⟨e0, e1⟩, -⟩ := ix_facts t
  fin_cases a
  · show win0_6.index t (0 : Fin 2) * 1024 + 1 * k.val = k.val; omega
  · show win0_6.index t (1 : Fin 2) * 2048 + 1 * l.val = l.val; omega

theorem blk_o (t : Fin cfg0.N) (l : Fin 2048) (n : Fin 1024) : iblk m c 7 t (ix2 l n) = ao m c l n := by
  refine Eq.trans (congrArg (V m c main_v3) (funext fun a => Fin.ext ?_ : ((cfg0.win 7).blk t).view.emb (ix2 l n) = (ix2 l n : S2048x1024.Idx))) ((congrFun (V_o m c) _).trans rfl)
  obtain ⟨-, -, -, -, -, -, -, ⟨e0, e1⟩, -⟩ := ix_facts t
  fin_cases a
  · show win0_7.index t (0 : Fin 2) * 2048 + 1 * l.val = l.val; omega
  · show win0_7.index t (1 : Fin 2) * 1024 + 1 * n.val = n.val; omega

theorem blk_f (t : Fin cfg0.N) (n : Fin 1024) : iblk m c 8 t (ix2 0 n) = af m c n := by
  refine Eq.trans (congrArg (V m c main_v4) (funext fun a => Fin.ext ?_ : ((cfg0.win 8).blk t).view.emb (ix2 0 n) = (ix2 0 n : S1x1024.Idx))) ((congrFun (V_f m c) _).trans (row1 _ n))
  obtain ⟨-, -, -, -, -, -, -, -, ⟨e0, e1⟩, -⟩ := ix_facts t
  fin_cases a
  · show win0_8.index t (0 : Fin 2) * 1 + 1 * 0 = 0; omega
  · show win0_8.index t (1 : Fin 2) * 1024 + 1 * n.val = n.val; omega

/-- The array the kernel leaves. -/
theorem result : (dats m 0 c).arrAt 9 cfg0.N = fun i : S8x4096x1024.Idx => at' m c (i 0) (i 1) (i 2) := by
  refine (dats m 0 c).arrAt_eq_of_covers 9 _ (by decide +kernel) fun t hf y => ?_
  obtain ⟨b, r, n, rfl⟩ : ∃ (b : Fin 8) (r : Fin 64) (n : Fin 1024), y = ix3 b r n := ⟨y 0, y 1, y 2, eq_ix3 y⟩
  obtain ⟨-, -, -, -, -, -, -, -, -, e0, e1, e2⟩ := ix_facts t
  have ht := N64 t
  have h0 : ((cfg0.win 9).blk t).view.emb (ix3 b r n) 0 = b := Fin.ext (by
    show win0_9.index t (0 : Fin 3) * 8 + 1 * b.val = b.val; omega)
  have h1 : ((cfg0.win 9).blk t).view.emb (ix3 b r n) 1 = (⟨64 * t.val + r.val, by omega⟩ : Fin 4096) := Fin.ext (by
    show win0_9.index t (1 : Fin 3) * 64 + 1 * r.val = 64 * t.val + r.val; omega)
  have h2 : ((cfg0.win 9).blk t).view.emb (ix3 b r n) 2 = n := Fin.ext (by
    show win0_9.index t (2 : Fin 3) * 1024 + 1 * n.val = n.val; omega)
  show (dats m 0 c).after 9 t (ix3 b r n) = at' m c (((cfg0.win 9).blk t).view.emb (ix3 b r n) 0) (((cfg0.win 9).blk t).view.emb (ix3 b r n) 1) (((cfg0.win 9).blk t).view.emb (ix3 b r n) 2)
  rw [h0, h1, h2, after0_9]
  unfold outsAt0
  refine (block_at _ _ _ _ _ _ _ _ _ _ _ _ _ _ _ _ _ _ _ _ _ _ _ _ _ _ _ _ _ _ _ _ _ _ _ _).trans ?_
  unfold blk at'
  simp only [blk_y, blk_x, blk_n, blk_sc, blk_sh, blk_g, blk_z, blk_o, blk_f]
  congr 1
  funext n
  exact congrArg (fun r : Fin 32768 => ax m c r n) (Fin.ext (by show 512 * t.val + (r.val * 8 + b.val) = (64 * t.val + r.val) * 8 + b.val; omega))

end Cert.Kernel2Ideal.Gen.GdnOut
-- ==== Proof.GdnOutRef.lean ====
/- The delta rule's output call's reference: its result, an element at a time, is the formula of Proof/Gates.lean. -/
module

public import proofs.«01_k».proof.Proof.Gates
public import proofs.«01_k».proof.Proof.Gen.Reference2Ideal.Run

@[expose] public section

noncomputable section

namespace Cert.Reference2Ideal.Value

open Cert.Reference2Ideal Cert.Reference2Ideal.Gen
open Idealize.ShloMosaic Idealize.ShloMosaic.TcCoe Idealize.SL.Sem
open Gates (sg rms gate gdn)

/-- The residual stream, batches first. -/
def xv (x1 : FVec Ideal S32768x1024 .f32) : FVec Ideal S8x4096x1024 .f32 :=
  transpose S8x4096x1024 [1, 0, 2] (shapeCast _ x1 shapeCasts_S32768x1024_S4096x8x1024) transposes_S4096x8x1024_S8x4096x1024_1_0_2

theorem xv_at (x1 : FVec Ideal S32768x1024 .f32) (b : Fin 8) (t : Fin 4096) (n : Fin 1024) :
    xv x1 (ix3 b t n) = x1 (ix2 ⟨t.val * 8 + b.val, by omega⟩ n) := by
  pointwise [xv]

/-- The rule's outputs, batches first. -/
def yv (x0 : FVec Ideal S4096x16384 .bf16) : FVec Ideal S8x4096x2048 .f32 :=
  extf .f32 (transpose S8x4096x2048 [1, 0, 2] (shapeCast _ x0 shapeCasts_S4096x16384_S4096x8x2048) transposes_S4096x8x2048_S8x4096x2048_1_0_2) bitsLt_bf16_f32

theorem yv_at (x0 : FVec Ideal S4096x16384 .bf16) (b : Fin 8) (t : Fin 4096) (l : Fin 2048) :
    yv x0 (ix3 b t l) = x0 (ix2 t ⟨b.val * 2048 + l.val, by omega⟩) := by
  pointwise [yv]

/-- The root mean square norm, as the reference spells it. -/
def nrm (x : FVec Ideal S8x4096x1024 .f32) (w : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 w))

theorem nrm_at (x : FVec Ideal S8x4096x1024 .f32) (w : FVec Ideal S1024 .f32) (b : Fin 8) (t : Fin 4096) (n : Fin 1024) :
    nrm x w (ix3 b t n) = rms (fun n => x (ix3 b t n)) (fun n => w (ix1 n)) n := by
  pointwise [nrm, rms]

/-- The layer's part of the modulation. -/
def mv (x3 : FVec Ideal S16x3072 .f32) : FVec Ideal S8x3072 .f32 := extractStridedSlice S8x3072 ![8, 0] x3 slices_S16x3072_S8x3072_8_0

/-- The gate's projection. -/
def zv (x1 : FVec Ideal S32768x1024 .f32) (x2 : FVec Ideal S1024 .f32) (x3 : FVec Ideal S16x3072 .f32) (x4 : FVec Ideal S1024x6160 .f32) : FVec Ideal S8x4096x2048 .f32 :=
  Host.dotGeneral dot_S8x4096x1024_S1024x2048_S8x4096x2048_2_0_01_1_n_n none (addf (mulf (nrm (xv x1) x2) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (mv x3) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (mv x3) slices_S8x3072_S8x1024_0_0)))) (extractStridedSlice S1024x2048 ![0, 4096] x4 slices_S1024x6160_S1024x2048_0_4096)

theorem zv_at (x1 : FVec Ideal S32768x1024 .f32) (x2 : FVec Ideal S1024 .f32) (x3 : FVec Ideal S16x3072 .f32) (x4 : FVec Ideal S1024x6160 .f32)
    (b : Fin 8) (t : Fin 4096) (l : Fin 2048) :
    zv x1 x2 x3 x4 (ix3 b t l)
      = gate (fun n => x1 (ix2 ⟨t.val * 8 + b.val, by omega⟩ n)) (fun n => x2 (ix1 n)) (fun n => x3 (ix2 ⟨8 + b.val, by omega⟩ ⟨1024 + n.val, by omega⟩))
          (fun n => x3 (ix2 ⟨8 + b.val, by omega⟩ ⟨n.val, by omega⟩)) (fun k l => x4 (ix2 k ⟨4096 + l.val, by omega⟩)) l := by
  pointwise [zv, mv]
  simp only [nrm_at, xv_at]
  unfold gate
  rfl

/-- The logistic function of an array, as the reference spells it. -/
def lgs (x : FVec Ideal S8x4096x2048 .f32) : FVec Ideal S8x4096x2048 .f32 :=
  Host.divf (broadcastInDim S8x4096x2048 ![] bcast_S_S8x4096x2048 (constant S_ .f32 0x3F800000#32)) (addf (broadcastInDim S8x4096x2048 ![] bcast_S_S8x4096x2048 (constant S_ .f32 0x3F800000#32)) (Host.exp (Host.negf x)))

theorem lgs_at (x : FVec Ideal S8x4096x2048 .f32) (i : S8x4096x2048.Idx) : lgs x i = sg (x i) := by
  pointwise [lgs, sg]
  rw [show (0 : EReal) - x i = -x i from zero_sub _]

/-- The residual sum. -/
def rv (x0 : FVec Ideal S4096x16384 .bf16) (x1 : FVec Ideal S32768x1024 .f32) (x2 : FVec Ideal S1024 .f32) (x3 : FVec Ideal S16x3072 .f32)
    (x4 : FVec Ideal S1024x6160 .f32) (x5 : FVec Ideal S2048x1024 .f32) : FVec Ideal S8x4096x1024 .f32 :=
  addf (xv x1) (mulf (broadcastInDim S8x4096x1024 ![0, 1, 2] bcast_S8x1x1024_S8x4096x1024_0_1_2 (broadcastInDim S8x1x1024 ![0, 2] bcast_S8x1024_S8x1x1024_0_2 (extractStridedSlice S8x1024 ![0, 2048] (mv x3) slices_S8x3072_S8x1024_0_2048))) (Host.dotGeneral dot_S8x4096x2048_S2048x1024_S8x4096x1024_2_0_01_1_n_n none (mulf (yv x0) (mulf (zv x1 x2 x3 x4) (lgs (zv x1 x2 x3 x4)))) x5))

/-- The result as a function of the arguments. -/
def out (x0 : FVec Ideal S4096x16384 .bf16) (x1 : FVec Ideal S32768x1024 .f32) (x2 : FVec Ideal S1024 .f32) (x3 : FVec Ideal S16x3072 .f32)
    (x4 : FVec Ideal S1024x6160 .f32) (x5 : FVec Ideal S2048x1024 .f32) (x6 : FVec Ideal S1024 .f32) : FVec Ideal S8x4096x1024 .f32 :=
  nrm (rv x0 x1 x2 x3 x4 x5) x6

theorem rv_at (x0 : FVec Ideal S4096x16384 .bf16) (x1 : FVec Ideal S32768x1024 .f32) (x2 : FVec Ideal S1024 .f32) (x3 : FVec Ideal S16x3072 .f32)
    (x4 : FVec Ideal S1024x6160 .f32) (x5 : FVec Ideal S2048x1024 .f32) (b : Fin 8) (t : Fin 4096) (n : Fin 1024) :
    rv x0 x1 x2 x3 x4 x5 (ix3 b t n)
      = xv x1 (ix3 b t n) + x3 (ix2 ⟨8 + b.val, by omega⟩ ⟨2048 + n.val, by omega⟩)
          * ∑ l : Fin 2048, yv x0 (ix3 b t l) * (zv x1 x2 x3 x4 (ix3 b t l) * sg (zv x1 x2 x3 x4 (ix3 b t l))) * x5 (ix2 l n) := by
  pointwise [rv, mv, lgs_at]

theorem out_at (x0 : FVec Ideal S4096x16384 .bf16) (x1 : FVec Ideal S32768x1024 .f32) (x2 : FVec Ideal S1024 .f32) (x3 : FVec Ideal S16x3072 .f32)
    (x4 : FVec Ideal S1024x6160 .f32) (x5 : FVec Ideal S2048x1024 .f32) (x6 : FVec Ideal S1024 .f32) (b : Fin 8) (t : Fin 4096) (n : Fin 1024) :
    out x0 x1 x2 x3 x4 x5 x6 (ix3 b t n)
      = gdn (fun n => x1 (ix2 ⟨t.val * 8 + b.val, by omega⟩ n)) (fun n => x2 (ix1 n)) (fun n => x3 (ix2 ⟨8 + b.val, by omega⟩ ⟨1024 + n.val, by omega⟩))
          (fun n => x3 (ix2 ⟨8 + b.val, by omega⟩ ⟨n.val, by omega⟩)) (fun n => x3 (ix2 ⟨8 + b.val, by omega⟩ ⟨2048 + n.val, by omega⟩)) (fun n => x6 (ix1 n))
          (fun l => x0 (ix2 t ⟨b.val * 2048 + l.val, by omega⟩)) (fun k l => x4 (ix2 k ⟨4096 + l.val, by omega⟩)) (fun l n => x5 (ix2 l n)) n := by
  unfold out gdn
  rw [nrm_at]
  simp only [rv_at, zv_at, yv_at, xv_at]

/-- The reference's run ends at it. -/
theorem res_eq (m : (ℓ : Loc nD τ sig) → Buf (Elt Ideal) ℓ) (c : Dev nD) :
    res_main_v51 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end Cert.Reference2Ideal.Value
-- ==== Proof.S5Out.lean ====
/- The S5 output call: at each grid point the kernel's block is the gated projection of 512 rows (Proof/Gates.lean), and
   the blocks tile the array, so the array holds it at every row. -/
module

public import proofs.«01_k».proof.Proof.Gates
public import proofs.«01_k».proof.Proof.Gen.Kernel3Ideal.Value
public import Idealize.ShloMosaic.Lib.Pipeline.ValueKit

@[expose] public section

noncomputable section

namespace Cert.Kernel3Ideal.Gen.S5Out

open Idealize.ShloMosaic Idealize.ShloMosaic.TcCoe Idealize.SL.Sem
open Gates (sg s5)

/-! ## One block -/

/-- Eight pieces of 256 columns side by side. -/
theorem cat8 {α : Type} (x : Fin 8 → (S512x256.Idx → α)) (r : Fin 512) (l : Fin 2048) :
    concatenate S512x2048 1 [⟨S512x256, x 0⟩, ⟨S512x256, x 1⟩, ⟨S512x256, x 2⟩, ⟨S512x256, x 3⟩, ⟨S512x256, x 4⟩, ⟨S512x256, x 5⟩,
      ⟨S512x256, x 6⟩, ⟨S512x256, x 7⟩] concatenates_S512x256_S512x256_S512x256_S512x256_S512x256_S512x256_S512x256_S512x256_S512x2048_d1 (ix2 r l)
      = x ⟨l.val / 256, by omega⟩ (ix2 r ⟨l.val % 256, by omega⟩) := by
  refine concatenate_ofFn_apply (t := S512x2048) (s₁ := S512x256) 1 x _ rfl 256 rfl (ix2 r l) ⟨l.val / 256, by omega⟩ rfl _ rfl fun b hb => ?_
  match b with
  | ⟨0, _⟩ => rfl
  | ⟨1, _⟩ => exact absurd rfl hb

theorem pay1_at (v28 : FVec Ideal S512x2048 .f32) (v29 : FVec Ideal S512x2048 .bf16) (v41 : FVec Ideal S2048x1024 .bf16)
    (v44 : FVec Ideal S512x1024 .f32) (v46 : FVec Ideal S8x1024 .f32) (r : Fin 512) (n : Fin 1024) :
    k0_pay1 (F := Ideal) v28 v29 v41 v44 v46 (ix2 r n)
      = v44 (ix2 r n) + v46 (ix2 ⟨r.val % 8, Nat.mod_lt _ (by decide)⟩ n)
          * ∑ x, v28 (ix2 r x) * (v29 (ix2 r x) * sg (v29 (ix2 r x))) * v41 (ix2 x n) := by
  pointwise [k0_pay1, sg]

theorem pay2_at (v : Fin 8 → FVec Ideal S1x512x256 .bf16) (v18 : FVec Ideal S2048x2048 .bf16) (r : Fin 512) (n : Fin 2048)
    (q : Fin 2048 → EReal) (hq : ∀ l : Fin 2048, v ⟨l.val / 256, by omega⟩ (ix3 0 r ⟨l.val % 256, by omega⟩) = q l) :
    k0_pay2 (F := Ideal) (v 0) (v 1) (v 2) (v 3) (v 4) (v 5) (v 6) (v 7) v18 (ix2 r n)
      = q n * sg (∑ k, q k * v18 (ix2 k n)) := by
  have hc : ∀ l : Fin 2048, _ = q l := fun l =>
    (cat8 (fun i => shapeCast S512x256 (v i) shapeCasts_S1x512x256_S512x256) r l).trans ((by pointwise : _ = _).trans (hq l))
  unfold k0_pay2
  generalize concatenate S512x2048 1 _ _ = w at hc ⊢
  pointwise [sg]
  simp only [hc]

/-- Slice `k` of the activations' block, as the kernel loads it. -/
def ld (x0 : FVec Ideal S8x512x256 .bf16) (k : Fin 8) : FVec Ideal S1x512x256 .bf16 :=
  View.ld (Val := Elt Ideal) (e' := .bf16) x0 (Rect.unit (s := S8x512x256) ![k.val, 0, 0] S1x512x256.size (by revert k; decide))

theorem ld_at (x0 : FVec Ideal S8x512x256 .bf16) (k : Fin 8) (r : Fin 512) (l : Fin 256) : ld x0 k (ix3 0 r l) = x0 (ix3 k r l) :=
  congrArg x0 (funext fun a => Fin.ext (by
    match a with
    | ⟨0, _⟩ => show k.val + 1 * 0 = k.val; omega
    | ⟨1, _⟩ => show 0 + 1 * r.val = r.val; omega
    | ⟨2, _⟩ => show 0 + 1 * l.val = l.val; omega))

/-- What a point leaves at row `r` and column `n` of its block. -/
theorem block_at (x0 : FVec Ideal S8x512x256 .bf16) (x1 : FVec Ideal S512x2048 .bf16) (x2 : FVec Ideal S512x1024 .f32)
    (x3 : FVec Ideal S8x1024 .f32) (x4 : FVec Ideal S2048x2048 .bf16) (x5 : FVec Ideal S2048x1024 .bf16) (r : Fin 512) (n : Fin 1024) :
    out0_6 (F := Ideal) x0 x1 x2 x3 x4 x5 (ix2 r n)
      = s5 (fun l => x0 (ix3 ⟨l.val / 256, by omega⟩ r ⟨l.val % 256, by omega⟩)) (fun l => x1 (ix2 r l)) (fun k l => x4 (ix2 k l))
          (fun l n => x5 (ix2 l n)) (x2 (ix2 r n)) (x3 (ix2 ⟨r.val % 8, Nat.mod_lt _ (by decide)⟩ n)) n := by
  frame_out
  rw [pay1_at]
  refine congrArg (fun s => x2 (ix2 r n) + x3 (ix2 _ n) * s) (Finset.sum_congr rfl fun l _ => ?_)
  exact congrArg (fun p => p * (x1 (ix2 r l) * sg (x1 (ix2 r l))) * x5 (ix2 l n)) (pay2_at (ld x0) x4 r l _ fun l => ld_at x0 _ r _)

variable (m : (ℓ : Loc nD τ sig) → Buf (Elt Ideal) ℓ) (c : Dev nD)

/-! ## The arguments, and the array -/

def ay (k : Fin 8) (r : Fin 32768) (l : Fin 256) : EReal := m ((c : Thread nD τ).loc main_arg0) (ix3 k r l)
def az (r : Fin 32768) (l : Fin 2048) : EReal := m ((c : Thread nD τ).loc main_arg1) (ix2 r l)
def ax (r : Fin 32768) (n : Fin 1024) : EReal := m ((c : Thread nD τ).loc main_arg2) (ix2 r n)
def am (b : Fin 16) (n : Fin 3072) : EReal := m ((c : Thread nD τ).loc main_arg3) (ix2 b n)
def ag (k l : Fin 2048) : EReal := m ((c : Thread nD τ).loc main_arg4) (ix2 k l)
def ao (l : Fin 2048) (n : Fin 1024) : EReal := m ((c : Thread nD τ).loc main_arg5) (ix2 l n)

/-- The result at row `r` and column `n`. -/
def at' (r : Fin 32768) (n : Fin 1024) : EReal :=
  s5 (fun l => ay m c ⟨l.val / 256, by omega⟩ r ⟨l.val % 256, by omega⟩) (az m c r) (ag m c) (ao m c) (ax m c r n)
    (am m c ⟨r.val % 8, by omega⟩ ⟨2048 + n.val, by omega⟩) n

/-- The weights reach the kernel rounded to bfloat16, which is no change at exact values. -/
theorem V_g : V m c main_v0 = (truncf .bf16 (m ((c : Thread nD τ).loc main_arg4)) bitsLt_bf16_f32 : FVec Ideal S2048x2048 .bf16) := by
  show StableHlo.after hostOps0 _ (Proc.devRef .tc main_v0) = _
  after_results

theorem V_o : V m c main_v1 = (truncf .bf16 (m ((c : Thread nD τ).loc main_arg5)) bitsLt_bf16_f32 : FVec Ideal S2048x1024 .bf16) := by
  show StableHlo.after hostOps0 _ (Proc.devRef .tc main_v1) = _
  after_results

theorem ix_facts : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 2)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Row `r` of the block of point `t`. -/
def row (t : Fin cfg0.N) (r : Fin 512) : Fin 32768 := ⟨512 * t.val + r.val, by have := t.isLt; have : cfg0.N = 64 := N_0; omega⟩

theorem blk_y (t : Fin cfg0.N) (k : Fin 8) (r : Fin 512) (l : Fin 256) : iblk m c 0 t (ix3 k r l) = ay m c k (row t r) l := by
  unfold iblk ay
  rw [show V m c (Pipeline.arrRef spec0 0) = m ((c : Thread nD τ).loc main_arg0) from V_main_arg0 m c]
  refine congrArg (m ((c : Thread nD τ).loc main_arg0)) (funext fun a => Fin.ext ?_)
  obtain ⟨⟨e0, e1, e2⟩, -⟩ := ix_facts t
  fin_cases a
  · show win0_0.index t (0 : Fin 3) * 8 + 1 * k.val = k.val; omega
  · show win0_0.index t (1 : Fin 3) * 512 + 1 * r.val = 512 * t.val + r.val; omega
  · show win0_0.index t (2 : Fin 3) * 256 + 1 * l.val = l.val; omega

theorem blk_z (t : Fin cfg0.N) (r : Fin 512) (l : Fin 2048) : iblk m c 1 t (ix2 r l) = az m c (row t r) l := by
  unfold iblk az
  rw [show V m c (Pipeline.arrRef spec0 1) = m ((c : Thread nD τ).loc main_arg1) from V_main_arg1 m c]
  refine congrArg (m ((c : Thread nD τ).loc main_arg1)) (funext fun a => Fin.ext ?_)
  obtain ⟨-, ⟨e0, e1⟩, -⟩ := ix_facts t
  fin_cases a
  · show win0_1.index t (0 : Fin 2) * 512 + 1 * r.val = 512 * t.val + r.val; omega
  · show win0_1.index t (1 : Fin 2) * 2048 + 1 * l.val = l.val; omega

theorem blk_x (t : Fin cfg0.N) (r : Fin 512) (n : Fin 1024) : iblk m c 2 t (ix2 r n) = ax m c (row t r) n := by
  unfold iblk ax
  rw [show V m c (Pipeline.arrRef spec0 2) = m ((c : Thread nD τ).loc main_arg2) from V_main_arg2 m c]
  refine congrArg (m ((c : Thread nD τ).loc main_arg2)) (funext fun a => Fin.ext ?_)
  obtain ⟨-, -, ⟨e0, e1⟩, -⟩ := ix_facts t
  fin_cases a
  · show win0_2.index t (0 : Fin 2) * 512 + 1 * r.val = 512 * t.val + r.val; omega
  · show win0_2.index t (1 : Fin 2) * 1024 + 1 * n.val = n.val; omega

theorem blk_m (t : Fin cfg0.N) (b : Fin 8) (n : Fin 1024) :
    iblk m c 3 t (ix2 b n) = am m c ⟨b.val, by omega⟩ ⟨2048 + n.val, by omega⟩ := by
  unfold iblk am
  rw [show V m c (Pipeline.arrRef spec0 3) = m ((c : Thread nD τ).loc main_arg3) from V_main_arg3 m c]
  refine congrArg (m ((c : Thread nD τ).loc main_arg3)) (funext fun a => Fin.ext ?_)
  obtain ⟨-, -, -, ⟨e0, e1⟩, -⟩ := ix_facts t
  fin_cases a
  · show win0_3.index t (0 : Fin 2) * 8 + 1 * b.val = b.val; omega
  · show win0_3.index t (1 : Fin 2) * 1024 + 1 * n.val = 2048 + n.val; omega

theorem blk_g (t : Fin cfg0.N) (k l : Fin 2048) : iblk m c 4 t (ix2 k l) = ag m c k l := by
  unfold iblk ag
  rw [show V m c (Pipeline.arrRef spec0 4) = _ from V_g m c]
  refine congrArg (m ((c : Thread nD τ).loc main_arg4)) (funext fun a => Fin.ext ?_)
  obtain ⟨-, -, -, -, ⟨e0, e1⟩, -⟩ := ix_facts t
  fin_cases a
  · show win0_4.index t (0 : Fin 2) * 2048 + 1 * k.val = k.val; omega
  · show win0_4.index t (1 : Fin 2) * 2048 + 1 * l.val = l.val; omega

theorem blk_o (t : Fin cfg0.N) (l : Fin 2048) (n : Fin 1024) : iblk m c 5 t (ix2 l n) = ao m c l n := by
  unfold iblk ao
  rw [show V m c (Pipeline.arrRef spec0 5) = _ from V_o m c]
  refine congrArg (m ((c : Thread nD τ).loc main_arg5)) (funext fun a => Fin.ext ?_)
  obtain ⟨-, -, -, -, -, ⟨e0, e1⟩, -⟩ := ix_facts t
  fin_cases a
  · show win0_5.index t (0 : Fin 2) * 2048 + 1 * l.val = l.val; omega
  · show win0_5.index t (1 : Fin 2) * 1024 + 1 * n.val = n.val; omega

/-- The array the kernel leaves. -/
theorem result : (dats m 0 c).arrAt 6 cfg0.N = fun i : S32768x1024.Idx => at' m c (i 0) (i 1) := by
  refine (dats m 0 c).arrAt_eq_of_covers 6 _ (by decide +kernel) fun t hf y => ?_
  obtain ⟨r, n, rfl⟩ : ∃ (r : Fin 512) (n : Fin 1024), y = ix2 r n := ⟨y 0, y 1, eq_ix2 y⟩
  obtain ⟨-, -, -, -, -, -, e0, e1⟩ := ix_facts t
  have h0 : ((cfg0.win 6).blk t).view.emb (ix2 r n) 0 = row t r := Fin.ext (by
    show win0_6.index t (0 : Fin 2) * 512 + 1 * r.val = 512 * t.val + r.val; omega)
  have h1 : ((cfg0.win 6).blk t).view.emb (ix2 r n) 1 = n := Fin.ext (by
    show win0_6.index t (1 : Fin 2) * 1024 + 1 * n.val = n.val; omega)
  show (dats m 0 c).after 6 t (ix2 r n) = at' m c (((cfg0.win 6).blk t).view.emb (ix2 r n) 0) (((cfg0.win 6).blk t).view.emb (ix2 r n) 1)
  rw [h0, h1, after0_6, block_at]
  simp only [blk_y, blk_z, blk_x, blk_m, blk_g, blk_o]
  unfold at'
  congr 2
  exact Fin.ext (by show r.val % 8 = (512 * t.val + r.val) % 8; omega)

end Cert.Kernel3Ideal.Gen.S5Out
-- ==== Proof.S5OutRef.lean ====
/- The S5 output call's reference: its result, an element at a time, is the formula of Proof/Gates.lean. -/
module

public import proofs.«01_k».proof.Proof.Gates
public import proofs.«01_k».proof.Proof.Gen.Reference3Ideal.Run

@[expose] public section

noncomputable section

namespace Cert.Reference3Ideal.Value

open Cert.Reference3Ideal Cert.Reference3Ideal.Gen
open Idealize.ShloMosaic Idealize.ShloMosaic.TcCoe Idealize.SL.Sem
open Gates (sg s5)

/-- The activations, the eight slices of 256 columns beside one another. -/
def yv (x0 : FVec Ideal S8x32768x256 .bf16) : FVec Ideal S32768x2048 .f32 :=
  shapeCast _ (transpose S32768x8x256 [1, 0, 2] (extf .f32 x0 bitsLt_bf16_f32) transposes_S8x32768x256_S32768x8x256_1_0_2) shapeCasts_S32768x8x256_S32768x2048

theorem yv_at (x0 : FVec Ideal S8x32768x256 .bf16) (r : Fin 32768) (l : Fin 2048) :
    yv x0 (ix2 r l) = x0 (ix3 ⟨l.val / 256, by omega⟩ r ⟨l.val % 256, by omega⟩) := by
  pointwise [yv]

/-- The logistic function of an array, as the reference spells it. -/
def sig (x : FVec Ideal S32768x2048 .f32) : FVec Ideal S32768x2048 .f32 :=
  Host.divf (broadcastInDim S32768x2048 ![] bcast_S_S32768x2048 (constant S_ .f32 0x3F800000#32)) (addf (broadcastInDim S32768x2048 ![] bcast_S_S32768x2048 (constant S_ .f32 0x3F800000#32)) (Host.exp (Host.negf x)))

theorem sig_at (x : FVec Ideal S32768x2048 .f32) (i : S32768x2048.Idx) : sig x i = sg (x i) := by
  pointwise [sig, sg]
  rw [show (0 : EReal) - x i = -x i from zero_sub _]

/-- The gated activations. -/
def gated (x0 : FVec Ideal S8x32768x256 .bf16) (x1 : FVec Ideal S32768x2048 .bf16) (x4 : FVec Ideal S2048x2048 .f32) : FVec Ideal S32768x2048 .f32 :=
  mulf (mulf (yv x0) (sig (Host.dotGeneral dot_S32768x2048_S2048x2048_S32768x2048_1_0_0_1_n_n none (yv x0) x4)))
    (mulf (extf .f32 x1 bitsLt_bf16_f32) (sig (extf .f32 x1 bitsLt_bf16_f32)))

theorem gated_at (x0 : FVec Ideal S8x32768x256 .bf16) (x1 : FVec Ideal S32768x2048 .bf16) (x4 : FVec Ideal S2048x2048 .f32) (r : Fin 32768) (l : Fin 2048) :
    gated x0 x1 x4 (ix2 r l) = yv x0 (ix2 r l) * sg (∑ k : Fin 2048, yv x0 (ix2 r k) * x4 (ix2 k l)) * (x1 (ix2 r l) * sg (x1 (ix2 r l))) := by
  pointwise [gated, sig_at]

/-- The result as a function of the arguments. -/
def out (x0 : FVec Ideal S8x32768x256 .bf16) (x1 : FVec Ideal S32768x2048 .bf16) (x2 : FVec Ideal S32768x1024 .f32) (x3 : FVec Ideal S16x3072 .f32)
    (x4 : FVec Ideal S2048x2048 .f32) (x5 : FVec Ideal S2048x1024 .f32) : FVec Ideal S32768x1024 .f32 :=
  shapeCast _ (addf (shapeCast _ x2 shapeCasts_S32768x1024_S4096x8x1024) (mulf (broadcastInDim S4096x8x1024 ![0, 1, 2] bcast_S1x8x1024_S4096x8x1024_0_1_2 (broadcastInDim S1x8x1024 ![1, 2] bcast_S8x1024_S1x8x1024_1_2 (extractStridedSlice S8x1024 ![0, 2048] x3 slices_S16x3072_S8x1024_0_2048)))
    (shapeCast _ (Host.dotGeneral dot_S32768x2048_S2048x1024_S32768x1024_1_0_0_1_n_n none (gated x0 x1 x4) x5) shapeCasts_S32768x1024_S4096x8x1024))) shapeCasts_S4096x8x1024_S32768x1024

theorem out_at (x0 : FVec Ideal S8x32768x256 .bf16) (x1 : FVec Ideal S32768x2048 .bf16) (x2 : FVec Ideal S32768x1024 .f32) (x3 : FVec Ideal S16x3072 .f32)
    (x4 : FVec Ideal S2048x2048 .f32) (x5 : FVec Ideal S2048x1024 .f32) (r : Fin 32768) (n : Fin 1024) :
    out x0 x1 x2 x3 x4 x5 (ix2 r n)
      = s5 (fun l => x0 (ix3 ⟨l.val / 256, by omega⟩ r ⟨l.val % 256, by omega⟩)) (fun l => x1 (ix2 r l)) (fun k l => x4 (ix2 k l))
          (fun l n => x5 (ix2 l n)) (x2 (ix2 r n)) (x3 (ix2 ⟨r.val % 8, by omega⟩ ⟨2048 + n.val, by omega⟩)) n := by
  pointwise [out]
  simp only [gated_at, yv_at]
  rfl

end Cert.Reference3Ideal.Value
-- ==== Proof.S5InPieces.lean ====
/- The stores of one grid point of the S5 input call. The point copies its eight batches' rows into eight slabs of 128
   columns, batch `b` at every eighth row, and reads the slabs back whole: the rows, time by time. It stores them, and the
   two halves of their projection, the first in eight tiles: each named here once. -/
module

public import proofs.«01_k».proof.Proof.Gen.Kernel4Ideal.Value

@[expose] public section

set_option maxRecDepth 16384

noncomputable section

namespace Cert.Kernel4Ideal.Gen.S5In

open Idealize.ShloMosaic Idealize.ShloMosaic.TcCoe Idealize.SL.Sem

variable {F : FTy → Type} [FloatOps F]

theorem inbX (j b : Fin 8) : ∀ a, (![b.val, 0, 128 * j.val] : Fin 3 → ℕ) a + S1x64x128.size a ≤ S8x64x1024.size a := by revert j b; decide

theorem inbS (j b : Fin 8) : ∀ a, S1x64x128.size a = 0 ∨ (![j.val, b.val, 0] : Fin 3 → ℕ) a + (![1, 8, 1] : Fin 3 → ℕ) a * (S1x64x128.size a - 1) < S8x512x128.size a := by
  revert j b; decide

theorem inbR (j : Fin 8) : ∀ a, (![j.val, 0, 0] : Fin 3 → ℕ) a + S1x512x128.size a ≤ S8x512x128.size a := by revert j; decide

theorem inbW (h : Fin 2) : ∀ a, (![0, 2048 * h.val] : Fin 2 → ℕ) a + S1024x2048.size a ≤ S1024x4096.size a := by revert h; decide

theorem inbU (k : Fin 8) : ∀ a, (![k.val, 0, 0] : Fin 3 → ℕ) a + S1x512x256.size a ≤ S8x512x256.size a := by revert k; decide

theorem slU (k : Fin 8) : S512x2048.Slices ![0, 256 * k.val] S512x256 := ⟨rfl, by revert k; decide⟩

/-! ## The computation, from the values read -/

/-- The rows, from the slabs. -/
def cat (s : Fin 8 → Vec F S1x512x128 .f32) : FVec F S512x1024 .f32 :=
  k0_pay71 (k0_pay69 (s 0)) (k0_pay70 (s 1)) (s 2) (s 3) (s 4) (s 5) (s 6) (s 7)

/-- The rows normalised and modulated. -/
def hid (s : Fin 8 → Vec F S1x512x128 .f32) (nw : Vec F S1x1024 .f32) (sc sh : Vec F S8x1024 .f32) : FVec F S512x1024 .bf16 :=
  k0_pay73 sc sh (k0_pay72 (k0_pay69 (s 0)) (k0_pay70 (s 1)) (s 2) (s 3) (s 4) (s 5) (s 6) (s 7) nw)

/-- Tile `k` of the projection's first half, as stored. -/
def tile (k : Fin 8) (u : FVec F S512x2048 .bf16) : FVec F S1x512x256 .bf16 :=
  shapeCast S1x512x256 (extractStridedSlice S512x256 ![0, 256 * k.val] u (slU k)) shapeCasts_S512x256_S1x512x256

/-! ## The stores -/

section

variable (arg1 : Memref sig .tc .vmem S8x64x1024 .f32) (harg1 : arg1.IsWhole) (arg2 : Memref sig .tc .vmem S1x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1024x4096 .bf16) (harg5 : arg5.IsWhole) (arg9 : Memref sig .tc .vmem S8x512x128 .f32)
    (x0 : Vec F S8x64x1024 .f32) (x1 : Vec F S1x1024 .f32) (x2 x3 : Vec F S8x1024 .f32) (x4 : Vec F S1024x4096 .bf16)

/-- Columns `128 * j` on of batch `b`'s rows, as loaded. -/
def ldX (j b : Fin 8) : Vec F S1x64x128 .f32 :=
  View.readAt (Elt F) arg1.view (Rect.unit (s := S8x64x1024) ![b.val, 0, 128 * j.val] S1x64x128.size (inbX j b)).toLoadRect (harg1.unread x0)

/-- The store of batch `b`'s part of slab `j`. -/
def slab (j b : Fin 8) : View.Piece (Elt F) S8x512x128 .f32 :=
  ⟨⟨(⟨![j.val, b.val, 0], S1x64x128.size, ![1, 8, 1], inbS j b⟩ : LoadRect S8x512x128), spos_1_8_1⟩,
    shapeCast S1x64x128 (shapeCast S64x128 (ldX arg1 harg1 x0 j b) shapeCasts_S1x64x128_S64x128) shapeCasts_S64x128_S1x64x128⟩

/-- The slabs as stored, the last first. -/
def slabs : List (View.Piece (Elt F) S8x512x128 .f32) :=
  (List.finRange 64).reverse.map fun i => slab arg1 harg1 x0 ⟨i.val / 8, by omega⟩ ⟨i.val % 8, by omega⟩

def ldS (j : Fin 8) : Vec F S1x512x128 .f32 :=
  arg9.view.readCov (slabs arg1 harg1 x0) (Rect.unit (s := S8x512x128) ![j.val, 0, 0] S1x512x128.size (inbR j)).toLoadRect

def ldN : Vec F S1x1024 .f32 :=
  View.readAt (Elt F) arg2.view (Rect.unit (s := S1x1024) ![0, 0] S1x1024.size (by decide)).toLoadRect (harg2.unread x1)

def ldM (arg : Memref sig .tc .vmem S8x1024 .f32) (harg : arg.IsWhole) (x : Vec F S8x1024 .f32) : Vec F S8x1024 .f32 :=
  View.readAt (Elt F) arg.view (Rect.unit (s := S8x1024) ![0, 0] S8x1024.size (by decide)).toLoadRect (harg.unread x)

/-- Half `h` of the weights' columns. -/
def ldW (h : Fin 2) : Vec F S1024x2048 .bf16 :=
  View.readAt (Elt F) arg5.view (Rect.unit (s := S1024x4096) ![0, 2048 * h.val] S1024x2048.size (inbW h)).toLoadRect (harg5.unread x4)

/-- Half `h` of the projection. -/
def half (h : Fin 2) : FVec F S512x2048 .bf16 :=
  k0_pay4 (hid (ldS arg1 harg1 arg9 x0) (ldN arg2 harg2 x1) (ldM arg3 harg3 x2) (ldM arg4 harg4 x3)) (ldW arg5 harg5 x4 h)

variable (c : Dev nD) (i : grid0.Coords) (arg6 : Memref sig .tc .vmem S512x1024 .f32) (harg6 : arg6.IsWhole) (arg7 : Memref sig .tc .vmem S8x512x256 .bf16) (harg7 : arg7.IsWhole) (arg8 : Memref sig .tc .vmem S512x2048 .bf16) (harg8 : arg8.IsWhole) (harg9 : arg9.IsWhole)

theorem pieces5 :
    (kernelRun0_A c i arg1 harg1 arg2 harg2 arg3 harg3 arg4 harg4 arg5 harg5 arg6 harg6 arg7 harg7 arg8 harg8 arg9 harg9 x0 x1 x2 x3 x4).1
      = [⟨Rect.unit (s := S512x1024) ![0, 0] S512x1024.size (by decide), cat (ldS arg1 harg1 arg9 x0)⟩] := rfl

theorem pieces6 :
    (kernelRun0_A c i arg1 harg1 arg2 harg2 arg3 harg3 arg4 harg4 arg5 harg5 arg6 harg6 arg7 harg7 arg8 harg8 arg9 harg9 x0 x1 x2 x3 x4).2.1
      = (List.finRange 8).reverse.map fun k => ⟨Rect.unit (s := S8x512x256) ![k.val, 0, 0] S1x512x256.size (inbU k),
          tile k (half arg1 harg1 arg2 harg2 arg3 harg3 arg4 harg4 arg5 harg5 arg9 x0 x1 x2 x3 x4 0)⟩ := rfl

theorem pieces7 :
    (kernelRun0_A c i arg1 harg1 arg2 harg2 arg3 harg3 arg4 harg4 arg5 harg5 arg6 harg6 arg7 harg7 arg8 harg8 arg9 harg9 x0 x1 x2 x3 x4).2.2.1
      = [⟨Rect.unit (s := S512x2048) ![0, 0] S512x2048.size (by decide),
          half arg1 harg1 arg2 harg2 arg3 harg3 arg4 harg4 arg5 harg5 arg9 x0 x1 x2 x3 x4 1⟩] := rfl

end

end Cert.Kernel4Ideal.Gen.S5In
-- ==== Proof.S5In.lean ====
/- The S5 input call: at each grid point the kernel's three blocks are 512 rows of the batches interleaved, and the two halves
   of their projection (Proof/Gates.lean); the blocks tile the arrays, so the arrays hold them at every row. -/
module

public import Idealize.ShloMosaic.Lib.WholeRead
public import Idealize.ShloMosaic.Lib.Pipeline.Value
public import Idealize.ShloMosaic.Lib.Pipeline.ValueKit
public import proofs.«01_k».proof.Proof.Gates
public import proofs.«01_k».proof.Proof.S5InPieces

@[expose] public section

noncomputable section

namespace Cert.Kernel4Ideal.Gen.S5In

open Idealize.ShloMosaic Idealize.ShloMosaic.TcCoe Idealize.SL.Sem
open Gates (rms gate)

/-! ## The computation at an index -/

/-- Eight pieces of 128 columns side by side. -/
theorem cat8 {α : Type} (x : Fin 8 → (S512x128.Idx → α)) (r : Fin 512) (n : Fin 1024) :
    concatenate S512x1024 1 [⟨S512x128, x 0⟩, ⟨S512x128, x 1⟩, ⟨S512x128, x 2⟩, ⟨S512x128, x 3⟩, ⟨S512x128, x 4⟩, ⟨S512x128, x 5⟩,
      ⟨S512x128, x 6⟩, ⟨S512x128, x 7⟩] concatenates_S512x128_S512x128_S512x128_S512x128_S512x128_S512x128_S512x128_S512x128_S512x1024_d1 (ix2 r n)
      = x ⟨n.val / 128, by omega⟩ (ix2 r ⟨n.val % 128, by omega⟩) := by
  refine concatenate_ofFn_apply (t := S512x1024) (s₁ := S512x128) 1 x _ rfl 128 rfl (ix2 r n) ⟨n.val / 128, by omega⟩ rfl _ rfl fun b hb => ?_
  match b with
  | ⟨0, _⟩ => rfl
  | ⟨1, _⟩ => exact absurd rfl hb

theorem cat_at (s : Fin 8 → FVec Ideal S1x512x128 .f32) (r : Fin 512) (n : Fin 1024) :
    cat (F := Ideal) s (ix2 r n) = s ⟨n.val / 128, by omega⟩ (ix3 0 r ⟨n.val % 128, by omega⟩) :=
  (cat8 (fun i => shapeCast S512x128 (s i) shapeCasts_S1x512x128_S512x128) r n).trans (by pointwise : _ = _)

theorem nrm_at (v321 v323 : FVec Ideal S512x128 .f32) (v324 v326 v328 v330 v332 v334 : FVec Ideal S1x512x128 .f32) (nw : FVec Ideal S1x1024 .f32)
    (t : Fin 64) (b : Fin 8) (k : Fin 1024) :
    k0_pay72 (F := Ideal) v321 v323 v324 v326 v328 v330 v332 v334 nw (ix3 t b k)
      = rms (fun n => k0_pay71 (F := Ideal) v321 v323 v324 v326 v328 v330 v332 v334 (ix2 ⟨t.val * 8 + b.val, by omega⟩ n)) (fun n => nw (ix2 0 n)) k := by
  unfold k0_pay72
  generalize k0_pay71 (F := Ideal) v321 v323 v324 v326 v328 v330 v332 v334 = w
  pointwise [rms]

theorem mod_at (sc sh : FVec Ideal S8x1024 .f32) (x : FVec Ideal S64x8x1024 .f32) (r : Fin 512) (k : Fin 1024) :
    k0_pay73 (F := Ideal) sc sh x (ix2 r k)
      = x (ix3 ⟨r.val / 8, by omega⟩ ⟨r.val % 8, by omega⟩ k) * (1 + sc (ix2 ⟨r.val % 8, by omega⟩ k)) + sh (ix2 ⟨r.val % 8, by omega⟩ k) := by
  pointwise [k0_pay73]

theorem hid_at (s : Fin 8 → FVec Ideal S1x512x128 .f32) (nw : FVec Ideal S1x1024 .f32) (sc sh : FVec Ideal S8x1024 .f32) (r : Fin 512) (k : Fin 1024) :
    hid (F := Ideal) s nw sc sh (ix2 r k)
      = rms (fun n => cat (F := Ideal) s (ix2 r n)) (fun n => nw (ix2 0 n)) k * (1 + sc (ix2 ⟨r.val % 8, by omega⟩ k)) + sh (ix2 ⟨r.val % 8, by omega⟩ k) := by
  unfold hid
  rw [mod_at, nrm_at]
  have e : (⟨r.val / 8 * 8 + r.val % 8, by omega⟩ : Fin 512) = r := Fin.ext (by show r.val / 8 * 8 + r.val % 8 = r.val; omega)
  show rms (fun n => cat (F := Ideal) s (ix2 (⟨r.val / 8 * 8 + r.val % 8, by omega⟩ : Fin 512) n)) _ k * _ + _ = _
  rw [e]

theorem proj_at (h : FVec Ideal S512x1024 .bf16) (w : FVec Ideal S1024x2048 .bf16) (r : Fin 512) (l : Fin 2048) :
    k0_pay4 (F := Ideal) h w (ix2 r l) = ∑ k : Fin 1024, h (ix2 r k) * w (ix2 k l) := by
  pointwise [k0_pay4]

theorem tile_at (k : Fin 8) (u : FVec Ideal S512x2048 .bf16) (r : Fin 512) (l : Fin 256) :
    tile (F := Ideal) k u (ix3 0 r l) = u (ix2 r ⟨k.val * 256 + l.val, by omega⟩) := by
  have e : (⟨k.val * 256 + l.val, by omega⟩ : Fin 2048) = ⟨256 * k.val + l.val, by omega⟩ := Fin.ext (by show k.val * 256 + l.val = 256 * k.val + l.val; omega)
  rw [e]
  pointwise [tile]

/-! ## The values a point reads -/

section

variable (arg1 : Memref sig .tc .vmem S8x64x1024 .f32) (harg1 : arg1.IsWhole) (arg2 : Memref sig .tc .vmem S1x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1024x4096 .bf16) (harg5 : arg5.IsWhole) (arg9 : Memref sig .tc .vmem S8x512x128 .f32)
    (x0 : FVec Ideal S8x64x1024 .f32) (x1 : FVec Ideal S1x1024 .f32) (x2 x3 : FVec Ideal S8x1024 .f32) (x4 : FVec Ideal S1024x4096 .bf16)

theorem slab1 (w : FVec Ideal S1x64x128 .f32) (r : Fin 64) (l : Fin 128) :
    (shapeCast S1x64x128 (shapeCast S64x128 w shapeCasts_S1x64x128_S64x128 : FVec Ideal S64x128 .f32) shapeCasts_S64x128_S1x64x128 : FVec Ideal S1x64x128 .f32) (ix3 0 r l) = w (ix3 0 r l) := by
  pointwise

theorem ldX_at (j b : Fin 8) (r : Fin 64) (l : Fin 128) :
    ldX (F := Ideal) arg1 harg1 x0 j b (ix3 0 r l) = x0 (ix3 b r ⟨128 * j.val + l.val, by omega⟩) :=
  (harg1.readAt_unread _ _ _).trans (congrArg x0 (funext fun a => Fin.ext (by
    fin_cases a
    · show b.val + 1 * 0 = b.val; omega
    · show 0 + 1 * r.val = r.val; omega
    · show 128 * j.val + 1 * l.val = 128 * j.val + l.val; omega)))

/-- What the slabs hold: row `8 * t + b` of slab `j` is batch `b`'s row `t`, columns `128 * j` on. -/
def held (x0 : FVec Ideal S8x64x1024 .f32) (j : Fin 8) (q : Fin 512) (l : Fin 128) : EReal :=
  x0 (ix3 ⟨q.val % 8, by omega⟩ ⟨q.val / 8, by omega⟩ ⟨128 * j.val + l.val, by omega⟩)

theorem slabs_at (j : Fin 8) (q : Fin 512) (l : Fin 128) :
    View.canon (slabs (F := Ideal) arg1 harg1 x0) (ix3 j q l) = held x0 j q l := by
  refine View.canon_apply_of_pieces (Val := Elt Ideal) (e := .f32) (fun y : S8x512x128.Idx => held x0 (y 0) (y 1) (y 2)) _ ?_ _ ?_
  · intro p hp x
    obtain ⟨i, -, rfl⟩ := List.mem_map.mp hp
    obtain ⟨a, r, l, rfl⟩ : ∃ (a : Fin 1) (r : Fin 64) (l : Fin 128), x = ix3 a r l := ⟨x 0, x 1, x 2, eq_ix3 x⟩
    obtain rfl : a = 0 := Subsingleton.elim _ _
    refine ((slab1 (ldX (F := Ideal) arg1 harg1 x0 _ _) r l).trans (ldX_at arg1 harg1 x0 _ _ r l)).trans (congrArg x0 (funext fun a => Fin.ext ?_))
    fin_cases a
    · show i.val % 8 = (i.val % 8 + 8 * r.val) % 8; omega
    · show r.val = (i.val % 8 + 8 * r.val) / 8; omega
    · show 128 * (i.val / 8) + l.val = 128 * (i.val / 8 + 1 * 0) + (0 + 1 * l.val); omega
  · refine ⟨_, List.mem_map.mpr ⟨⟨j.val * 8 + q.val % 8, by omega⟩, List.mem_reverse.mpr (List.mem_finRange _), rfl⟩, ?_⟩
    refine (LoadRect.mem_set _).mpr fun a => ?_
    fin_cases a
    · exact ⟨0, by show 0 < 1; omega, by show j.val = (j.val * 8 + q.val % 8) / 8 + 1 * 0; omega⟩
    · exact ⟨q.val / 8, by show q.val / 8 < 64; omega, by show q.val = (j.val * 8 + q.val % 8) % 8 + 8 * (q.val / 8); omega⟩
    · exact ⟨l.val, by show l.val < 128; omega, by show l.val = 0 + 1 * l.val; omega⟩

theorem ldS_at (j : Fin 8) (q : Fin 512) (l : Fin 128) : ldS (F := Ideal) arg1 harg1 arg9 x0 j (ix3 0 q l) = held x0 j q l := by
  unfold ldS
  rw [View.readCov_eq_canon']
  refine Eq.trans (congrArg (View.canon (slabs (F := Ideal) arg1 harg1 x0)) (funext fun a => Fin.ext ?_)) (slabs_at arg1 harg1 x0 j q l)
  fin_cases a
  · show j.val + 1 * 0 = j.val; omega
  · show 0 + 1 * q.val = q.val; omega
  · show 0 + 1 * l.val = l.val; omega

/-- The rows, the batches interleaved. -/
theorem rows_at (r : Fin 512) (n : Fin 1024) :
    cat (F := Ideal) (ldS arg1 harg1 arg9 x0) (ix2 r n) = x0 (ix3 ⟨r.val % 8, by omega⟩ ⟨r.val / 8, by omega⟩ n) :=
  (cat_at _ r n).trans ((ldS_at arg1 harg1 arg9 x0 _ r _).trans
    (congrArg (fun k : Fin 1024 => x0 (ix3 (n0 := 8) (n1 := 64) ⟨r.val % 8, by omega⟩ ⟨r.val / 8, by omega⟩ k)) (Fin.ext (by show 128 * (n.val / 128) + n.val % 128 = n.val; omega))))

theorem ldM_at (arg : Memref sig .tc .vmem S8x1024 .f32) (harg : arg.IsWhole) (x : FVec Ideal S8x1024 .f32) (b : Fin 8) (n : Fin 1024) :
    ldM (F := Ideal) arg harg x (ix2 b n) = x (ix2 b n) :=
  (harg.readAt_unread _ _ _).trans (congrArg x (funext fun a => Fin.ext (by
    fin_cases a
    · show 0 + 1 * b.val = b.val; omega
    · show 0 + 1 * n.val = n.val; omega)))

theorem ldN_at (n : Fin 1024) : ldN (F := Ideal) arg2 harg2 x1 (ix2 0 n) = x1 (ix2 0 n) :=
  (harg2.readAt_unread _ _ _).trans (congrArg x1 (funext fun a => Fin.ext (by
    fin_cases a
    · rfl
    · show 0 + 1 * n.val = n.val; omega)))

theorem ldW_at (h : Fin 2) (k : Fin 1024) (l : Fin 2048) :
    ldW (F := Ideal) arg5 harg5 x4 h (ix2 k l) = x4 (ix2 k ⟨2048 * h.val + l.val, by omega⟩) :=
  (harg5.readAt_unread _ _ _).trans (congrArg x4 (funext fun a => Fin.ext (by
    fin_cases a
    · show 0 + 1 * k.val = k.val; omega
    · show 2048 * h.val + 1 * l.val = 2048 * h.val + l.val; omega)))

/-- Half `h` of the projection of row `r` of the block, at column `l`. -/
def blk (h : Fin 2) (r : Fin 512) (l : Fin 2048) : EReal :=
  gate (fun n => x0 (ix3 ⟨r.val % 8, by omega⟩ ⟨r.val / 8, by omega⟩ n)) (fun n => x1 (ix2 0 n)) (fun n => x2 (ix2 ⟨r.val % 8, by omega⟩ n))
    (fun n => x3 (ix2 ⟨r.val % 8, by omega⟩ n)) (fun k l => x4 (ix2 k ⟨2048 * h.val + l.val, by omega⟩)) l

theorem half_at (h : Fin 2) (r : Fin 512) (l : Fin 2048) :
    half (F := Ideal) arg1 harg1 arg2 harg2 arg3 harg3 arg4 harg4 arg5 harg5 arg9 x0 x1 x2 x3 x4 h (ix2 r l) = blk x0 x1 x2 x3 x4 h r l := by
  unfold half blk gate
  rw [proj_at]
  simp only [hid_at, rows_at, ldN_at, ldM_at, ldW_at]

/-! ## What a point leaves in its blocks -/

variable (c : Dev nD) (i : grid0.Coords) (arg6 : Memref sig .tc .vmem S512x1024 .f32) (harg6 : arg6.IsWhole) (arg7 : Memref sig .tc .vmem S8x512x256 .bf16) (harg7 : arg7.IsWhole) (arg8 : Memref sig .tc .vmem S512x2048 .bf16) (harg8 : arg8.IsWhole) (harg9 : arg9.IsWhole)

theorem block5_at (r : Fin 512) (n : Fin 1024) :
    out0_A_5 (F := Ideal) c i arg1 harg1 arg2 harg2 arg3 harg3 arg4 harg4 arg5 harg5 arg6 harg6 arg7 harg7 arg8 harg8 arg9 harg9 x0 x1 x2 x3 x4 (ix2 r n)
      = x0 (ix3 ⟨r.val % 8, by omega⟩ ⟨r.val / 8, by omega⟩ n) := by
  unfold out0_A_5
  rw [View.read_writes_junk_eq_canon, pieces5]
  refine View.canon_apply_of_pieces (Val := Elt Ideal) (e := .f32) (fun y : S512x1024.Idx => x0 (ix3 (n0 := 8) (n1 := 64) (n2 := 1024) ⟨(y 0).val % 8, by omega⟩ ⟨(y 0).val / 8, by have : (y 0).val < 512 := (y 0).isLt; omega⟩ (y 1))) _ ?_ _ ?_
  · intro p hp x
    obtain rfl := List.mem_singleton.mp hp
    obtain ⟨r, n, rfl⟩ : ∃ (r : Fin 512) (n : Fin 1024), x = ix2 r n := ⟨x 0, x 1, eq_ix2 x⟩
    refine (rows_at arg1 harg1 arg9 x0 r n).trans (congrArg x0 (funext fun a => Fin.ext ?_))
    fin_cases a
    · show r.val % 8 = (0 + 1 * r.val) % 8; omega
    · show r.val / 8 = (0 + 1 * r.val) / 8; omega
    · show n.val = 0 + 1 * n.val; omega
  · refine ⟨_, List.mem_singleton.mpr rfl, ?_⟩
    refine (Rect.mem_set_unit (inb := by decide)).mpr fun a => ?_
    fin_cases a
    · show 0 ≤ r.val ∧ r.val < 0 + 512; omega
    · show 0 ≤ n.val ∧ n.val < 0 + 1024; omega

theorem block6_at (k : Fin 8) (r : Fin 512) (l : Fin 256) :
    out0_A_6 (F := Ideal) c i arg1 harg1 arg2 harg2 arg3 harg3 arg4 harg4 arg5 harg5 arg6 harg6 arg7 harg7 arg8 harg8 arg9 harg9 x0 x1 x2 x3 x4 (ix3 k r l)
      = blk x0 x1 x2 x3 x4 0 r ⟨k.val * 256 + l.val, by omega⟩ := by
  unfold out0_A_6
  rw [View.read_writes_junk_eq_canon, pieces6]
  refine View.canon_apply_of_pieces (Val := Elt Ideal) (e := .bf16) (fun y : S8x512x256.Idx => blk x0 x1 x2 x3 x4 0 (y 1) ⟨(y 0).val * 256 + (y 2).val, by have : (y 0).val < 8 := (y 0).isLt; have : (y 2).val < 256 := (y 2).isLt; omega⟩) _ ?_ _ ?_
  · intro p hp x
    obtain ⟨k, -, rfl⟩ := List.mem_map.mp hp
    obtain ⟨a, r, l, rfl⟩ : ∃ (a : Fin 1) (r : Fin 512) (l : Fin 256), x = ix3 a r l := ⟨x 0, x 1, x 2, eq_ix3 x⟩
    obtain rfl : a = 0 := Subsingleton.elim _ _
    refine ((tile_at k _ r l).trans (half_at arg1 harg1 arg2 harg2 arg3 harg3 arg4 harg4 arg5 harg5 arg9 x0 x1 x2 x3 x4 0 r _)).trans ?_
    congr 1
    · exact Fin.ext (by show r.val = 0 + 1 * r.val; omega)
    · exact Fin.ext (by show k.val * 256 + l.val = (k.val + 1 * 0) * 256 + (0 + 1 * l.val); omega)
  · refine ⟨_, List.mem_map.mpr ⟨k, List.mem_reverse.mpr (List.mem_finRange _), rfl⟩, ?_⟩
    refine (Rect.mem_set_unit (inb := inbU k)).mpr fun a => ?_
    fin_cases a
    · show k.val ≤ k.val ∧ k.val < k.val + 1; omega
    · show 0 ≤ r.val ∧ r.val < 0 + 512; omega
    · show 0 ≤ l.val ∧ l.val < 0 + 256; omega

theorem block7_at (r : Fin 512) (l : Fin 2048) :
    out0_A_7 (F := Ideal) c i arg1 harg1 arg2 harg2 arg3 harg3 arg4 harg4 arg5 harg5 arg6 harg6 arg7 harg7 arg8 harg8 arg9 harg9 x0 x1 x2 x3 x4 (ix2 r l)
      = blk x0 x1 x2 x3 x4 1 r l := by
  unfold out0_A_7
  rw [View.read_writes_junk_eq_canon, pieces7]
  refine View.canon_apply_of_pieces (Val := Elt Ideal) (e := .bf16) (fun y : S512x2048.Idx => blk x0 x1 x2 x3 x4 1 (y 0) (y 1)) _ ?_ _ ?_
  · intro p hp x
    obtain rfl := List.mem_singleton.mp hp
    obtain ⟨r, l, rfl⟩ : ∃ (r : Fin 512) (l : Fin 2048), x = ix2 r l := ⟨x 0, x 1, eq_ix2 x⟩
    refine (half_at arg1 harg1 arg2 harg2 arg3 harg3 arg4 harg4 arg5 harg5 arg9 x0 x1 x2 x3 x4 1 r l).trans ?_
    congr 1
    · exact Fin.ext (by show r.val = 0 + 1 * r.val; omega)
    · exact Fin.ext (by show l.val = 0 + 1 * l.val; omega)
  · refine ⟨_, List.mem_singleton.mpr rfl, ?_⟩
    refine (Rect.mem_set_unit (inb := by decide)).mpr fun a => ?_
    fin_cases a
    · show 0 ≤ r.val ∧ r.val < 0 + 512; omega
    · show 0 ≤ l.val ∧ l.val < 0 + 2048; omega

end

/-! ## The arguments, and the arrays -/

variable (m : (ℓ : Loc nD τ sig) → Buf (Elt Ideal) ℓ) (c : Dev nD)

def ax (b : Fin 8) (t : Fin 4096) (n : Fin 1024) : EReal := m ((c : Thread nD τ).loc main_arg0) (ix3 b t n)
def an (n : Fin 1024) : EReal := m ((c : Thread nD τ).loc main_arg1) (ix1 n)
def am (b : Fin 16) (n : Fin 3072) : EReal := m ((c : Thread nD τ).loc main_arg2) (ix2 b n)
def aw (k : Fin 1024) (l : Fin 4096) : EReal := m ((c : Thread nD τ).loc main_arg3) (ix2 k l)

/-- Half `h` of the projection at row `r` and column `l`. -/
def at' (h : Fin 2) (r : Fin 32768) (l : Fin 2048) : EReal :=
  gate (ax m c ⟨r.val % 8, by omega⟩ ⟨r.val / 8, by omega⟩) (an m c) (fun n => am m c ⟨r.val % 8, by omega⟩ ⟨1024 + n.val, by omega⟩)
    (fun n => am m c ⟨r.val % 8, by omega⟩ ⟨n.val, by omega⟩) (fun k l => aw m c k ⟨2048 * h.val + l.val, by omega⟩) l

/-- Column `n` of row `r`: the batches interleaved. -/
def rowX (r : Fin 32768) (n : Fin 1024) : EReal := ax m c ⟨r.val % 8, by omega⟩ ⟨r.val / 8, by omega⟩ n

/-- Column `l` of tile `k` of the projection's first half, at row `r`. -/
def tileU (k : Fin 8) (r : Fin 32768) (l : Fin 256) : EReal := at' m c 0 r ⟨k.val * 256 + l.val, by omega⟩

/-- The arrays the host code prepares: the norm's weights as a row, and the projection's weights rounded to bfloat16, which is no change
    at exact values. -/
theorem V_n : V m c main_v0 = (shapeCast S1x1024 (m ((c : Thread nD τ).loc main_arg1) : FVec Ideal S1024 .f32) shapeCasts_S1024_S1x1024 : FVec Ideal S1x1024 .f32) := by
  show StableHlo.after hostOps0 _ (Proc.devRef .tc main_v0) = _
  after_results
  rfl

theorem V_w : V m c main_v1 = (truncf .bf16 (m ((c : Thread nD τ).loc main_arg3)) bitsLt_bf16_f32 : FVec Ideal S1024x4096 .bf16) := by
  show StableHlo.after hostOps0 _ (Proc.devRef .tc main_v1) = _
  after_results

theorem ix_facts : ∀ t : Fin cfg0.N,
    (win0_0.index t (0 : Fin 3) = 0 ∧ win0_0.index t (1 : Fin 3) = t.val ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 1)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 3) = 0 ∧ win0_6.index t (1 : Fin 3) = t.val ∧ win0_6.index t (2 : Fin 3) = 0)
    ∧ (win0_7.index t (0 : Fin 2) = t.val ∧ win0_7.index t (1 : Fin 2) = 0) :=
  (by decide +kernel : ∀ t : Fin grid0.N, _)

theorem N64 (t : Fin cfg0.N) : t.val < 64 := by have := t.isLt; have : cfg0.N = 64 := N_0; omega

/-- Row `r` of the blocks of point `t`. -/
def row (t : Fin cfg0.N) (r : Fin 512) : Fin 32768 := ⟨512 * t.val + r.val, by have := N64 t; omega⟩

theorem blk_x (t : Fin cfg0.N) (b : Fin 8) (r : Fin 64) (n : Fin 1024) : iblk m c 0 t (ix3 b r n) = ax m c b ⟨64 * t.val + r.val, by have := N64 t; omega⟩ n := by
  unfold iblk ax
  rw [show V m c (Pipeline.arrRef spec0 0) = m ((c : Thread nD τ).loc main_arg0) from V_main_arg0 m c]
  refine congrArg (m ((c : Thread nD τ).loc main_arg0)) (funext fun a => Fin.ext ?_)
  obtain ⟨⟨e0, e1, e2⟩, -⟩ := ix_facts t
  fin_cases a
  · show win0_0.index t (0 : Fin 3) * 8 + 1 * b.val = b.val; omega
  · show win0_0.index t (1 : Fin 3) * 64 + 1 * r.val = 64 * t.val + r.val; omega
  · show win0_0.index t (2 : Fin 3) * 1024 + 1 * n.val = n.val; omega

/-- A row of weights reshaped to one row, read at a column. -/
theorem row1 (x : FVec Ideal S1024 .f32) (n : Fin 1024) : (shapeCast S1x1024 x shapeCasts_S1024_S1x1024 : FVec Ideal S1x1024 .f32) (ix2 0 n) = x (ix1 n) := by
  pointwise

theorem blk_n (t : Fin cfg0.N) (n : Fin 1024) : iblk m c 1 t (ix2 0 n) = an m c n := by
  refine Eq.trans (congrArg (V m c main_v0) (funext fun a => Fin.ext ?_ : ((cfg0.win 1).blk t).view.emb (ix2 0 n) = (ix2 0 n : S1x1024.Idx))) ((congrFun (V_n m c) _).trans (row1 _ n))
  obtain ⟨-, ⟨e0, e1⟩, -⟩ := ix_facts t
  fin_cases a
  · show win0_1.index t (0 : Fin 2) * 1 + 1 * 0 = 0; omega
  · show win0_1.index t (1 : Fin 2) * 1024 + 1 * n.val = n.val; omega

theorem blk_sc (t : Fin cfg0.N) (b : Fin 8) (n : Fin 1024) : iblk m c 2 t (ix2 b n) = am m c ⟨b.val, by omega⟩ ⟨1024 + n.val, by omega⟩ := by
  unfold iblk am
  rw [show V m c (Pipeline.arrRef spec0 2) = m ((c : Thread nD τ).loc main_arg2) from V_main_arg2 m c]
  refine congrArg (m ((c : Thread nD τ).loc main_arg2)) (funext fun a => Fin.ext ?_)
  obtain ⟨-, -, ⟨e0, e1⟩, -⟩ := ix_facts t
  fin_cases a
  · show win0_2.index t (0 : Fin 2) * 8 + 1 * b.val = b.val; omega
  · show win0_2.index t (1 : Fin 2) * 1024 + 1 * n.val = 1024 + n.val; omega

theorem blk_sh (t : Fin cfg0.N) (b : Fin 8) (n : Fin 1024) : iblk m c 3 t (ix2 b n) = am m c ⟨b.val, by omega⟩ ⟨n.val, by omega⟩ := by
  unfold iblk am
  rw [show V m c (Pipeline.arrRef spec0 3) = m ((c : Thread nD τ).loc main_arg2) from V_main_arg2 m c]
  refine congrArg (m ((c : Thread nD τ).loc main_arg2)) (funext fun a => Fin.ext ?_)
  obtain ⟨-, -, -, ⟨e0, e1⟩, -⟩ := ix_facts t
  fin_cases a
  · show win0_3.index t (0 : Fin 2) * 8 + 1 * b.val = b.val; omega
  · show win0_3.index t (1 : Fin 2) * 1024 + 1 * n.val = n.val; omega

theorem blk_w (t : Fin cfg0.N) (k : Fin 1024) (l : Fin 4096) : iblk m c 4 t (ix2 k l) = aw m c k l := by
  refine Eq.trans (congrArg (V m c main_v1) (funext fun a => Fin.ext ?_ : ((cfg0.win 4).blk t).view.emb (ix2 k l) = (ix2 k l : S1024x4096.Idx))) ((congrFun (V_w m c) _).trans rfl)
  obtain ⟨-, -, -, -, ⟨e0, e1⟩, -⟩ := ix_facts t
  fin_cases a
  · show win0_4.index t (0 : Fin 2) * 1024 + 1 * k.val = k.val; omega
  · show win0_4.index t (1 : Fin 2) * 4096 + 1 * l.val = l.val; omega

/-- A point's half of the projection is the array's. -/
theorem blk_at (t : Fin cfg0.N) (h : Fin 2) (r : Fin 512) (l : Fin 2048) :
    blk (iblk m c 0 t) (iblk m c 1 t) (iblk m c 2 t) (iblk m c 3 t) (iblk m c 4 t) h r l = at' m c h (row t r) l := by
  have e : (row t r).val % 8 = r.val % 8 := by show (512 * t.val + r.val) % 8 = r.val % 8; omega
  have e' : (row t r).val / 8 = 64 * t.val + r.val / 8 := by show (512 * t.val + r.val) / 8 = 64 * t.val + r.val / 8; omega
  unfold blk at'
  simp only [blk_x, blk_n, blk_sc, blk_sh, blk_w, e, e']

/-- Tile `k` with the weights' columns written as the reference counts them. -/
theorem tileU_eq (k : Fin 8) (r : Fin 32768) (l : Fin 256) :
    tileU m c k r l = gate (ax m c ⟨r.val % 8, by omega⟩ ⟨r.val / 8, by omega⟩) (an m c) (fun n => am m c ⟨r.val % 8, by omega⟩ ⟨1024 + n.val, by omega⟩)
      (fun n => am m c ⟨r.val % 8, by omega⟩ ⟨n.val, by omega⟩) (fun k l => aw m c k ⟨l.val, by omega⟩) ⟨k.val * 256 + l.val, by omega⟩ := by
  simp only [tileU, at', Fin.val_zero, Nat.mul_zero, Nat.zero_add]

/-- The arrays the kernel leaves: the rows, and the two halves of the projection. -/
theorem result5 : (dats m 0 c).arrAt 5 cfg0.N = fun i : S32768x1024.Idx => rowX m c (i 0) (i 1) := by
  refine (dats m 0 c).arrAt_eq_of_covers 5 _ (by decide +kernel) fun t hf y => ?_
  obtain ⟨r, n, rfl⟩ : ∃ (r : Fin 512) (n : Fin 1024), y = ix2 r n := ⟨y 0, y 1, eq_ix2 y⟩
  obtain ⟨-, -, -, -, -, ⟨e0, e1⟩, -⟩ := ix_facts t
  have h0 : ((cfg0.win 5).blk t).view.emb (ix2 r n) 0 = row t r := Fin.ext (by
    show win0_5.index t (0 : Fin 2) * 512 + 1 * r.val = 512 * t.val + r.val; omega)
  have h1 : ((cfg0.win 5).blk t).view.emb (ix2 r n) 1 = n := Fin.ext (by
    show win0_5.index t (1 : Fin 2) * 1024 + 1 * n.val = n.val; omega)
  show (dats m 0 c).after 5 t (ix2 r n) = rowX m c (((cfg0.win 5).blk t).view.emb (ix2 r n) 0) (((cfg0.win 5).blk t).view.emb (ix2 r n) 1)
  rw [h0, h1, after0_5]
  unfold outsAt0
  dsimp only
  have e : (row t r).val % 8 = r.val % 8 := by show (512 * t.val + r.val) % 8 = r.val % 8; omega
  have e' : (row t r).val / 8 = 64 * t.val + r.val / 8 := by show (512 * t.val + r.val) / 8 = 64 * t.val + r.val / 8; omega
  rw [block5_at, blk_x]
  simp only [rowX, e, e']

theorem result6 : (dats m 0 c).arrAt 6 cfg0.N = fun i : S8x32768x256.Idx => tileU m c (i 0) (i 1) (i 2) := by
  refine (dats m 0 c).arrAt_eq_of_covers 6 _ (by decide +kernel) fun t hf y => ?_
  obtain ⟨k, r, l, rfl⟩ : ∃ (k : Fin 8) (r : Fin 512) (l : Fin 256), y = ix3 k r l := ⟨y 0, y 1, y 2, eq_ix3 y⟩
  obtain ⟨-, -, -, -, -, -, ⟨e0, e1, e2⟩, -⟩ := ix_facts t
  have h0 : ((cfg0.win 6).blk t).view.emb (ix3 k r l) 0 = k := Fin.ext (by
    show win0_6.index t (0 : Fin 3) * 8 + 1 * k.val = k.val; omega)
  have h1 : ((cfg0.win 6).blk t).view.emb (ix3 k r l) 1 = row t r := Fin.ext (by
    show win0_6.index t (1 : Fin 3) * 512 + 1 * r.val = 512 * t.val + r.val; omega)
  have h2 : ((cfg0.win 6).blk t).view.emb (ix3 k r l) 2 = l := Fin.ext (by
    show win0_6.index t (2 : Fin 3) * 256 + 1 * l.val = l.val; omega)
  show (dats m 0 c).after 6 t (ix3 k r l) = tileU m c (((cfg0.win 6).blk t).view.emb (ix3 k r l) 0) (((cfg0.win 6).blk t).view.emb (ix3 k r l) 1) (((cfg0.win 6).blk t).view.emb (ix3 k r l) 2)
  rw [h0, h1, h2, after0_6]
  unfold outsAt0
  dsimp only
  rw [block6_at]
  exact blk_at m c t 0 r _

theorem result7 : (dats m 0 c).arrAt 7 cfg0.N = fun i : S32768x2048.Idx => at' m c 1 (i 0) (i 1) := by
  refine (dats m 0 c).arrAt_eq_of_covers 7 _ (by decide +kernel) fun t hf y => ?_
  obtain ⟨r, l, rfl⟩ : ∃ (r : Fin 512) (l : Fin 2048), y = ix2 r l := ⟨y 0, y 1, eq_ix2 y⟩
  obtain ⟨-, -, -, -, -, -, -, e0, e1⟩ := ix_facts t
  have h0 : ((cfg0.win 7).blk t).view.emb (ix2 r l) 0 = row t r := Fin.ext (by
    show win0_7.index t (0 : Fin 2) * 512 + 1 * r.val = 512 * t.val + r.val; omega)
  have h1 : ((cfg0.win 7).blk t).view.emb (ix2 r l) 1 = l := Fin.ext (by
    show win0_7.index t (1 : Fin 2) * 2048 + 1 * l.val = l.val; omega)
  show (dats m 0 c).after 7 t (ix2 r l) = at' m c 1 (((cfg0.win 7).blk t).view.emb (ix2 r l) 0) (((cfg0.win 7).blk t).view.emb (ix2 r l) 1)
  rw [h0, h1, after0_7]
  unfold outsAt0
  dsimp only
  rw [block7_at]
  exact blk_at m c t 1 r l

end Cert.Kernel4Ideal.Gen.S5In
-- ==== Proof.S5InRef.lean ====
/- The S5 input call's reference: its three results, an element at a time, are the residual rows and the formula of
   Proof/Gates.lean. -/
module

public import proofs.«01_k».proof.Proof.Gates
public import proofs.«01_k».proof.Proof.Gen.Reference4Ideal.Run

@[expose] public section

noncomputable section

namespace Cert.Reference4Ideal.Value

open Cert.Reference4Ideal Cert.Reference4Ideal.Gen
open Idealize.ShloMosaic Idealize.ShloMosaic.TcCoe Idealize.SL.Sem
open Gates (rms gate)

/-- The root mean square norm, as the reference spells it. -/
def nrm (x : FVec Ideal S8x4096x1024 .f32) (w : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 w))

theorem nrm_at (x : FVec Ideal S8x4096x1024 .f32) (w : FVec Ideal S1024 .f32) (b : Fin 8) (t : Fin 4096) (n : Fin 1024) :
    nrm x w (ix3 b t n) = rms (fun n => x (ix3 b t n)) (fun n => w (ix1 n)) n := by
  pointwise [nrm, rms]

/-- The layer's part of the modulation. -/
def mv (x2 : FVec Ideal S16x3072 .f32) : FVec Ideal S8x3072 .f32 := extractStridedSlice S8x3072 ![0, 0] x2 slices_S16x3072_S8x3072_0_0

/-- The projection, both halves. -/
def proj (x0 : FVec Ideal S8x4096x1024 .f32) (x1 : FVec Ideal S1024 .f32) (x2 : FVec Ideal S16x3072 .f32) (x3 : FVec Ideal S1024x4096 .f32) : FVec Ideal S8x4096x4096 .f32 :=
  Host.dotGeneral dot_S8x4096x1024_S1024x4096_S8x4096x4096_2_0_01_1_n_n none (addf (mulf (nrm x0 x1) (broadcastInDim S8x4096x1024 ![0, 1, 2] bcast_S8x1x1024_S8x4096x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 1024] (mv x2) slices_S8x3072_S8x1024_0_1024))))) (broadcastInDim S8x4096x1024 ![0, 1, 2] bcast_S8x1x1024_S8x4096x1024_0_1_2 (broadcastInDim S8x1x1024 ![0, 2] bcast_S8x1024_S8x1x1024_0_2 (extractStridedSlice S8x1024 ![0, 0] (mv x2) slices_S8x3072_S8x1024_0_0)))) x3

theorem proj_at (x0 : FVec Ideal S8x4096x1024 .f32) (x1 : FVec Ideal S1024 .f32) (x2 : FVec Ideal S16x3072 .f32) (x3 : FVec Ideal S1024x4096 .f32)
    (b : Fin 8) (t : Fin 4096) (l : Fin 4096) :
    proj x0 x1 x2 x3 (ix3 b t l)
      = ∑ k, (rms (fun n => x0 (ix3 b t n)) (fun n => x1 (ix1 n)) k * (1 + x2 (ix2 ⟨b.val, by omega⟩ ⟨1024 + k.val, by omega⟩)) + x2 (ix2 ⟨b.val, by omega⟩ ⟨k.val, by omega⟩)) * x3 (ix2 k l) := by
  pointwise [proj, mv]
  simp only [nrm_at]

/-- The residual rows, the scan's inputs in tiles of 256 channels, and the gate: the three results. -/
def outX (x0 : FVec Ideal S8x4096x1024 .f32) : FVec Ideal S32768x1024 .f32 :=
  shapeCast _ (transpose S4096x8x1024 [1, 0, 2] x0 transposes_S8x4096x1024_S4096x8x1024_1_0_2) shapeCasts_S4096x8x1024_S32768x1024

def outU (x0 : FVec Ideal S8x4096x1024 .f32) (x1 : FVec Ideal S1024 .f32) (x2 : FVec Ideal S16x3072 .f32) (x3 : FVec Ideal S1024x4096 .f32) : FVec Ideal S8x32768x256 .bf16 :=
  truncf .bf16 (transpose S8x32768x256 [1, 0, 2] (shapeCast S32768x8x256 (shapeCast S32768x2048 (transpose S4096x8x2048 [1, 0, 2]
    (extractStridedSlice S8x4096x2048 ![0, 0, 0] (proj x0 x1 x2 x3) slices_S8x4096x4096_S8x4096x2048_0_0_0) transposes_S8x4096x2048_S4096x8x2048_1_0_2) shapeCasts_S4096x8x2048_S32768x2048) shapeCasts_S32768x2048_S32768x8x256) transposes_S32768x8x256_S8x32768x256_1_0_2) bitsLt_bf16_f32

def outZ (x0 : FVec Ideal S8x4096x1024 .f32) (x1 : FVec Ideal S1024 .f32) (x2 : FVec Ideal S16x3072 .f32) (x3 : FVec Ideal S1024x4096 .f32) : FVec Ideal S32768x2048 .bf16 :=
  truncf .bf16 (shapeCast S32768x2048 (transpose S4096x8x2048 [1, 0, 2]
    (extractStridedSlice S8x4096x2048 ![0, 0, 2048] (proj x0 x1 x2 x3) slices_S8x4096x4096_S8x4096x2048_0_0_2048) transposes_S8x4096x2048_S4096x8x2048_1_0_2) shapeCasts_S4096x8x2048_S32768x2048) bitsLt_bf16_f32

theorem outX_at (x0 : FVec Ideal S8x4096x1024 .f32) (r : Fin 32768) (n : Fin 1024) :
    outX x0 (ix2 r n) = x0 (ix3 ⟨r.val % 8, by omega⟩ ⟨r.val / 8, by omega⟩ n) := by
  pointwise [outX]

theorem tileU (p : FVec Ideal S8x4096x4096 .f32) (k : Fin 8) (r : Fin 32768) (l : Fin 256) :
    (truncf .bf16 (transpose S8x32768x256 [1, 0, 2] (shapeCast S32768x8x256 (shapeCast S32768x2048 (transpose S4096x8x2048 [1, 0, 2]
      (extractStridedSlice S8x4096x2048 ![0, 0, 0] p slices_S8x4096x4096_S8x4096x2048_0_0_0) transposes_S8x4096x2048_S4096x8x2048_1_0_2) shapeCasts_S4096x8x2048_S32768x2048) shapeCasts_S32768x2048_S32768x8x256) transposes_S32768x8x256_S8x32768x256_1_0_2 : FVec Ideal S8x32768x256 .f32) bitsLt_bf16_f32 : FVec Ideal S8x32768x256 .bf16) (ix3 k r l)
      = p (ix3 ⟨r.val % 8, by omega⟩ ⟨r.val / 8, by omega⟩ ⟨k.val * 256 + l.val, by omega⟩) := by
  pointwise

theorem rowsZ (p : FVec Ideal S8x4096x4096 .f32) (r : Fin 32768) (l : Fin 2048) :
    (truncf .bf16 (shapeCast S32768x2048 (transpose S4096x8x2048 [1, 0, 2]
      (extractStridedSlice S8x4096x2048 ![0, 0, 2048] p slices_S8x4096x4096_S8x4096x2048_0_0_2048) transposes_S8x4096x2048_S4096x8x2048_1_0_2) shapeCasts_S4096x8x2048_S32768x2048 : FVec Ideal S32768x2048 .f32) bitsLt_bf16_f32 : FVec Ideal S32768x2048 .bf16) (ix2 r l)
      = p (ix3 ⟨r.val % 8, by omega⟩ ⟨r.val / 8, by omega⟩ ⟨2048 + l.val, by omega⟩) := by
  pointwise

/-- Column `l` of row `r` of the projection. -/
def at' (x0 : FVec Ideal S8x4096x1024 .f32) (x1 : FVec Ideal S1024 .f32) (x2 : FVec Ideal S16x3072 .f32) (w : Fin 1024 → Fin 2048 → EReal)
    (r : Fin 32768) (l : Fin 2048) : EReal :=
  gate (fun n => x0 (ix3 ⟨r.val % 8, by omega⟩ ⟨r.val / 8, by omega⟩ n)) (fun n => x1 (ix1 n)) (fun n => x2 (ix2 ⟨r.val % 8, by omega⟩ ⟨1024 + n.val, by omega⟩))
    (fun n => x2 (ix2 ⟨r.val % 8, by omega⟩ ⟨n.val, by omega⟩)) w l

theorem outU_at (x0 : FVec Ideal S8x4096x1024 .f32) (x1 : FVec Ideal S1024 .f32) (x2 : FVec Ideal S16x3072 .f32) (x3 : FVec Ideal S1024x4096 .f32)
    (k : Fin 8) (r : Fin 32768) (l : Fin 256) :
    outU x0 x1 x2 x3 (ix3 k r l) = at' x0 x1 x2 (fun k l => x3 (ix2 k ⟨l.val, by omega⟩)) r ⟨k.val * 256 + l.val, by omega⟩ :=
  (tileU _ k r l).trans (proj_at x0 x1 x2 x3 _ _ _)

theorem outZ_at (x0 : FVec Ideal S8x4096x1024 .f32) (x1 : FVec Ideal S1024 .f32) (x2 : FVec Ideal S16x3072 .f32) (x3 : FVec Ideal S1024x4096 .f32)
    (r : Fin 32768) (l : Fin 2048) :
    outZ x0 x1 x2 x3 (ix2 r l) = at' x0 x1 x2 (fun k l => x3 (ix2 k ⟨2048 + l.val, by omega⟩)) r l :=
  (rowsZ _ r l).trans (proj_at x0 x1 x2 x3 _ _ _)

end Cert.Reference4Ideal.Value
-- ==== Proof.Conv.lean ====
/- The formulas of the delta rule's input call, row by row: row `8 * t + b` of the arrays is batch `b` at time `t`. The kernel
   (Proof/GdnIn.lean) and the reference (Proof/GdnInRef.lean) are each shown to compute these. -/
module

public import proofs.«01_k».proof.Proof.Gates

@[expose] public section

noncomputable section

namespace Gates

open Idealize.ShloMosaic

section

variable (x : Fin 32768 → Fin 1024 → EReal) (nw : Fin 1024 → EReal) (sc sh : Fin 8 → Fin 1024 → EReal)

/-- The rows, normalised and modulated by their batch. -/
def hrow (r : Fin 32768) (k : Fin 1024) : EReal :=
  rms (x r) nw k * (1 + sc ⟨r.val % 8, by omega⟩ k) + sh ⟨r.val % 8, by omega⟩ k

/-- Their projection to `n` columns. -/
def pr {n : ℕ} (w : Fin 1024 → Fin n → EReal) (r : Fin 32768) (l : Fin n) : EReal := ∑ k, hrow x nw sc sh r k * w k l

end

/-- The projection read for tap `j`, `3 - j` times back, and zero before the first time. -/
def past (p : Fin 32768 → Fin 4096 → EReal) (j : Fin 4) (r : Fin 32768) (l : Fin 4096) : EReal :=
  if h : 24 ≤ r.val + 8 * j.val then p ⟨r.val + 8 * j.val - 24, by omega⟩ l else 0

/-- The sum over the four taps, and its silu. -/
def taps (c e : Fin 4 → EReal) : EReal := c 0 * e 0 + c 1 * e 1 + c 2 * e 2 + c 3 * e 3

def silu (x : EReal) : EReal := x * sg x

/-- The convolution along time, and its silu. -/
def act (p : Fin 32768 → Fin 4096 → EReal) (cw : Fin 4 → Fin 4096 → EReal) (r : Fin 32768) (l : Fin 4096) : EReal :=
  silu (taps (fun j => cw j l) fun j => past p j r l)

/-- One head's 128 columns scaled to unit length. -/
def unit (v : Fin 128 → EReal) (l : Fin 128) : EReal := v l * Ideal.rsqrt ((∑ k, v k * v k) + Ideal.ofBits .f32 0x358637BD#32)

/-- A gate of the decay: minus the exponential of `a` times the softplus of `x`. -/
def decay (a x : EReal) : EReal := (0 - Ideal.exp a) * (max x 0 + Ideal.log (1 + Ideal.exp (0 - max x (-x))))

/-- Lane `l` of a row's gates: eight of the rule's rates, then the decays. -/
def lane (a dt : Fin 128 → EReal) (g : Fin 128 → EReal) (l : Fin 128) : EReal := if l.val < 8 then sg (g l) else decay (a l) (g l + dt l)

/-- Columns of weights past the first sixteen, and parameters outside lanes 8 to 15, are zero. -/
def wgate (w : Fin 1024 → Fin 6160 → EReal) (k : Fin 1024) (l : Fin 128) : EReal := if h : l.val < 16 then w k ⟨6144 + l.val, by omega⟩ else 0

def pgate (a : Fin 8 → EReal) (l : Fin 128) : EReal := if h : 8 ≤ l.val ∧ l.val < 16 then a ⟨l.val - 8, by omega⟩ else 0

/-! ## The four results, at time `t` and a column -/

/-- Batch `n / 1024`'s query head `n / 128 % 8`, scaled. -/
def queries (a : Fin 32768 → Fin 4096 → EReal) (t : Fin 4096) (n : Fin 8192) : EReal :=
  unit (fun l => a ⟨t.val * 8 + n.val / 1024, by omega⟩ ⟨n.val / 128 % 8 * 128 + l.val, by omega⟩) ⟨n.val % 128, by omega⟩ * Ideal.ofBits .f32 0x3DB504F3#32

def keys (a : Fin 32768 → Fin 4096 → EReal) (t : Fin 4096) (n : Fin 8192) : EReal :=
  unit (fun l => a ⟨t.val * 8 + n.val / 1024, by omega⟩ ⟨1024 + (n.val / 128 % 8 * 128 + l.val), by omega⟩) ⟨n.val % 128, by omega⟩

def values (a : Fin 32768 → Fin 4096 → EReal) (t : Fin 4096) (n : Fin 16384) : EReal :=
  a ⟨t.val * 8 + n.val / 2048, by omega⟩ ⟨2048 + n.val % 2048, by omega⟩

def gates (a dt : Fin 128 → EReal) (g : Fin 32768 → Fin 128 → EReal) (t : Fin 4096) (n : Fin 1024) : EReal :=
  lane a dt (g ⟨t.val * 8 + n.val / 128, by omega⟩) ⟨n.val % 128, by omega⟩

end Gates
-- ==== Proof.GdnInPieces.lean ====
/- The stores of one grid point of the delta rule's input call. The point projects its 256 rows, sets the projection below the last
   24 rows of the point before, convolves, and keeps each head of the result, normalised, in a slab of its own, with the gates in
   the last; it reads the slabs back a batch at a time, every eighth row, and stores them side by side. Each store is named here once. -/
module

public import proofs.«01_k».proof.Proof.Gen.Kernel5Ideal.Value

@[expose] public section

set_option maxRecDepth 16384

noncomputable section

namespace Cert.Kernel5Ideal.Gen.GdnIn

open Idealize.ShloMosaic Idealize.ShloMosaic.TcCoe Idealize.SL.Sem

variable {F : FTy → Type} [FloatOps F]

theorem inbE (j : Fin 4) : ∀ a, (![8 * j.val, 0] : Fin 2 → ℕ) a + S256x4096.size a ≤ S280x4096.size a := by revert j; decide

theorem inbC (j : Fin 4) : ∀ a, (![j.val, 0] : Fin 2 → ℕ) a + S1x4096.size a ≤ S4x4096.size a := by revert j; decide

theorem inbG (j : Fin 2) : ∀ a, (![j.val, 0] : Fin 2 → ℕ) a + S1x128.size a ≤ S2x128.size a := by revert j; decide

theorem inbT (s : Fin 33) : ∀ a, (![s.val, 0, 0] : Fin 3 → ℕ) a + S1x256x128.size a ≤ S33x256x128.size a := by revert s; decide

theorem inbD (s : Fin 33) (b : Fin 8) : ∀ a, S1x32x128.size a = 0 ∨ (![s.val, b.val, 0] : Fin 3 → ℕ) a + (![1, 8, 1] : Fin 3 → ℕ) a * (S1x32x128.size a - 1) < S33x256x128.size a := by
  intro a
  fin_cases a
  · right; show s.val + 1 * (1 - 1) < 33; omega
  · right; show b.val + 8 * (32 - 1) < 256; omega
  · right; show 0 + 1 * (128 - 1) < 128; omega

theorem inbQ (b : Fin 8) : ∀ a, (![0, 1024 * b.val] : Fin 2 → ℕ) a + S32x1024.size a ≤ S32x8192.size a := by revert b; decide

theorem inbV (b : Fin 8) : ∀ a, (![0, 2048 * b.val] : Fin 2 → ℕ) a + S32x2048.size a ≤ S32x16384.size a := by revert b; decide

theorem inbO (b : Fin 8) : ∀ a, (![0, 128 * b.val] : Fin 2 → ℕ) a + S32x128.size a ≤ S32x1024.size a := by revert b; decide

theorem slH (s : Fin 16) : S256x4096.Slices ![0, 128 * s.val] S256x128 := ⟨rfl, by revert s; decide⟩

theorem slV (s : Fin 16) : S256x2048.Slices ![0, 128 * s.val] S256x128 := ⟨rfl, by revert s; decide⟩

/-! ## The computation, from the values read -/

/-- Head `s` of the queries and keys, and the sum of its squares. -/
def head (s : Fin 16) (a : FVec F S256x4096 .f32) : FVec F S256x128 .f32 := extractStridedSlice S256x128 ![0, 128 * s.val] a (slH s)

def sq (v : FVec F S256x128 .f32) : FVec F S256x1 .f32 :=
  shapeCast S256x1 (multiReduction .add [1] S256 (mulf v v) 0x00000000#32 reduces_S256x128_S256 (.inl rfl) rfl) shapeCasts_S256_S256x1

/-- Head `s` of the values, as stored. -/
def vhead (s : Fin 16) (a : FVec F S256x4096 .f32) : FVec F S1x256x128 .f32 :=
  shapeCast S1x256x128 (extractStridedSlice S256x128 ![0, 128 * s.val] (k0_pay36 a) (slV s)) shapeCasts_S256x128_S1x256x128

/-- The slabs as stored, the last first: the gates, the values' heads, and the queries' and keys' heads in turn. -/
def slabs (a : FVec F S256x4096 .f32) (g : FVec F S1x256x128 .f32) : List (View.Piece (Elt F) S33x256x128 .f32) :=
  ⟨Rect.unit (s := S33x256x128) ![(32 : Fin 33).val, 0, 0] S1x256x128.size (inbT 32), g⟩
    :: (((List.finRange 16).reverse.map fun i => ⟨Rect.unit (s := S33x256x128) ![(⟨16 + i.val, by omega⟩ : Fin 33).val, 0, 0] S1x256x128.size (inbT ⟨16 + i.val, by omega⟩), vhead i a⟩)
      ++ (List.finRange 16).reverse.map fun i =>
        if i.val % 2 = 1 then ⟨Rect.unit (s := S33x256x128) ![(⟨8 + i.val / 2, by omega⟩ : Fin 33).val, 0, 0] S1x256x128.size (inbT ⟨8 + i.val / 2, by omega⟩), k0_pay11 (head ⟨8 + i.val / 2, by omega⟩ a)⟩
        else ⟨Rect.unit (s := S33x256x128) ![(⟨i.val / 2, by omega⟩ : Fin 33).val, 0, 0] S1x256x128.size (inbT ⟨i.val / 2, by omega⟩), k0_pay10 (head ⟨i.val / 2, by omega⟩ a) (sq (head ⟨i.val / 2, by omega⟩ a))⟩)

/-- The values' heads side by side. -/
def catV (s : Fin 16 → Vec F S1x32x128 .f32) : FVec F S32x2048 .bf16 :=
  truncf .bf16 (concatenate S32x2048 1 [⟨S32x128, shapeCast S32x128 (s 0) shapeCasts_S1x32x128_S32x128⟩, ⟨S32x128, shapeCast S32x128 (s 1) shapeCasts_S1x32x128_S32x128⟩, ⟨S32x128, shapeCast S32x128 (s 2) shapeCasts_S1x32x128_S32x128⟩, ⟨S32x128, shapeCast S32x128 (s 3) shapeCasts_S1x32x128_S32x128⟩, ⟨S32x128, shapeCast S32x128 (s 4) shapeCasts_S1x32x128_S32x128⟩, ⟨S32x128, shapeCast S32x128 (s 5) shapeCasts_S1x32x128_S32x128⟩, ⟨S32x128, shapeCast S32x128 (s 6) shapeCasts_S1x32x128_S32x128⟩, ⟨S32x128, shapeCast S32x128 (s 7) shapeCasts_S1x32x128_S32x128⟩, ⟨S32x128, shapeCast S32x128 (s 8) shapeCasts_S1x32x128_S32x128⟩, ⟨S32x128, shapeCast S32x128 (s 9) shapeCasts_S1x32x128_S32x128⟩, ⟨S32x128, shapeCast S32x128 (s 10) shapeCasts_S1x32x128_S32x128⟩, ⟨S32x128, shapeCast S32x128 (s 11) shapeCasts_S1x32x128_S32x128⟩, ⟨S32x128, shapeCast S32x128 (s 12) shapeCasts_S1x32x128_S32x128⟩, ⟨S32x128, shapeCast S32x128 (s 13) shapeCasts_S1x32x128_S32x128⟩, ⟨S32x128, shapeCast S32x128 (s 14) shapeCasts_S1x32x128_S32x128⟩, ⟨S32x128, shapeCast S32x128 (s 15) shapeCasts_S1x32x128_S32x128⟩] concatenates_S32x128_S32x128_S32x128_S32x128_S32x128_S32x128_S32x128_S32x128_S32x128_S32x128_S32x128_S32x128_S32x128_S32x128_S32x128_S32x128_S32x2048_d1) bitsLt_bf16_f32

/-- Eight heads side by side. -/
def catQ (s : Fin 8 → Vec F S1x32x128 .f32) : FVec F S32x1024 .bf16 := k0_pay59 (s 0) (s 1) (s 2) (s 3) (s 4) (s 5) (s 6) (s 7)

/-! ## The values read -/

section

variable (arg14 : Memref sig .tc .vmem S33x256x128 .f32)

/-- Batch `b`'s rows of slab `s`. -/
def rd (L : List (View.Piece (Elt F) S33x256x128 .f32)) (s : Fin 33) (b : Fin 8) : Vec F S1x32x128 .f32 :=
  arg14.view.readCov L (⟨![s.val, b.val, 0], S1x32x128.size, ![1, 8, 1], inbD s b⟩ : LoadRect S33x256x128)

/-- The four outputs as stored, the last batch first. -/
def outQ (L : List (View.Piece (Elt F) S33x256x128 .f32)) : List (View.Piece (Elt F) S32x8192 .bf16) :=
  (List.finRange 8).reverse.map fun b => ⟨Rect.unit (s := S32x8192) ![0, 1024 * b.val] S32x1024.size (inbQ b), catQ fun i => rd arg14 L ⟨i.val, by omega⟩ b⟩

def outK (L : List (View.Piece (Elt F) S33x256x128 .f32)) : List (View.Piece (Elt F) S32x8192 .bf16) :=
  (List.finRange 8).reverse.map fun b => ⟨Rect.unit (s := S32x8192) ![0, 1024 * b.val] S32x1024.size (inbQ b), catQ fun i => rd arg14 L ⟨8 + i.val, by omega⟩ b⟩

def outV (L : List (View.Piece (Elt F) S33x256x128 .f32)) : List (View.Piece (Elt F) S32x16384 .bf16) :=
  (List.finRange 8).reverse.map fun b => ⟨Rect.unit (s := S32x16384) ![0, 2048 * b.val] S32x2048.size (inbV b), catV fun i => rd arg14 L ⟨16 + i.val, by omega⟩ b⟩

def outG (L : List (View.Piece (Elt F) S33x256x128 .f32)) : List (View.Piece (Elt F) S32x1024 .f32) :=
  (List.finRange 8).reverse.map fun b => ⟨Rect.unit (s := S32x1024) ![0, 128 * b.val] S32x128.size (inbO b), k0_pay1 (rd arg14 L 32 b)⟩

end

section

variable (arg1 : Memref sig .tc .vmem S256x1024 .f32) (harg1 : arg1.IsWhole) (arg2 : Memref sig .tc .vmem S1x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S4x4096 .f32) (harg7 : arg7.IsWhole) (arg8 : Memref sig .tc .vmem S2x128 .f32) (harg8 : arg8.IsWhole)
    (x0 : Vec F S256x1024 .f32) (x1 : Vec F S1x1024 .f32) (x2 : Vec F S8x1024 .f32) (x3 : Vec F S8x1024 .f32) (x4 : Vec F S1024x4096 .bf16) (x5 : Vec F S1024x128 .bf16) (x6 : Vec F S4x4096 .f32) (x7 : Vec F S2x128 .f32)

/-- The rows, normalised and modulated. -/
def hid : FVec F S256x1024 .bf16 :=
  k0_pay3 (View.readAt (Elt F) arg1.view (Rect.unit (s := S256x1024) ![0, 0] S256x1024.size (by decide)).toLoadRect (harg1.unread x0)) (View.readAt (Elt F) arg2.view (Rect.unit (s := S1x1024) ![0, 0] S1x1024.size (by decide)).toLoadRect (harg2.unread x1))
    (View.readAt (Elt F) arg3.view (Rect.unit (s := S8x1024) ![0, 0] S8x1024.size (by decide)).toLoadRect (harg3.unread x2)) (View.readAt (Elt F) arg4.view (Rect.unit (s := S8x1024) ![0, 0] S8x1024.size (by decide)).toLoadRect (harg4.unread x3))

/-- Their projection. -/
def proj : FVec F S256x4096 .f32 :=
  k0_pay4 (View.readAt (Elt F) arg1.view (Rect.unit (s := S256x1024) ![0, 0] S256x1024.size (by decide)).toLoadRect (harg1.unread x0)) (View.readAt (Elt F) arg2.view (Rect.unit (s := S1x1024) ![0, 0] S1x1024.size (by decide)).toLoadRect (harg2.unread x1))
    (View.readAt (Elt F) arg3.view (Rect.unit (s := S8x1024) ![0, 0] S8x1024.size (by decide)).toLoadRect (harg3.unread x2)) (View.readAt (Elt F) arg4.view (Rect.unit (s := S8x1024) ![0, 0] S8x1024.size (by decide)).toLoadRect (harg4.unread x3))
    (View.readAt (Elt F) arg5.view (Rect.unit (s := S1024x4096) ![0, 0] S1024x4096.size (by decide)).toLoadRect (harg5.unread x4))

/-- Tap `j` of the convolution. -/
def tap (j : Fin 4) : Vec F S1x4096 .f32 :=
  View.readAt (Elt F) arg7.view (Rect.unit (s := S4x4096) ![j.val, 0] S1x4096.size (inbC j)).toLoadRect (harg7.unread x6)

/-- Row `j` of the gates' parameters. -/
def par (j : Fin 2) : Vec F S1x128 .f32 :=
  View.readAt (Elt F) arg8.view (Rect.unit (s := S2x128) ![j.val, 0] S1x128.size (inbG j)).toLoadRect (harg8.unread x7)

/-- The gates, as stored. -/
def gate : FVec F S1x256x128 .f32 :=
  k0_pay58 (k0_pay56 (hid arg1 harg1 arg2 harg2 arg3 harg3 arg4 harg4 x0 x1 x2 x3) (View.readAt (Elt F) arg6.view (Rect.unit (s := S1024x128) ![0, 0] S1024x128.size (by decide)).toLoadRect (harg6.unread x5)))
    (k0_pay57 (hid arg1 harg1 arg2 harg2 arg3 harg3 arg4 harg4 x0 x1 x2 x3) (View.readAt (Elt F) arg6.view (Rect.unit (s := S1024x128) ![0, 0] S1024x128.size (by decide)).toLoadRect (harg6.unread x5)) (par arg8 harg8 x7 0) (par arg8 harg8 x7 1))

/-- The convolution of the four reads of the rows, and its silu. -/
def act (e : Fin 4 → Vec F S256x4096 .f32) : FVec F S256x4096 .f32 :=
  k0_pay6 (tap arg7 harg7 x6 0) (e 0) (tap arg7 harg7 x6 1) (e 1) (tap arg7 harg7 x6 2) (e 2) (tap arg7 harg7 x6 3) (e 3)

/-- The store of the projection below the 24 rows kept, and at the first point the store of zeros there. -/
def extB (p : FVec F S256x4096 .f32) : List (View.Piece (Elt F) S280x4096 .f32) :=
  [⟨Rect.unit (s := S280x4096) ![24, 0] S256x4096.size (by decide), p⟩]

def extA (p : FVec F S256x4096 .f32) : List (View.Piece (Elt F) S280x4096 .f32) :=
  [⟨Rect.unit (s := S280x4096) ![24, 0] S256x4096.size (by decide), p⟩, ⟨Rect.unit (s := S280x4096) ![0, 0] S24x4096.size (by decide), k0_pay2⟩]

variable (arg13 : Memref sig .tc .vmem S280x4096 .f32) (harg13 : arg13.IsWhole) (arg14 : Memref sig .tc .vmem S33x256x128 .f32)

/-- The rows read for tap `j`: at the first point, and at a later one, where the rows kept are `xs`. -/
def rowsA (p : FVec F S256x4096 .f32) (j : Fin 4) : Vec F S256x4096 .f32 :=
  arg13.view.readCov (extA p) (Rect.unit (s := S280x4096) ![8 * j.val, 0] S256x4096.size (inbE j)).toLoadRect

def rowsB (xs : Vec F S280x4096 .f32) (p : FVec F S256x4096 .f32) : Fin 4 → Vec F S256x4096 .f32
  | 3 => arg13.view.readCov (extB p) (Rect.unit (s := S280x4096) ![8 * (3 : Fin 4).val, 0] S256x4096.size (inbE 3)).toLoadRect
  | j => View.readAt (Elt F) arg13.view (Rect.unit (s := S280x4096) ![8 * j.val, 0] S256x4096.size (inbE j)).toLoadRect (arg13.view.writes (Elt F) (harg13.unread xs) (extB p))

/-- The slabs, at the first point and at a later one. -/
def slabsA : List (View.Piece (Elt F) S33x256x128 .f32) :=
  slabs (act arg7 harg7 x6 (rowsA arg13 (proj arg1 harg1 arg2 harg2 arg3 harg3 arg4 harg4 arg5 harg5 x0 x1 x2 x3 x4)))
    (gate arg1 harg1 arg2 harg2 arg3 harg3 arg4 harg4 arg6 harg6 arg8 harg8 x0 x1 x2 x3 x5 x7)

def slabsB (xs : Vec F S280x4096 .f32) : List (View.Piece (Elt F) S33x256x128 .f32) :=
  slabs (act arg7 harg7 x6 (rowsB arg13 harg13 xs (proj arg1 harg1 arg2 harg2 arg3 harg3 arg4 harg4 arg5 harg5 x0 x1 x2 x3 x4)))
    (gate arg1 harg1 arg2 harg2 arg3 harg3 arg4 harg4 arg6 harg6 arg8 harg8 x0 x1 x2 x3 x5 x7)

/-- The rows kept for the next point: the last 24. -/
def keep (L : List (View.Piece (Elt F) S280x4096 .f32)) : List (View.Piece (Elt F) S280x4096 .f32) :=
  ⟨Rect.unit (s := S280x4096) ![0, 0] S24x4096.size (by decide), k0_pay5 (arg13.view.readCov L (Rect.unit (s := S280x4096) ![256, 0] S24x4096.size (by decide)).toLoadRect)⟩ :: L

variable (c : Dev nD) (i : grid0.Coords) (arg9 : Memref sig .tc .vmem S32x8192 .bf16) (harg9 : arg9.IsWhole) (arg10 : Memref sig .tc .vmem S32x8192 .bf16) (harg10 : arg10.IsWhole) (arg11 : Memref sig .tc .vmem S32x16384 .bf16) (harg11 : arg11.IsWhole) (arg12 : Memref sig .tc .vmem S32x1024 .f32) (harg12 : arg12.IsWhole) (harg14 : arg14.IsWhole)

end

end Cert.Kernel5Ideal.Gen.GdnIn
-- ==== Proof.GdnIn.lean ====
/- One grid point of the delta rule's input call: what its stores leave in its four blocks, and in the 24 rows it keeps for the
   next point (Proof/Conv.lean has the formulas, Proof/GdnInStoresA.lean and Proof/GdnInStoresB.lean the stores). -/
module

public import Idealize.ShloMosaic.Lib.WordCmp
public import Idealize.ShloMosaic.Lib.WholeRead
public import Idealize.ShloMosaic.Lib.Pipeline.Value
public import Idealize.ShloMosaic.Lib.Pipeline.ValueKit
public import proofs.«01_k».proof.Proof.Conv
public import proofs.«01_k».proof.Proof.GdnInPieces

@[expose] public section

noncomputable section

namespace Cert.Kernel5Ideal.Gen.GdnIn

open Idealize.ShloMosaic Idealize.ShloMosaic.TcCoe Idealize.SL.Sem
open Gates (rms taps silu unit decay sg)

/-! ## The computation at an index -/

theorem hid_at (x : FVec Ideal S256x1024 .f32) (nw : FVec Ideal S1x1024 .f32) (sc sh : FVec Ideal S8x1024 .f32) (r : Fin 256) (k : Fin 1024) :
    k0_pay3 (F := Ideal) x nw sc sh (ix2 r k)
      = rms (fun n => x (ix2 r n)) (fun n => nw (ix2 0 n)) k * (1 + sc (ix2 ⟨r.val % 8, by omega⟩ k)) + sh (ix2 ⟨r.val % 8, by omega⟩ k) := by
  pointwise [k0_pay3, rms]

theorem proj_at (x : FVec Ideal S256x1024 .f32) (nw : FVec Ideal S1x1024 .f32) (sc sh : FVec Ideal S8x1024 .f32) (w : FVec Ideal S1024x4096 .bf16) (r : Fin 256) (l : Fin 4096) :
    k0_pay4 (F := Ideal) x nw sc sh w (ix2 r l) = ∑ k, k0_pay3 (F := Ideal) x nw sc sh (ix2 r k) * w (ix2 k l) := by
  unfold k0_pay4
  generalize k0_pay3 (F := Ideal) x nw sc sh = h
  pointwise

theorem act_at (c0 : FVec Ideal S1x4096 .f32) (e0 : FVec Ideal S256x4096 .f32) (c1 : FVec Ideal S1x4096 .f32) (e1 : FVec Ideal S256x4096 .f32)
    (c2 : FVec Ideal S1x4096 .f32) (e2 : FVec Ideal S256x4096 .f32) (c3 : FVec Ideal S1x4096 .f32) (e3 : FVec Ideal S256x4096 .f32) (r : Fin 256) (l : Fin 4096) :
    k0_pay6 (F := Ideal) c0 e0 c1 e1 c2 e2 c3 e3 (ix2 r l)
      = silu (c0 (ix2 0 l) * e0 (ix2 r l) + c1 (ix2 0 l) * e1 (ix2 r l) + c2 (ix2 0 l) * e2 (ix2 r l) + c3 (ix2 0 l) * e3 (ix2 r l)) := by
  pointwise [k0_pay6, silu, sg]

theorem head_at (s : Fin 16) (a : FVec Ideal S256x4096 .f32) (r : Fin 256) (l : Fin 128) :
    head (F := Ideal) s a (ix2 r l) = a (ix2 r ⟨128 * s.val + l.val, by omega⟩) := by
  pointwise [head]

theorem qhead_at (v : FVec Ideal S256x128 .f32) (r : Fin 256) (l : Fin 128) :
    k0_pay10 (F := Ideal) v (sq v) (ix3 0 r l) = unit (fun l => v (ix2 r l)) l * Ideal.ofBits .f32 0x3DB504F3#32 := by
  pointwise [k0_pay10, sq, unit]

theorem khead_at (v : FVec Ideal S256x128 .f32) (r : Fin 256) (l : Fin 128) :
    k0_pay11 (F := Ideal) v (ix3 0 r l) = unit (fun l => v (ix2 r l)) l := by
  pointwise [k0_pay11, unit]

theorem vhead_at (s : Fin 16) (a : FVec Ideal S256x4096 .f32) (r : Fin 256) (l : Fin 128) :
    vhead (F := Ideal) s a (ix3 0 r l) = a (ix2 r ⟨2048 + (128 * s.val + l.val), by omega⟩) := by
  pointwise [vhead, k0_pay36]

theorem logit_at (h : FVec Ideal S256x1024 .bf16) (w : FVec Ideal S1024x128 .bf16) (r : Fin 256) (l : Fin 128) :
    k0_pay55 (F := Ideal) h w (ix2 r l) = ∑ k, h (ix2 r k) * w (ix2 k l) := by
  pointwise [k0_pay55]

theorem rate_at (h : FVec Ideal S256x1024 .bf16) (w : FVec Ideal S1024x128 .bf16) (r : Fin 256) (l : Fin 128) :
    k0_pay56 (F := Ideal) h w (ix2 r l) = sg (k0_pay55 (F := Ideal) h w (ix2 r l)) := by
  unfold k0_pay56
  generalize k0_pay55 (F := Ideal) h w = g
  pointwise [sg]

theorem decay_at (h : FVec Ideal S256x1024 .bf16) (w : FVec Ideal S1024x128 .bf16) (a dt : FVec Ideal S1x128 .f32) (r : Fin 256) (l : Fin 128) :
    k0_pay57 (F := Ideal) h w a dt (ix2 r l) = decay (a (ix2 0 l)) (k0_pay55 (F := Ideal) h w (ix2 r l) + dt (ix2 0 l)) := by
  unfold k0_pay57
  generalize k0_pay55 (F := Ideal) h w = g
  pointwise [decay]
  rfl

theorem gate_at (u v : FVec Ideal S256x128 .f32) (r : Fin 256) (l : Fin 128) :
    k0_pay58 (F := Ideal) u v (ix3 0 r l) = if l.val < 8 then u (ix2 r l) else v (ix2 r l) := by
  pointwise [k0_pay58]
  show Scalar.select (IntOp.cmpi .slt (BitVec.ofNat 32 l.val) (BitVec.ofNat 32 8)) _ _ = _
  rw [WordCmp.cmpi_slt_ofNat (by omega) (by norm_num)]
  by_cases h : l.val < 8 <;> simp [h, Scalar.select]

theorem catQ_at (s : Fin 8 → FVec Ideal S1x32x128 .f32) (r : Fin 32) (n : Fin 1024) :
    catQ (F := Ideal) s (ix2 r n) = s ⟨n.val / 128, by omega⟩ (ix3 0 r ⟨n.val % 128, by omega⟩) := by
  refine Eq.trans (?_ : _ = (shapeCast S32x128 (s ⟨n.val / 128, by omega⟩) shapeCasts_S1x32x128_S32x128 : FVec Ideal S32x128 .f32) (ix2 r ⟨n.val % 128, by omega⟩)) (by pointwise)
  refine concatenate_ofFn_apply (t := S32x1024) (s₁ := S32x128) 1 (fun i => (shapeCast S32x128 (s i) shapeCasts_S1x32x128_S32x128 : FVec Ideal S32x128 .f32)) concatenates_S32x128_S32x128_S32x128_S32x128_S32x128_S32x128_S32x128_S32x128_S32x1024_d1 rfl 128 rfl (ix2 r n) ⟨n.val / 128, by omega⟩ rfl _ rfl fun b hb => ?_
  match b with
  | ⟨0, _⟩ => rfl
  | ⟨1, _⟩ => exact absurd rfl hb

theorem catV_at (s : Fin 16 → FVec Ideal S1x32x128 .f32) (r : Fin 32) (n : Fin 2048) :
    catV (F := Ideal) s (ix2 r n) = s ⟨n.val / 128, by omega⟩ (ix3 0 r ⟨n.val % 128, by omega⟩) := by
  refine Eq.trans (?_ : _ = (shapeCast S32x128 (s ⟨n.val / 128, by omega⟩) shapeCasts_S1x32x128_S32x128 : FVec Ideal S32x128 .f32) (ix2 r ⟨n.val % 128, by omega⟩)) (by pointwise)
  refine concatenate_ofFn_apply (t := S32x2048) (s₁ := S32x128) 1 (fun i => (shapeCast S32x128 (s i) shapeCasts_S1x32x128_S32x128 : FVec Ideal S32x128 .f32)) concatenates_S32x128_S32x128_S32x128_S32x128_S32x128_S32x128_S32x128_S32x128_S32x128_S32x128_S32x128_S32x128_S32x128_S32x128_S32x128_S32x128_S32x2048_d1 rfl 128 rfl (ix2 r n) ⟨n.val / 128, by omega⟩ rfl _ rfl fun b hb => ?_
  match b with
  | ⟨0, _⟩ => rfl
  | ⟨1, _⟩ => exact absurd rfl hb

theorem out_at (s : FVec Ideal S1x32x128 .f32) (r : Fin 32) (l : Fin 128) : k0_pay1 (F := Ideal) s (ix2 r l) = s (ix3 0 r l) := by
  pointwise [k0_pay1]

theorem kept_at (s : FVec Ideal S24x4096 .f32) (r : Fin 24) (l : Fin 4096) : k0_pay5 (F := Ideal) s (ix2 r l) = s (ix2 r l) := by
  pointwise [k0_pay5]

theorem zeros_at (r : Fin 24) (l : Fin 4096) : k0_pay2 (F := Ideal) (ix2 r l) = 0 := by
  pointwise [k0_pay2]

end Cert.Kernel5Ideal.Gen.GdnIn
-- ==== Proof.GdnInSlabs.lean ====
/- The delta rule's input call: what the slabs of one grid point hold, and the four blocks read from them. -/
module

public import Idealize.ShloMosaic.Lib.WordCmp
public import Idealize.ShloMosaic.Lib.WholeRead
public import Idealize.ShloMosaic.Lib.Pipeline.Value
public import Idealize.ShloMosaic.Lib.Pipeline.ValueKit
public import proofs.«01_k».proof.Proof.GdnIn

@[expose] public section

noncomputable section

namespace Cert.Kernel5Ideal.Gen.GdnIn

open Idealize.ShloMosaic Idealize.ShloMosaic.TcCoe Idealize.SL.Sem
open Gates (rms taps silu unit decay sg)

/-! ## What the slabs hold -/

/-- Row `q` of slab `s`, from the rows' activations and gates. -/
def held (a : Fin 256 → Fin 4096 → EReal) (g : Fin 256 → Fin 128 → EReal) (s : Fin 33) (q : Fin 256) (l : Fin 128) : EReal :=
  if h : s.val < 32 then
    if s.val < 8 then unit (fun l => a q ⟨128 * s.val + l.val, by omega⟩) l * Ideal.ofBits .f32 0x3DB504F3#32
    else if s.val < 16 then unit (fun l => a q ⟨128 * s.val + l.val, by omega⟩) l
    else a q ⟨128 * s.val + l.val, by omega⟩
  else g q l

theorem embT (s : Fin 33) (r : Fin 256) (l : Fin 128) :
    (Rect.unit (s := S33x256x128) ![s.val, 0, 0] S1x256x128.size (inbT s)).emb (ix3 0 r l) = ix3 s r l := by
  refine funext fun a => Fin.ext ?_
  fin_cases a
  · show s.val + 1 * 0 = s.val; omega
  · show 0 + 1 * r.val = r.val; omega
  · show 0 + 1 * l.val = l.val; omega

theorem memT (s s' : Fin 33) (h : s'.val = s.val) (r : Fin 256) (l : Fin 128) :
    (ix3 s r l : S33x256x128.Idx) ∈ (Rect.unit (s := S33x256x128) ![s'.val, 0, 0] S1x256x128.size (inbT s')).set := by
  refine (Rect.mem_set_unit (inb := inbT s')).mpr fun a => ?_
  fin_cases a
  · show s'.val ≤ s.val ∧ s.val < s'.val + 1; omega
  · show 0 ≤ r.val ∧ r.val < 0 + 256; omega
  · show 0 ≤ l.val ∧ l.val < 0 + 128; omega

section

variable (a : FVec Ideal S256x4096 .f32) (g : FVec Ideal S1x256x128 .f32)

/-- A slab whose rows are right is a part of what the slabs hold. -/
theorem part (A : Fin 256 → Fin 4096 → EReal) (G : Fin 256 → Fin 128 → EReal) (s : Fin 33) (w : FVec Ideal S1x256x128 .f32) (hw : ∀ r l, w (ix3 0 r l) = held A G s r l)
    (x : S1x256x128.Idx) :
    w x = (fun y : S33x256x128.Idx => held A G (y 0) (y 1) (y 2)) ((Rect.unit (s := S33x256x128) ![s.val, 0, 0] S1x256x128.size (inbT s)).emb x) := by
  obtain ⟨o, r, l, rfl⟩ : ∃ (o : Fin 1) (r : Fin 256) (l : Fin 128), x = ix3 o r l := ⟨x 0, x 1, x 2, eq_ix3 x⟩
  obtain rfl : o = 0 := Subsingleton.elim _ _
  rw [embT]
  exact hw r l

theorem slabs_at (s : Fin 33) (q : Fin 256) (l : Fin 128) :
    View.canon (slabs (F := Ideal) a g) (ix3 s q l) = held (fun q l => a (ix2 q l)) (fun q l => g (ix3 0 q l)) s q l := by
  refine View.canon_apply_of_pieces (Val := Elt Ideal) (e := .f32)
    (fun y : S33x256x128.Idx => held (fun q l => a (ix2 q l)) (fun q l => g (ix3 0 q l)) (y 0) (y 1) (y 2)) _ ?_ _ ?_
  · intro p hp
    rcases List.mem_cons.mp hp with rfl | hp
    · exact part _ _ 32 g fun r l => by
        unfold held
        rw [dif_neg (by show ¬ 32 < 32; omega)]
    rcases List.mem_append.mp hp with hp | hp
    · obtain ⟨i, -, rfl⟩ := List.mem_map.mp hp
      refine part _ _ ⟨16 + i.val, by omega⟩ _ fun r l => ?_
      have e : 2048 + (128 * i.val + l.val) = 128 * (16 + i.val) + l.val := by omega
      refine (vhead_at i a r l).trans ?_
      unfold held
      rw [dif_pos (by show 16 + i.val < 32; omega), if_neg (by show ¬ 16 + i.val < 8; omega), if_neg (by show ¬ 16 + i.val < 16; omega)]
      simp only [e]
    · obtain ⟨i, -, rfl⟩ := List.mem_map.mp hp
      by_cases h : i.val % 2 = 1
      · rw [if_pos h]
        refine part _ _ ⟨8 + i.val / 2, by omega⟩ _ fun r l => ?_
        refine (khead_at _ r l).trans ?_
        unfold held
        rw [dif_pos (by show 8 + i.val / 2 < 32; omega), if_neg (by show ¬ 8 + i.val / 2 < 8; omega), if_pos (by show 8 + i.val / 2 < 16; omega)]
        simp only [head_at]
      · rw [if_neg h]
        refine part _ _ ⟨i.val / 2, by omega⟩ _ fun r l => ?_
        refine (qhead_at _ r l).trans ?_
        unfold held
        rw [dif_pos (by show i.val / 2 < 32; omega), if_pos (by show i.val / 2 < 8; omega)]
        simp only [head_at]
  · by_cases h32 : s.val = 32
    · obtain rfl : s = 32 := Fin.ext h32
      exact ⟨_, List.mem_cons_self, memT 32 32 rfl q l⟩
    by_cases h16 : 16 ≤ s.val
    · refine ⟨_, List.mem_cons_of_mem _ (List.mem_append_left _ (List.mem_map.mpr ⟨⟨s.val - 16, by omega⟩, List.mem_reverse.mpr (List.mem_finRange _), rfl⟩)), ?_⟩
      exact memT s ⟨16 + (s.val - 16), by omega⟩ (by show 16 + (s.val - 16) = s.val; omega) q l
    by_cases h8 : 8 ≤ s.val
    · refine ⟨_, List.mem_cons_of_mem _ (List.mem_append_right _ (List.mem_map.mpr ⟨⟨2 * (s.val - 8) + 1, by omega⟩, List.mem_reverse.mpr (List.mem_finRange _), if_pos (by show (2 * (s.val - 8) + 1) % 2 = 1; omega)⟩)), ?_⟩
      exact memT s ⟨8 + (2 * (s.val - 8) + 1) / 2, by omega⟩ (by show 8 + (2 * (s.val - 8) + 1) / 2 = s.val; omega) q l
    · refine ⟨_, List.mem_cons_of_mem _ (List.mem_append_right _ (List.mem_map.mpr ⟨⟨2 * s.val, by omega⟩, List.mem_reverse.mpr (List.mem_finRange _), if_neg (by show ¬ (2 * s.val) % 2 = 1; omega)⟩)), ?_⟩
      exact memT s ⟨2 * s.val / 2, by omega⟩ (by show 2 * s.val / 2 = s.val; omega) q l

variable (arg14 : Memref sig .tc .vmem S33x256x128 .f32)

theorem rd_at (s : Fin 33) (b : Fin 8) (r : Fin 32) (l : Fin 128) :
    rd (F := Ideal) arg14 (slabs a g) s b (ix3 0 r l) = held (fun q l => a (ix2 q l)) (fun q l => g (ix3 0 q l)) s ⟨b.val + 8 * r.val, by omega⟩ l := by
  unfold rd
  rw [View.readCov_eq_canon']
  refine Eq.trans (congrArg (View.canon (slabs (F := Ideal) a g)) (funext fun a => Fin.ext ?_)) (slabs_at a g s ⟨b.val + 8 * r.val, by omega⟩ l)
  fin_cases a
  · show s.val + 1 * 0 = s.val; omega
  · show b.val + 8 * r.val = b.val + 8 * r.val; rfl
  · show 0 + 1 * l.val = l.val; omega

theorem outQ_at (r : Fin 32) (n : Fin 8192) :
    View.canon (outQ (F := Ideal) arg14 (slabs a g)) (ix2 r n)
      = held (fun q l => a (ix2 q l)) (fun q l => g (ix3 0 q l)) ⟨(n.val % 1024) / 128, by omega⟩ ⟨n.val / 1024 + 8 * r.val, by omega⟩ ⟨n.val % 128, by omega⟩ := by
  refine View.canon_apply_of_pieces (Val := Elt Ideal) (e := .bf16)
    (fun y : S32x8192.Idx => held (fun q l => a (ix2 q l)) (fun q l => g (ix3 0 q l)) ⟨((y 1).val % 1024) / 128, by have : (y 1).val < 8192 := (y 1).isLt; omega⟩ ⟨(y 1).val / 1024 + 8 * (y 0).val, by have : (y 0).val < 32 := (y 0).isLt; have : (y 1).val < 8192 := (y 1).isLt; omega⟩ ⟨(y 1).val % 128, by omega⟩) _ ?_ _ ?_
  · intro p hp x
    obtain ⟨b, -, rfl⟩ := List.mem_map.mp hp
    obtain ⟨r, n, rfl⟩ : ∃ (r : Fin 32) (n : Fin 1024), x = ix2 r n := ⟨x 0, x 1, eq_ix2 x⟩
    have h0 : ((Rect.unit (s := S32x8192) ![0, 1024 * b.val] S32x1024.size (inbQ b)).emb (ix2 r n) 0).val = r.val := by show 0 + 1 * r.val = r.val; omega
    have h1 : ((Rect.unit (s := S32x8192) ![0, 1024 * b.val] S32x1024.size (inbQ b)).emb (ix2 r n) 1).val = 1024 * b.val + n.val := by show 1024 * b.val + 1 * n.val = _; omega
    have d1 : (1024 * b.val + n.val) / 1024 = b.val := by omega
    have d2 : (1024 * b.val + n.val) % 1024 = n.val := by omega
    have d3 : (1024 * b.val + n.val) % 128 = n.val % 128 := by omega
    have hx : catQ (F := Ideal) (fun i => rd arg14 (slabs a g) ⟨i.val, by omega⟩ b) (ix2 r n)
        = held (fun q l => a (ix2 q l)) (fun q l => g (ix3 0 q l)) ⟨n.val / 128, by omega⟩ ⟨b.val + 8 * r.val, by omega⟩ ⟨n.val % 128, by omega⟩ :=
      (catQ_at _ r n).trans (rd_at a g arg14 ⟨n.val / 128, by omega⟩ b r ⟨n.val % 128, by omega⟩)
    refine Eq.trans hx ?_
    simp only [h0, h1, d1, d2, d3]
  · refine ⟨_, List.mem_map.mpr ⟨⟨n.val / 1024, by omega⟩, List.mem_reverse.mpr (List.mem_finRange _), rfl⟩, ?_⟩
    refine (Rect.mem_set_unit (inb := inbQ _)).mpr fun a => ?_
    fin_cases a
    · show 0 ≤ r.val ∧ r.val < 0 + 32; omega
    · show 1024 * (n.val / 1024) ≤ n.val ∧ n.val < 1024 * (n.val / 1024) + 1024; omega

theorem outK_at (r : Fin 32) (n : Fin 8192) :
    View.canon (outK (F := Ideal) arg14 (slabs a g)) (ix2 r n)
      = held (fun q l => a (ix2 q l)) (fun q l => g (ix3 0 q l)) ⟨8 + (n.val % 1024) / 128, by omega⟩ ⟨n.val / 1024 + 8 * r.val, by omega⟩ ⟨n.val % 128, by omega⟩ := by
  refine View.canon_apply_of_pieces (Val := Elt Ideal) (e := .bf16)
    (fun y : S32x8192.Idx => held (fun q l => a (ix2 q l)) (fun q l => g (ix3 0 q l)) ⟨8 + ((y 1).val % 1024) / 128, by have : (y 1).val < 8192 := (y 1).isLt; omega⟩ ⟨(y 1).val / 1024 + 8 * (y 0).val, by have : (y 0).val < 32 := (y 0).isLt; have : (y 1).val < 8192 := (y 1).isLt; omega⟩ ⟨(y 1).val % 128, by omega⟩) _ ?_ _ ?_
  · intro p hp x
    obtain ⟨b, -, rfl⟩ := List.mem_map.mp hp
    obtain ⟨r, n, rfl⟩ : ∃ (r : Fin 32) (n : Fin 1024), x = ix2 r n := ⟨x 0, x 1, eq_ix2 x⟩
    have h0 : ((Rect.unit (s := S32x8192) ![0, 1024 * b.val] S32x1024.size (inbQ b)).emb (ix2 r n) 0).val = r.val := by show 0 + 1 * r.val = r.val; omega
    have h1 : ((Rect.unit (s := S32x8192) ![0, 1024 * b.val] S32x1024.size (inbQ b)).emb (ix2 r n) 1).val = 1024 * b.val + n.val := by show 1024 * b.val + 1 * n.val = _; omega
    have d1 : (1024 * b.val + n.val) / 1024 = b.val := by omega
    have d2 : (1024 * b.val + n.val) % 1024 = n.val := by omega
    have d3 : (1024 * b.val + n.val) % 128 = n.val % 128 := by omega
    have hx : catQ (F := Ideal) (fun i => rd arg14 (slabs a g) ⟨8 + i.val, by omega⟩ b) (ix2 r n)
        = held (fun q l => a (ix2 q l)) (fun q l => g (ix3 0 q l)) ⟨8 + n.val / 128, by omega⟩ ⟨b.val + 8 * r.val, by omega⟩ ⟨n.val % 128, by omega⟩ :=
      (catQ_at _ r n).trans (rd_at a g arg14 ⟨8 + n.val / 128, by omega⟩ b r ⟨n.val % 128, by omega⟩)
    refine Eq.trans hx ?_
    simp only [h0, h1, d1, d2, d3]
  · refine ⟨_, List.mem_map.mpr ⟨⟨n.val / 1024, by omega⟩, List.mem_reverse.mpr (List.mem_finRange _), rfl⟩, ?_⟩
    refine (Rect.mem_set_unit (inb := inbQ _)).mpr fun a => ?_
    fin_cases a
    · show 0 ≤ r.val ∧ r.val < 0 + 32; omega
    · show 1024 * (n.val / 1024) ≤ n.val ∧ n.val < 1024 * (n.val / 1024) + 1024; omega

theorem outV_at (r : Fin 32) (n : Fin 16384) :
    View.canon (outV (F := Ideal) arg14 (slabs a g)) (ix2 r n)
      = held (fun q l => a (ix2 q l)) (fun q l => g (ix3 0 q l)) ⟨16 + (n.val % 2048) / 128, by omega⟩ ⟨n.val / 2048 + 8 * r.val, by omega⟩ ⟨n.val % 128, by omega⟩ := by
  refine View.canon_apply_of_pieces (Val := Elt Ideal) (e := .bf16)
    (fun y : S32x16384.Idx => held (fun q l => a (ix2 q l)) (fun q l => g (ix3 0 q l)) ⟨16 + ((y 1).val % 2048) / 128, by have : (y 1).val < 16384 := (y 1).isLt; omega⟩ ⟨(y 1).val / 2048 + 8 * (y 0).val, by have : (y 0).val < 32 := (y 0).isLt; have : (y 1).val < 16384 := (y 1).isLt; omega⟩ ⟨(y 1).val % 128, by omega⟩) _ ?_ _ ?_
  · intro p hp x
    obtain ⟨b, -, rfl⟩ := List.mem_map.mp hp
    obtain ⟨r, n, rfl⟩ : ∃ (r : Fin 32) (n : Fin 2048), x = ix2 r n := ⟨x 0, x 1, eq_ix2 x⟩
    have h0 : ((Rect.unit (s := S32x16384) ![0, 2048 * b.val] S32x2048.size (inbV b)).emb (ix2 r n) 0).val = r.val := by show 0 + 1 * r.val = r.val; omega
    have h1 : ((Rect.unit (s := S32x16384) ![0, 2048 * b.val] S32x2048.size (inbV b)).emb (ix2 r n) 1).val = 2048 * b.val + n.val := by show 2048 * b.val + 1 * n.val = _; omega
    have d1 : (2048 * b.val + n.val) / 2048 = b.val := by omega
    have d2 : (2048 * b.val + n.val) % 2048 = n.val := by omega
    have d3 : (2048 * b.val + n.val) % 128 = n.val % 128 := by omega
    have hx : catV (F := Ideal) (fun i => rd arg14 (slabs a g) ⟨16 + i.val, by omega⟩ b) (ix2 r n)
        = held (fun q l => a (ix2 q l)) (fun q l => g (ix3 0 q l)) ⟨16 + n.val / 128, by omega⟩ ⟨b.val + 8 * r.val, by omega⟩ ⟨n.val % 128, by omega⟩ :=
      (catV_at _ r n).trans (rd_at a g arg14 ⟨16 + n.val / 128, by omega⟩ b r ⟨n.val % 128, by omega⟩)
    refine Eq.trans hx ?_
    simp only [h0, h1, d1, d2, d3]
  · refine ⟨_, List.mem_map.mpr ⟨⟨n.val / 2048, by omega⟩, List.mem_reverse.mpr (List.mem_finRange _), rfl⟩, ?_⟩
    refine (Rect.mem_set_unit (inb := inbV _)).mpr fun a => ?_
    fin_cases a
    · show 0 ≤ r.val ∧ r.val < 0 + 32; omega
    · show 2048 * (n.val / 2048) ≤ n.val ∧ n.val < 2048 * (n.val / 2048) + 2048; omega

theorem outG_at (r : Fin 32) (n : Fin 1024) :
    View.canon (outG (F := Ideal) arg14 (slabs a g)) (ix2 r n)
      = held (fun q l => a (ix2 q l)) (fun q l => g (ix3 0 q l)) 32 ⟨n.val / 128 + 8 * r.val, by omega⟩ ⟨n.val % 128, by omega⟩ := by
  refine View.canon_apply_of_pieces (Val := Elt Ideal) (e := .f32)
    (fun y : S32x1024.Idx => held (fun q l => a (ix2 q l)) (fun q l => g (ix3 0 q l)) 32 ⟨(y 1).val / 128 + 8 * (y 0).val, by have : (y 0).val < 32 := (y 0).isLt; have : (y 1).val < 1024 := (y 1).isLt; omega⟩ ⟨(y 1).val % 128, by omega⟩) _ ?_ _ ?_
  · intro p hp x
    obtain ⟨b, -, rfl⟩ := List.mem_map.mp hp
    obtain ⟨r, n, rfl⟩ : ∃ (r : Fin 32) (n : Fin 128), x = ix2 r n := ⟨x 0, x 1, eq_ix2 x⟩
    have h0 : ((Rect.unit (s := S32x1024) ![0, 128 * b.val] S32x128.size (inbO b)).emb (ix2 r n) 0).val = r.val := by show 0 + 1 * r.val = r.val; omega
    have h1 : ((Rect.unit (s := S32x1024) ![0, 128 * b.val] S32x128.size (inbO b)).emb (ix2 r n) 1).val = 128 * b.val + n.val := by show 128 * b.val + 1 * n.val = _; omega
    have d1 : (128 * b.val + n.val) / 128 = b.val := by omega
    have d2 : (128 * b.val + n.val) % 128 = n.val := by omega
    have d3 : (128 * b.val + n.val) % 128 = n.val % 128 := by omega
    have d4 : n.val % 128 = n.val := by omega
    have hx : k0_pay1 (F := Ideal) (rd arg14 (slabs a g) 32 b) (ix2 r n)
        = held (fun q l => a (ix2 q l)) (fun q l => g (ix3 0 q l)) 32 ⟨b.val + 8 * r.val, by omega⟩ n :=
      (out_at _ r n).trans (rd_at a g arg14 32 b r n)
    refine Eq.trans hx ?_
    simp only [h0, h1, d1, d2, d3, d4]
  · refine ⟨_, List.mem_map.mpr ⟨⟨n.val / 128, by omega⟩, List.mem_reverse.mpr (List.mem_finRange _), rfl⟩, ?_⟩
    refine (Rect.mem_set_unit (inb := inbO _)).mpr fun a => ?_
    fin_cases a
    · show 0 ≤ r.val ∧ r.val < 0 + 32; omega
    · show 128 * (n.val / 128) ≤ n.val ∧ n.val < 128 * (n.val / 128) + 128; omega

end

end Cert.Kernel5Ideal.Gen.GdnIn
-- ==== Proof.GdnInStoresA.lean ====
/- The delta rule's input call: the stores of the first grid point are those of Proof/GdnInPieces.lean. -/
module

public import proofs.«01_k».proof.Proof.GdnInPieces

@[expose] public section

set_option maxRecDepth 16384
set_option maxHeartbeats 2000000

noncomputable section

namespace Cert.Kernel5Ideal.Gen.GdnIn

open Idealize.ShloMosaic Idealize.ShloMosaic.TcCoe Idealize.SL.Sem

variable {F : FTy → Type} [FloatOps F]

variable (arg1 : Memref sig .tc .vmem S256x1024 .f32) (harg1 : arg1.IsWhole) (arg2 : Memref sig .tc .vmem S1x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S4x4096 .f32) (harg7 : arg7.IsWhole) (arg8 : Memref sig .tc .vmem S2x128 .f32) (harg8 : arg8.IsWhole)
    (x0 : Vec F S256x1024 .f32) (x1 : Vec F S1x1024 .f32) (x2 : Vec F S8x1024 .f32) (x3 : Vec F S8x1024 .f32) (x4 : Vec F S1024x4096 .bf16) (x5 : Vec F S1024x128 .bf16) (x6 : Vec F S4x4096 .f32) (x7 : Vec F S2x128 .f32)

variable (arg13 : Memref sig .tc .vmem S280x4096 .f32) (harg13 : arg13.IsWhole) (arg14 : Memref sig .tc .vmem S33x256x128 .f32)

variable (c : Dev nD) (i : grid0.Coords) (arg9 : Memref sig .tc .vmem S32x8192 .bf16) (harg9 : arg9.IsWhole) (arg10 : Memref sig .tc .vmem S32x8192 .bf16) (harg10 : arg10.IsWhole) (arg11 : Memref sig .tc .vmem S32x16384 .bf16) (harg11 : arg11.IsWhole) (arg12 : Memref sig .tc .vmem S32x1024 .f32) (harg12 : arg12.IsWhole) (harg14 : arg14.IsWhole)

theorem piecesQA (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).1
      = outQ arg14 (slabsA arg1 harg1 arg2 harg2 arg3 harg3 arg4 harg4 arg5 harg5 arg6 harg6 arg7 harg7 arg8 harg8 x0 x1 x2 x3 x4 x5 x6 x7 arg13) := rfl

theorem piecesKA (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.1
      = outK arg14 (slabsA arg1 harg1 arg2 harg2 arg3 harg3 arg4 harg4 arg5 harg5 arg6 harg6 arg7 harg7 arg8 harg8 x0 x1 x2 x3 x4 x5 x6 x7 arg13) := rfl

theorem piecesVA (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.1
      = outV arg14 (slabsA arg1 harg1 arg2 harg2 arg3 harg3 arg4 harg4 arg5 harg5 arg6 harg6 arg7 harg7 arg8 harg8 x0 x1 x2 x3 x4 x5 x6 x7 arg13) := rfl

theorem piecesGA (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.1
      = outG arg14 (slabsA arg1 harg1 arg2 harg2 arg3 harg3 arg4 harg4 arg5 harg5 arg6 harg6 arg7 harg7 arg8 harg8 x0 x1 x2 x3 x4 x5 x6 x7 arg13) := rfl

theorem keepA (hc0 : cond0_0 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7).2.2.2.2.1
      = keep arg13 (extA (proj arg1 harg1 arg2 harg2 arg3 harg3 arg4 harg4 arg5 harg5 x0 x1 x2 x3 x4)) := rfl

end Cert.Kernel5Ideal.Gen.GdnIn
-- ==== Proof.GdnInStoresB.lean ====
/- The delta rule's input call: the stores of a later grid point are those of Proof/GdnInPieces.lean. -/
module

public import proofs.«01_k».proof.Proof.GdnInPieces

@[expose] public section

set_option maxRecDepth 16384
set_option maxHeartbeats 2000000

noncomputable section

namespace Cert.Kernel5Ideal.Gen.GdnIn

open Idealize.ShloMosaic Idealize.ShloMosaic.TcCoe Idealize.SL.Sem

variable {F : FTy → Type} [FloatOps F]

variable (arg1 : Memref sig .tc .vmem S256x1024 .f32) (harg1 : arg1.IsWhole) (arg2 : Memref sig .tc .vmem S1x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S4x4096 .f32) (harg7 : arg7.IsWhole) (arg8 : Memref sig .tc .vmem S2x128 .f32) (harg8 : arg8.IsWhole)
    (x0 : Vec F S256x1024 .f32) (x1 : Vec F S1x1024 .f32) (x2 : Vec F S8x1024 .f32) (x3 : Vec F S8x1024 .f32) (x4 : Vec F S1024x4096 .bf16) (x5 : Vec F S1024x128 .bf16) (x6 : Vec F S4x4096 .f32) (x7 : Vec F S2x128 .f32)

variable (arg13 : Memref sig .tc .vmem S280x4096 .f32) (harg13 : arg13.IsWhole) (arg14 : Memref sig .tc .vmem S33x256x128 .f32)

variable (c : Dev nD) (i : grid0.Coords) (arg9 : Memref sig .tc .vmem S32x8192 .bf16) (harg9 : arg9.IsWhole) (arg10 : Memref sig .tc .vmem S32x8192 .bf16) (harg10 : arg10.IsWhole) (arg11 : Memref sig .tc .vmem S32x16384 .bf16) (harg11 : arg11.IsWhole) (arg12 : Memref sig .tc .vmem S32x1024 .f32) (harg12 : arg12.IsWhole) (harg14 : arg14.IsWhole)

theorem piecesQB (hc0 : ¬cond0_0 i) (xs : Vec F S280x4096 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs).1
      = outQ arg14 (slabsB arg1 harg1 arg2 harg2 arg3 harg3 arg4 harg4 arg5 harg5 arg6 harg6 arg7 harg7 arg8 harg8 x0 x1 x2 x3 x4 x5 x6 x7 arg13 harg13 xs) := rfl

theorem piecesKB (hc0 : ¬cond0_0 i) (xs : Vec F S280x4096 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs).2.1
      = outK arg14 (slabsB arg1 harg1 arg2 harg2 arg3 harg3 arg4 harg4 arg5 harg5 arg6 harg6 arg7 harg7 arg8 harg8 x0 x1 x2 x3 x4 x5 x6 x7 arg13 harg13 xs) := rfl

theorem piecesVB (hc0 : ¬cond0_0 i) (xs : Vec F S280x4096 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs).2.2.1
      = outV arg14 (slabsB arg1 harg1 arg2 harg2 arg3 harg3 arg4 harg4 arg5 harg5 arg6 harg6 arg7 harg7 arg8 harg8 x0 x1 x2 x3 x4 x5 x6 x7 arg13 harg13 xs) := rfl

theorem piecesGB (hc0 : ¬cond0_0 i) (xs : Vec F S280x4096 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs).2.2.2.1
      = outG arg14 (slabsB arg1 harg1 arg2 harg2 arg3 harg3 arg4 harg4 arg5 harg5 arg6 harg6 arg7 harg7 arg8 harg8 x0 x1 x2 x3 x4 x5 x6 x7 arg13 harg13 xs) := rfl

theorem keepB (hc0 : ¬cond0_0 i) (xs : Vec F S280x4096 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs).2.2.2.2.1
      = keep arg13 (extB (proj arg1 harg1 arg2 harg2 arg3 harg3 arg4 harg4 arg5 harg5 x0 x1 x2 x3 x4)) := rfl

end Cert.Kernel5Ideal.Gen.GdnIn
-- ==== Proof.GdnInPoint.lean ====
/- The delta rule's input call: what one grid point leaves in its four blocks, and in the rows it keeps for the next point. -/
module

public import Idealize.ShloMosaic.Lib.WordCmp
public import Idealize.ShloMosaic.Lib.WholeRead
public import Idealize.ShloMosaic.Lib.Pipeline.Value
public import Idealize.ShloMosaic.Lib.Pipeline.ValueKit
public import proofs.«01_k».proof.Proof.GdnInSlabs
public import proofs.«01_k».proof.Proof.GdnInStoresA
public import proofs.«01_k».proof.Proof.GdnInStoresB

@[expose] public section

noncomputable section

namespace Cert.Kernel5Ideal.Gen.GdnIn

open Idealize.ShloMosaic Idealize.ShloMosaic.TcCoe Idealize.SL.Sem
open Gates (rms taps silu unit decay sg)

/-! ## The values a point computes, from its blocks -/

section

variable (x0 : FVec Ideal S256x1024 .f32) (x1 : FVec Ideal S1x1024 .f32) (x2 : FVec Ideal S8x1024 .f32) (x3 : FVec Ideal S8x1024 .f32) (x4 : FVec Ideal S1024x4096 .bf16) (x5 : FVec Ideal S1024x128 .bf16) (x6 : FVec Ideal S4x4096 .f32) (x7 : FVec Ideal S2x128 .f32)

/-- Row `r` normalised and modulated, and its projections. -/
def bhid (r : Fin 256) (k : Fin 1024) : EReal :=
  rms (fun n => x0 (ix2 r n)) (fun n => x1 (ix2 0 n)) k * (1 + x2 (ix2 ⟨r.val % 8, by omega⟩ k)) + x3 (ix2 ⟨r.val % 8, by omega⟩ k)

def bproj (r : Fin 256) (l : Fin 4096) : EReal := ∑ k, bhid x0 x1 x2 x3 r k * x4 (ix2 k l)

def blogit (r : Fin 256) (l : Fin 128) : EReal := ∑ k, bhid x0 x1 x2 x3 r k * x5 (ix2 k l)

/-- The projection that tap `j` reads for row `r`, the rows kept being `cr`. -/
def bpast (cr : Fin 24 → Fin 4096 → EReal) (j : Fin 4) (r : Fin 256) (l : Fin 4096) : EReal :=
  if h : 8 * j.val + r.val < 24 then cr ⟨8 * j.val + r.val, h⟩ l else bproj x0 x1 x2 x3 x4 ⟨8 * j.val + r.val - 24, by omega⟩ l

def bact (cr : Fin 24 → Fin 4096 → EReal) (r : Fin 256) (l : Fin 4096) : EReal :=
  silu (taps (fun j => x6 (ix2 j l)) fun j => bpast x0 x1 x2 x3 x4 cr j r l)

def bgate (r : Fin 256) (l : Fin 128) : EReal :=
  Gates.lane (fun l => x7 (ix2 0 l)) (fun l => x7 (ix2 1 l)) (fun l => blogit x0 x1 x2 x3 x5 r l) l

end

/-! ## The values a point reads -/

/-- A read of a block's columns from row `o` on. -/
theorem ld_at {n0 n1 m0 m1 : ℕ} {e : EltTy} (arg : Memref sig .tc .vmem ⟨2, ![n0, n1]⟩ e) (harg : arg.IsWhole) (x : (⟨2, ![n0, n1]⟩ : Shape).Idx → Elt Ideal e)
    (o : ℕ) (inb : ∀ a, (![o, 0] : Fin 2 → ℕ) a + (![m0, m1] : Fin 2 → ℕ) a ≤ (![n0, n1] : Fin 2 → ℕ) a) (r : Fin m0) (l : Fin m1) (q : Fin n0) (k : Fin n1)
    (hq : o + r.val = q.val) (hk : l.val = k.val) :
    View.readAt (Elt Ideal) arg.view (Rect.unit (s := ⟨2, ![n0, n1]⟩) ![o, 0] ![m0, m1] inb).toLoadRect (harg.unread x) (ix2 r l) = x (ix2 q k) :=
  (harg.readAt_unread _ _ _).trans (congrArg x (funext fun a => Fin.ext (by
    fin_cases a
    · show o + 1 * r.val = q.val; omega
    · show 0 + 1 * l.val = k.val; omega)))

section

variable (arg1 : Memref sig .tc .vmem S256x1024 .f32) (harg1 : arg1.IsWhole) (arg2 : Memref sig .tc .vmem S1x1024 .f32) (harg2 : arg2.IsWhole) (arg3 : Memref sig .tc .vmem S8x1024 .f32) (harg3 : arg3.IsWhole) (arg4 : Memref sig .tc .vmem S8x1024 .f32) (harg4 : arg4.IsWhole) (arg5 : Memref sig .tc .vmem S1024x4096 .bf16) (harg5 : arg5.IsWhole) (arg6 : Memref sig .tc .vmem S1024x128 .bf16) (harg6 : arg6.IsWhole) (arg7 : Memref sig .tc .vmem S4x4096 .f32) (harg7 : arg7.IsWhole) (arg8 : Memref sig .tc .vmem S2x128 .f32) (harg8 : arg8.IsWhole)
    (x0 : FVec Ideal S256x1024 .f32) (x1 : FVec Ideal S1x1024 .f32) (x2 : FVec Ideal S8x1024 .f32) (x3 : FVec Ideal S8x1024 .f32) (x4 : FVec Ideal S1024x4096 .bf16) (x5 : FVec Ideal S1024x128 .bf16) (x6 : FVec Ideal S4x4096 .f32) (x7 : FVec Ideal S2x128 .f32)

theorem ld1 (r : Fin 256) (n : Fin 1024) : View.readAt (Elt Ideal) arg1.view (Rect.unit (s := S256x1024) ![0, 0] S256x1024.size (by decide)).toLoadRect (harg1.unread x0) (ix2 r n) = x0 (ix2 r n) :=
  ld_at arg1 harg1 x0 0 _ r n r n (Nat.zero_add _) rfl

theorem ld2 (n : Fin 1024) : View.readAt (Elt Ideal) arg2.view (Rect.unit (s := S1x1024) ![0, 0] S1x1024.size (by decide)).toLoadRect (harg2.unread x1) (ix2 0 n) = x1 (ix2 0 n) :=
  ld_at arg2 harg2 x1 0 _ 0 n 0 n (Nat.zero_add _) rfl

theorem ld3 (r : Fin 8) (n : Fin 1024) : View.readAt (Elt Ideal) arg3.view (Rect.unit (s := S8x1024) ![0, 0] S8x1024.size (by decide)).toLoadRect (harg3.unread x2) (ix2 r n) = x2 (ix2 r n) :=
  ld_at arg3 harg3 x2 0 _ r n r n (Nat.zero_add _) rfl

theorem ld5 (r : Fin 1024) (n : Fin 4096) : View.readAt (Elt Ideal) arg5.view (Rect.unit (s := S1024x4096) ![0, 0] S1024x4096.size (by decide)).toLoadRect (harg5.unread x4) (ix2 r n) = x4 (ix2 r n) :=
  ld_at arg5 harg5 x4 0 _ r n r n (Nat.zero_add _) rfl

theorem ld6 (r : Fin 1024) (n : Fin 128) : View.readAt (Elt Ideal) arg6.view (Rect.unit (s := S1024x128) ![0, 0] S1024x128.size (by decide)).toLoadRect (harg6.unread x5) (ix2 r n) = x5 (ix2 r n) :=
  ld_at arg6 harg6 x5 0 _ r n r n (Nat.zero_add _) rfl

theorem tap_at (j : Fin 4) (n : Fin 4096) : tap (F := Ideal) arg7 harg7 x6 j (ix2 0 n) = x6 (ix2 j n) :=
  ld_at arg7 harg7 x6 j.val _ 0 n j n (Nat.add_zero _) rfl

theorem par_at (j : Fin 2) (n : Fin 128) : par (F := Ideal) arg8 harg8 x7 j (ix2 0 n) = x7 (ix2 j n) :=
  ld_at arg8 harg8 x7 j.val _ 0 n j n (Nat.add_zero _) rfl

theorem rows_at (r : Fin 256) (k : Fin 1024) : hid (F := Ideal) arg1 harg1 arg2 harg2 arg3 harg3 arg4 harg4 x0 x1 x2 x3 (ix2 r k) = bhid x0 x1 x2 x3 r k := by
  exact (hid_at _ _ _ _ r k).trans (congrArg₂ (fun a b : EReal => a + b) (congrArg₂ (fun a b : EReal => a * b)
    (congrFun (congrArg₂ rms (funext fun n => ld1 arg1 harg1 x0 r n) (funext fun n => ld2 arg2 harg2 x1 n)) k)
    (congrArg (fun a : EReal => 1 + a) (ld3 arg3 harg3 x2 _ k))) (ld3 arg4 harg4 x3 _ k))

theorem projection_at (r : Fin 256) (l : Fin 4096) :
    proj (F := Ideal) arg1 harg1 arg2 harg2 arg3 harg3 arg4 harg4 arg5 harg5 x0 x1 x2 x3 x4 (ix2 r l) = bproj x0 x1 x2 x3 x4 r l := by
  exact (proj_at _ _ _ _ _ r l).trans (Finset.sum_congr rfl fun k _ =>
    congrArg₂ (fun a b : EReal => a * b) (rows_at arg1 harg1 arg2 harg2 arg3 harg3 arg4 harg4 x0 x1 x2 x3 r k) (ld5 arg5 harg5 x4 k l))

theorem gates_at (r : Fin 256) (l : Fin 128) :
    gate (F := Ideal) arg1 harg1 arg2 harg2 arg3 harg3 arg4 harg4 arg6 harg6 arg8 harg8 x0 x1 x2 x3 x5 x7 (ix3 0 r l) = bgate x0 x1 x2 x3 x5 x7 r l := by
  have e : k0_pay55 (F := Ideal) (hid arg1 harg1 arg2 harg2 arg3 harg3 arg4 harg4 x0 x1 x2 x3) (View.readAt (Elt Ideal) arg6.view (Rect.unit (s := S1024x128) ![0, 0] S1024x128.size (by decide)).toLoadRect (harg6.unread x5)) (ix2 r l) = blogit x0 x1 x2 x3 x5 r l :=
    (logit_at _ _ r l).trans (Finset.sum_congr rfl fun k _ =>
      congrArg₂ (fun a b : EReal => a * b) (rows_at arg1 harg1 arg2 harg2 arg3 harg3 arg4 harg4 x0 x1 x2 x3 r k) (ld6 arg6 harg6 x5 k l))
  refine (gate_at _ _ r l).trans ?_
  rw [rate_at, decay_at, e, par_at, par_at]
  rfl

variable (arg13 : Memref sig .tc .vmem S280x4096 .f32) (harg13 : arg13.IsWhole) (xs : FVec Ideal S280x4096 .f32) (p : FVec Ideal S256x4096 .f32)

/-! ## The rows kept, with the projection below them -/

theorem embP (r : Fin 256) (l : Fin 4096) :
    (Rect.unit (s := S280x4096) ![24, 0] S256x4096.size (by decide)).emb (ix2 r l) = (ix2 ⟨24 + r.val, by omega⟩ l : S280x4096.Idx) := by
  refine funext fun a => Fin.ext ?_
  fin_cases a
  · show 24 + 1 * r.val = 24 + r.val; omega
  · show 0 + 1 * l.val = l.val; omega

theorem embZ (r : Fin 24) (l : Fin 4096) :
    (Rect.unit (s := S280x4096) ![0, 0] S24x4096.size (by decide)).emb (ix2 r l) = (ix2 ⟨r.val, by omega⟩ l : S280x4096.Idx) := by
  refine funext fun a => Fin.ext ?_
  fin_cases a
  · show 0 + 1 * r.val = r.val; omega
  · show 0 + 1 * l.val = l.val; omega

theorem notP (q : Fin 280) (l : Fin 4096) (h : q.val < 24) :
    (ix2 q l : S280x4096.Idx) ∉ (Rect.unit (s := S280x4096) ![24, 0] S256x4096.size (by decide)).set := fun hm => by
  have h0 := (Rect.mem_set_unit (inb := by decide)).mp hm 0
  have : 24 ≤ q.val := h0.1
  omega

/-- The projection, where it was stored. -/
theorem canonP (L : List (View.Piece (Elt Ideal) S280x4096 .f32)) (q : Fin 280) (l : Fin 4096) (h : ¬ q.val < 24) :
    View.canon (⟨Rect.unit (s := S280x4096) ![24, 0] S256x4096.size (by decide), p⟩ :: L) (ix2 q l) = p (ix2 ⟨q.val - 24, by omega⟩ l) := by
  have e : (ix2 q l : S280x4096.Idx) = (Rect.unit (s := S280x4096) ![24, 0] S256x4096.size (by decide)).emb (ix2 ⟨q.val - 24, by omega⟩ l) := by
    rw [embP]
    exact congrArg (fun q : Fin 280 => (ix2 q l : S280x4096.Idx)) (Fin.ext (by show q.val = 24 + (q.val - 24); omega))
  rw [e]
  exact View.canon_cons_emb (Val := Elt Ideal) (e := .f32) (Rect.unit (s := S280x4096) ![24, 0] S256x4096.size (by decide)) p L (ix2 (⟨q.val - 24, by omega⟩ : Fin 256) l)

theorem extA_at (q : Fin 280) (l : Fin 4096) :
    View.canon (extA (F := Ideal) p) (ix2 q l) = if h : q.val < 24 then 0 else p (ix2 ⟨q.val - 24, by omega⟩ l) := by
  by_cases h : q.val < 24
  · rw [dif_pos h]
    refine (View.canon_cons_of_not_mem (Val := Elt Ideal) (⟨Rect.unit (s := S280x4096) ![24, 0] S256x4096.size (by decide), p⟩ : View.Piece (Elt Ideal) S280x4096 .f32)
      [(⟨Rect.unit (s := S280x4096) ![0, 0] S24x4096.size (by decide), k0_pay2 (F := Ideal)⟩ : View.Piece (Elt Ideal) S280x4096 .f32)] (notP q l h)).trans ?_
    have e : (ix2 q l : S280x4096.Idx) = (Rect.unit (s := S280x4096) ![0, 0] S24x4096.size (by decide)).emb (ix2 ⟨q.val, h⟩ l) := (embZ ⟨q.val, h⟩ l).symm
    rw [e]
    exact (View.canon_cons_emb (Val := Elt Ideal) (e := .f32) (Rect.unit (s := S280x4096) ![0, 0] S24x4096.size (by decide)) (k0_pay2 (F := Ideal)) [] (ix2 ⟨q.val, h⟩ l)).trans (zeros_at ⟨q.val, h⟩ l)
  · rw [dif_neg h]
    exact canonP p _ q l h

theorem inP (q : Fin 280) (l : Fin 4096) (h : ¬ q.val < 24) : (ix2 q l : S280x4096.Idx) ∈ (Rect.unit (s := S280x4096) ![24, 0] S256x4096.size (by decide)).set := by
  refine (Rect.mem_set_unit (inb := by decide)).mpr fun a => ?_
  fin_cases a
  · show 24 ≤ q.val ∧ q.val < 24 + 256; omega
  · show 0 ≤ l.val ∧ l.val < 0 + 4096; omega

theorem extB_at (q : Fin 280) (l : Fin 4096) :
    arg13.view.read (Elt Ideal) (arg13.view.writes (Elt Ideal) (harg13.unread xs) (extB (F := Ideal) p)) (ix2 q l)
      = if h : q.val < 24 then xs (ix2 q l) else p (ix2 ⟨q.val - 24, by omega⟩ l) := by
  by_cases h : q.val < 24
  · rw [dif_pos h]
    refine (View.read_writes_apply_of_forall_not_mem (Val := Elt Ideal) (v := arg13.view) (f := harg13.unread xs) (ix2 q l) (extB (F := Ideal) p) fun pc hp => ?_).trans
      (congrFun (harg13.read_unread (Val := Elt Ideal) xs) (ix2 q l))
    have hp' : pc = ⟨(Rect.unit (s := S280x4096) ![24, 0] S256x4096.size (by decide)), p⟩ := List.mem_singleton.mp hp
    subst hp'
    exact notP q l h
  · rw [dif_neg h]
    exact (View.read_writes_apply_eq_canon (Val := Elt Ideal) arg13.view (harg13.unread xs) (ix2 q l) (extB (F := Ideal) p)
      ⟨⟨(Rect.unit (s := S280x4096) ![24, 0] S256x4096.size (by decide)), p⟩, List.mem_singleton.mpr rfl, inP q l h⟩).trans (canonP p [] q l h)

theorem idxE (j : Fin 4) (r : Fin 256) (l : Fin 4096) :
    (Rect.unit (s := S280x4096) ![8 * j.val, 0] S256x4096.size (inbE j)).toLoadRect.idx (ix2 r l) = (ix2 ⟨8 * j.val + r.val, by omega⟩ l : S280x4096.Idx) := by
  refine funext fun a => Fin.ext ?_
  fin_cases a
  · show 8 * j.val + 1 * r.val = 8 * j.val + r.val; omega
  · show 0 + 1 * l.val = l.val; omega

theorem rowsA_at (j : Fin 4) (r : Fin 256) (l : Fin 4096) :
    rowsA (F := Ideal) arg13 p j (ix2 r l) = if h : 8 * j.val + r.val < 24 then 0 else p (ix2 ⟨8 * j.val + r.val - 24, by omega⟩ l) := by
  unfold rowsA
  rw [View.readCov_eq_canon']
  exact (congrArg (View.canon (extA (F := Ideal) p)) (idxE j r l)).trans (extA_at p _ l)

theorem rowsB_at (j : Fin 4) (r : Fin 256) (l : Fin 4096) :
    rowsB (F := Ideal) arg13 harg13 xs p j (ix2 r l)
      = if h : 8 * j.val + r.val < 24 then xs (ix2 ⟨8 * j.val + r.val, by omega⟩ l) else p (ix2 ⟨8 * j.val + r.val - 24, by omega⟩ l) := by
  have lo : ∀ j : Fin 4, View.readAt (Elt Ideal) arg13.view (Rect.unit (s := S280x4096) ![8 * j.val, 0] S256x4096.size (inbE j)).toLoadRect
      (arg13.view.writes (Elt Ideal) (harg13.unread xs) (extB (F := Ideal) p)) (ix2 r l)
        = if h : 8 * j.val + r.val < 24 then xs (ix2 ⟨8 * j.val + r.val, by omega⟩ l) else p (ix2 ⟨8 * j.val + r.val - 24, by omega⟩ l) := fun j =>
    (congrArg (arg13.view.read (Elt Ideal) (arg13.view.writes (Elt Ideal) (harg13.unread xs) (extB (F := Ideal) p))) (idxE j r l)).trans
      (extB_at arg13 harg13 xs p _ l)
  match j with
  | 0 => exact lo 0
  | 1 => exact lo 1
  | 2 => exact lo 2
  | 3 =>
    rw [dif_neg (by show ¬ 8 * 3 + r.val < 24; omega)]
    show arg13.view.readCov (extB (F := Ideal) p) (Rect.unit (s := S280x4096) ![8 * (3 : Fin 4).val, 0] S256x4096.size (inbE 3)).toLoadRect (ix2 r l) = _
    rw [View.readCov_eq_canon']
    exact (congrArg (View.canon (extB (F := Ideal) p)) (idxE 3 r l)).trans (canonP p [] _ l (by show ¬ 8 * 3 + r.val < 24; omega))

/-- The rows kept for the next point are the projection's last 24. -/
theorem keep_at (L : List (View.Piece (Elt Ideal) S280x4096 .f32)) (q : Fin 280) (l : Fin 4096) (h : q.val < 24) :
    View.canon (keep (F := Ideal) arg13 (⟨Rect.unit (s := S280x4096) ![24, 0] S256x4096.size (by decide), p⟩ :: L)) (ix2 q l) = p (ix2 ⟨232 + q.val, by omega⟩ l) := by
  have e : (ix2 q l : S280x4096.Idx) = (Rect.unit (s := S280x4096) ![0, 0] S24x4096.size (by decide)).emb (ix2 ⟨q.val, h⟩ l) := (embZ ⟨q.val, h⟩ l).symm
  unfold keep
  rw [e]
  have k := View.canon_cons_emb (Val := Elt Ideal) (e := .f32) (Rect.unit (s := S280x4096) ![0, 0] S24x4096.size (by decide))
    (k0_pay5 (F := Ideal) (arg13.view.readCov (⟨(Rect.unit (s := S280x4096) ![24, 0] S256x4096.size (by decide)), p⟩ :: L) (Rect.unit (s := S280x4096) ![256, 0] S24x4096.size (by decide)).toLoadRect))
    (⟨(Rect.unit (s := S280x4096) ![24, 0] S256x4096.size (by decide)), p⟩ :: L) (ix2 (⟨q.val, h⟩ : Fin 24) l)
  refine k.trans ((kept_at _ ⟨q.val, h⟩ l).trans ?_)
  rw [View.readCov_eq_canon']
  have e' : (Rect.unit (s := S280x4096) ![256, 0] S24x4096.size (by decide)).toLoadRect.idx (ix2 (⟨q.val, h⟩ : Fin 24) l) = (ix2 ⟨256 + q.val, by omega⟩ l : S280x4096.Idx) := by
    refine funext fun a => Fin.ext ?_
    fin_cases a
    · show 256 + 1 * q.val = 256 + q.val; omega
    · show 0 + 1 * l.val = l.val; omega
  refine (congrArg (View.canon _) e').trans ((canonP p L _ l (by show ¬ 256 + q.val < 24; omega)).trans ?_)
  exact congrArg (fun q : Fin 256 => p (ix2 q l)) (Fin.ext (by show 256 + q.val - 24 = 232 + q.val; omega))

/-! ## What a point leaves -/

/-- The activations of a point. -/
theorem acts_at (e : Fin 4 → FVec Ideal S256x4096 .f32) (r : Fin 256) (l : Fin 4096) :
    act (F := Ideal) arg7 harg7 x6 e (ix2 r l) = silu (taps (fun j => x6 (ix2 j l)) fun j => e j (ix2 r l)) := by
  unfold act taps
  rw [act_at]
  simp only [tap_at]

theorem actsA (r : Fin 256) (l : Fin 4096) :
    act (F := Ideal) arg7 harg7 x6 (rowsA arg13 (proj arg1 harg1 arg2 harg2 arg3 harg3 arg4 harg4 arg5 harg5 x0 x1 x2 x3 x4)) (ix2 r l) = bact x0 x1 x2 x3 x4 x6 (fun _ _ => 0) r l := by
  rw [acts_at]
  unfold bact bpast
  simp only [rowsA_at, projection_at]

theorem actsB (r : Fin 256) (l : Fin 4096) :
    act (F := Ideal) arg7 harg7 x6 (rowsB arg13 harg13 xs (proj arg1 harg1 arg2 harg2 arg3 harg3 arg4 harg4 arg5 harg5 x0 x1 x2 x3 x4)) (ix2 r l)
      = bact x0 x1 x2 x3 x4 x6 (fun q l => xs (ix2 ⟨q.val, by omega⟩ l)) r l := by
  rw [acts_at]
  unfold bact bpast
  simp only [rowsB_at, projection_at]

variable (c : Dev nD) (i : grid0.Coords) (arg9 : Memref sig .tc .vmem S32x8192 .bf16) (harg9 : arg9.IsWhole) (arg10 : Memref sig .tc .vmem S32x8192 .bf16) (harg10 : arg10.IsWhole) (arg11 : Memref sig .tc .vmem S32x16384 .bf16) (harg11 : arg11.IsWhole) (arg12 : Memref sig .tc .vmem S32x1024 .f32) (harg12 : arg12.IsWhole) (arg14 : Memref sig .tc .vmem S33x256x128 .f32) (harg14 : arg14.IsWhole)

theorem blockQA (hc0 : cond0_0 i) (r : Fin 32) (n : Fin 8192) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r n)
      = held (bact x0 x1 x2 x3 x4 x6 (fun _ _ => 0)) (bgate x0 x1 x2 x3 x5 x7) ⟨n.val % 1024 / 128, by omega⟩ ⟨n.val / 1024 + 8 * r.val, by omega⟩ ⟨n.val % 128, by omega⟩ := by
  unfold out0_A_8
  rw [View.read_writes_junk_eq_canon, piecesQA]
  unfold slabsA
  rw [outQ_at]
  simp only [actsA, gates_at]

theorem blockKA (hc0 : cond0_0 i) (r : Fin 32) (n : Fin 8192) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r n)
      = held (bact x0 x1 x2 x3 x4 x6 (fun _ _ => 0)) (bgate x0 x1 x2 x3 x5 x7) ⟨8 + n.val % 1024 / 128, by omega⟩ ⟨n.val / 1024 + 8 * r.val, by omega⟩ ⟨n.val % 128, by omega⟩ := by
  unfold out0_A_9
  rw [View.read_writes_junk_eq_canon, piecesKA]
  unfold slabsA
  rw [outK_at]
  simp only [actsA, gates_at]

theorem blockVA (hc0 : cond0_0 i) (r : Fin 32) (n : Fin 16384) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r n)
      = held (bact x0 x1 x2 x3 x4 x6 (fun _ _ => 0)) (bgate x0 x1 x2 x3 x5 x7) ⟨16 + n.val % 2048 / 128, by omega⟩ ⟨n.val / 2048 + 8 * r.val, by omega⟩ ⟨n.val % 128, by omega⟩ := by
  unfold out0_A_10
  rw [View.read_writes_junk_eq_canon, piecesVA]
  unfold slabsA
  rw [outV_at]
  simp only [actsA, gates_at]

theorem blockGA (hc0 : cond0_0 i) (r : Fin 32) (n : Fin 1024) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 r n)
      = held (bact x0 x1 x2 x3 x4 x6 (fun _ _ => 0)) (bgate x0 x1 x2 x3 x5 x7) 32 ⟨n.val / 128 + 8 * r.val, by omega⟩ ⟨n.val % 128, by omega⟩ := by
  unfold out0_A_11
  rw [View.read_writes_junk_eq_canon, piecesGA]
  unfold slabsA
  rw [outG_at]
  simp only [actsA, gates_at]

theorem keptA (hc0 : cond0_0 i) (q : Fin 24) (l : Fin 4096) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 ⟨q.val, by omega⟩ l) = bproj x0 x1 x2 x3 x4 ⟨232 + q.val, by omega⟩ l := by
  unfold sout0_A_0
  rw [View.read_writes_junk_eq_canon, keepA]
  unfold extA
  rw [keep_at _ _ _ _ _ q.isLt, projection_at]

theorem blockQB (hc0 : ¬cond0_0 i) (r : Fin 32) (n : Fin 8192) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs (ix2 r n)
      = held (bact x0 x1 x2 x3 x4 x6 (fun q l => xs (ix2 ⟨q.val, by omega⟩ l))) (bgate x0 x1 x2 x3 x5 x7) ⟨n.val % 1024 / 128, by omega⟩ ⟨n.val / 1024 + 8 * r.val, by omega⟩ ⟨n.val % 128, by omega⟩ := by
  unfold out0_B_8
  rw [View.read_writes_junk_eq_canon, piecesQB]
  unfold slabsB
  rw [outQ_at]
  simp only [actsB, gates_at]

theorem blockKB (hc0 : ¬cond0_0 i) (r : Fin 32) (n : Fin 8192) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs (ix2 r n)
      = held (bact x0 x1 x2 x3 x4 x6 (fun q l => xs (ix2 ⟨q.val, by omega⟩ l))) (bgate x0 x1 x2 x3 x5 x7) ⟨8 + n.val % 1024 / 128, by omega⟩ ⟨n.val / 1024 + 8 * r.val, by omega⟩ ⟨n.val % 128, by omega⟩ := by
  unfold out0_B_9
  rw [View.read_writes_junk_eq_canon, piecesKB]
  unfold slabsB
  rw [outK_at]
  simp only [actsB, gates_at]

theorem blockVB (hc0 : ¬cond0_0 i) (r : Fin 32) (n : Fin 16384) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs (ix2 r n)
      = held (bact x0 x1 x2 x3 x4 x6 (fun q l => xs (ix2 ⟨q.val, by omega⟩ l))) (bgate x0 x1 x2 x3 x5 x7) ⟨16 + n.val % 2048 / 128, by omega⟩ ⟨n.val / 2048 + 8 * r.val, by omega⟩ ⟨n.val % 128, by omega⟩ := by
  unfold out0_B_10
  rw [View.read_writes_junk_eq_canon, piecesVB]
  unfold slabsB
  rw [outV_at]
  simp only [actsB, gates_at]

theorem blockGB (hc0 : ¬cond0_0 i) (r : Fin 32) (n : Fin 1024) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs (ix2 r n)
      = held (bact x0 x1 x2 x3 x4 x6 (fun q l => xs (ix2 ⟨q.val, by omega⟩ l))) (bgate x0 x1 x2 x3 x5 x7) 32 ⟨n.val / 128 + 8 * r.val, by omega⟩ ⟨n.val % 128, by omega⟩ := by
  unfold out0_B_11
  rw [View.read_writes_junk_eq_canon, piecesGB]
  unfold slabsB
  rw [outG_at]
  simp only [actsB, gates_at]

theorem keptB (hc0 : ¬cond0_0 i) (q : Fin 24) (l : Fin 4096) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs (ix2 ⟨q.val, by omega⟩ l) = bproj x0 x1 x2 x3 x4 ⟨232 + q.val, by omega⟩ l := by
  unfold sout0_B_0
  rw [View.read_writes_junk_eq_canon, keepB]
  unfold extB
  rw [keep_at _ _ _ _ _ q.isLt, projection_at]

end

end Cert.Kernel5Ideal.Gen.GdnIn
-- ==== Proof.GdnInArrays.lean ====
/- The delta rule's input call: its four arrays hold, at every time, the row formulas of Proof/Conv.lean. A point keeps its last 24
   rows for the next, so a tap reads the projection of rows before the point's own. -/
module

public import proofs.«01_k».proof.Proof.GdnInPoint

@[expose] public section

noncomputable section

namespace Cert.Kernel5Ideal.Gen.GdnIn

open Idealize.ShloMosaic Idealize.ShloMosaic.TcCoe Idealize.SL.Sem
open Gates (rms taps silu unit hrow pr past wgate pgate queries keys values gates)

section

variable (m : (ℓ : Loc nD τ sig) → Buf (Elt Ideal) ℓ) (c : Dev nD)

def kX (r : Fin 32768) (n : Fin 1024) : EReal := m ((c : Thread nD τ).loc main_arg0) (ix2 r n)
def kN (n : Fin 1024) : EReal := m ((c : Thread nD τ).loc main_arg1) (ix1 n)
def kSc (b : Fin 8) (n : Fin 1024) : EReal := m ((c : Thread nD τ).loc main_arg2) (ix2 ⟨8 + b.val, by omega⟩ ⟨1024 + n.val, by omega⟩)
def kSh (b : Fin 8) (n : Fin 1024) : EReal := m ((c : Thread nD τ).loc main_arg2) (ix2 ⟨8 + b.val, by omega⟩ ⟨n.val, by omega⟩)
def kW (k : Fin 1024) (l : Fin 6160) : EReal := m ((c : Thread nD τ).loc main_arg3) (ix2 k l)
def kC (j : Fin 4) (l : Fin 4096) : EReal := m ((c : Thread nD τ).loc main_arg4) (ix2 j l)
def kL (l : Fin 8) : EReal := m ((c : Thread nD τ).loc main_arg5) (ix1 l)
def kD (l : Fin 8) : EReal := m ((c : Thread nD τ).loc main_arg6) (ix1 l)

/-- The projection, the gates' projection and the activations, at every row. -/
def kP (r : Fin 32768) (l : Fin 4096) : EReal := pr (kX m c) (kN m c) (kSc m c) (kSh m c) (fun k (l : Fin 4096) => kW m c k ⟨l.val, by omega⟩) r l
def kG (r : Fin 32768) (l : Fin 128) : EReal := pr (kX m c) (kN m c) (kSc m c) (kSh m c) (wgate (kW m c)) r l
def kA (r : Fin 32768) (l : Fin 4096) : EReal := Gates.act (kP m c) (kC m c) r l

/-! ## The arrays the host code prepares: a row of weights, and weights and parameters cut and padded with zeros -/

theorem V_n : V m c main_v9 = (shapeCast S1x1024 (m ((c : Thread nD τ).loc main_arg1) : FVec Ideal S1024 .f32) shapeCasts_S1024_S1x1024 : FVec Ideal S1x1024 .f32) := by
  show StableHlo.after (List.flatten [hostOps0, hostOps0_1, hostOps0_2, hostOps0_3, hostOps0_4]) _ (Proc.devRef .tc main_v9) = _
  simp only [hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  rfl

theorem V_w : V m c main_v1 = (truncf .bf16 (extractStridedSlice S1024x4096 ![0, 0] (m ((c : Thread nD τ).loc main_arg3) : FVec Ideal S1024x6160 .f32) slices_S1024x6160_S1024x4096_0_0 : FVec Ideal S1024x4096 .f32) bitsLt_bf16_f32 : FVec Ideal S1024x4096 .bf16) := by
  show StableHlo.after (List.flatten [hostOps0, hostOps0_1, hostOps0_2, hostOps0_3, hostOps0_4]) _ (Proc.devRef .tc main_v1) = _
  simp only [hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results

/-- The gates' weights, and their parameters. -/
def gw (x : FVec Ideal S1024x6160 .f32) : FVec Ideal S1024x128 .bf16 :=
  truncf .bf16 (pad S1024x128 ![0, 0] ![0, 112] ![0, 0] (extractStridedSlice S1024x16 ![0, 6144] x slices_S1024x6160_S1024x16_0_6144)
    (sitofp (F := Ideal) .f32 (constantI S_ 32 0#32)) pads_S1024x16_S1024x128_000_01120 h_S_ : FVec Ideal S1024x128 .f32) bitsLt_bf16_f32

def gp (a b : FVec Ideal S8 .f32) : FVec Ideal S2x128 .f32 :=
  pad S2x128 ![0, 8] ![0, 112] ![0, 0] (concatenate S2x8 0 [⟨S1x8, broadcastInDim S1x8 ![1] bcast_S8_S1x8_1 a⟩, ⟨S1x8, broadcastInDim S1x8 ![1] bcast_S8_S1x8_1 b⟩] concatenates_S1x8_S1x8_S2x8_d0)
    (sitofp (F := Ideal) .f32 (constantI S_ 32 0#32)) pads_S2x8_S2x128_000_81120 h_S_

theorem V_g : V m c main_v4 = gw (m ((c : Thread nD τ).loc main_arg3)) := by
  show StableHlo.after (List.flatten [hostOps0, hostOps0_1, hostOps0_2, hostOps0_3, hostOps0_4]) _ (Proc.devRef .tc main_v4) = _
  simp only [hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  rfl

theorem V_p : V m c main_v8 = gp (m ((c : Thread nD τ).loc main_arg5)) (m ((c : Thread nD τ).loc main_arg6)) := by
  show StableHlo.after (List.flatten [hostOps0, hostOps0_1, hostOps0_2, hostOps0_3, hostOps0_4]) _ (Proc.devRef .tc main_v8) = _
  simp only [hostOps0, hostOps0_1, hostOps0_2, hostOps0_3, hostOps0_4, List.flatten_cons, List.flatten_nil, List.append_nil, List.cons_append, List.nil_append,
    StableHlo.TRef.unary, StableHlo.TRef.binary, StableHlo.TRef.toBuf, StableHlo.TRef.ofBuf, cast_eq]
  after_results
  rfl

theorem row1 (x : FVec Ideal S1024 .f32) (n : Fin 1024) : (shapeCast S1x1024 x shapeCasts_S1024_S1x1024 : FVec Ideal S1x1024 .f32) (ix2 0 n) = x (ix1 n) := by
  pointwise

theorem cut_at (x : FVec Ideal S1024x6160 .f32) (k : Fin 1024) (l : Fin 4096) :
    (truncf .bf16 (extractStridedSlice S1024x4096 ![0, 0] x slices_S1024x6160_S1024x4096_0_0 : FVec Ideal S1024x4096 .f32) bitsLt_bf16_f32 : FVec Ideal S1024x4096 .bf16) (ix2 k l) = x (ix2 k ⟨l.val, by omega⟩) := by
  pointwise

theorem zero_word : (FloatOps.sitofp .f32 0#32 : Ideal .f32) = (0 : EReal) := by
  show ((((0#32 : BitVec 32).toInt : ℤ) : ℝ) : EReal) = 0
  simp

theorem gw_at (x : FVec Ideal S1024x6160 .f32) (k : Fin 1024) (l : Fin 128) : gw x (ix2 k l) = wgate (fun k l => x (ix2 k l)) k l := by
  pointwise [gw, wgate]
  simp only [zero_word]

theorem pad8 (a : Fin 8 → EReal) (l : Fin 128) :
    (if h : 8 ≤ l.val ∧ l.val - 8 < 8 then a ⟨l.val - 8, h.2⟩ else 0) = if h : 8 ≤ l.val ∧ l.val < 16 then a ⟨l.val - 8, by omega⟩ else 0 := by
  by_cases h : 8 ≤ l.val ∧ l.val < 16
  · have h' : 8 ≤ l.val ∧ l.val - 8 < 8 := ⟨h.1, by omega⟩
    rw [dif_pos h, dif_pos h']
  · have h' : ¬ (8 ≤ l.val ∧ l.val - 8 < 8) := fun h' => h ⟨h'.1, by omega⟩
    rw [dif_neg h, dif_neg h']

theorem gp_at (a b : FVec Ideal S8 .f32) (l : Fin 128) :
    gp a b (ix2 0 l) = pgate (fun l => a (ix1 l)) l ∧ gp a b (ix2 1 l) = pgate (fun l => b (ix1 l)) l := by
  constructor
  · pointwise [gp, pgate]
    simp only [zero_word]
    exact pad8 (fun l => a (ix1 l)) l
  · pointwise [gp, pgate]
    simp only [zero_word]
    exact pad8 (fun l => b (ix1 l)) l

/-! ## The blocks of a point -/

theorem ix_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 1 ∧ win0_2.index t (1 : Fin 2) = 1)
    ∧ (win0_3.index t (0 : Fin 2) = 1 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

theorem N128 (t : Fin cfg0.N) : t.val < 128 := by have := t.isLt; have : cfg0.N = 128 := N_0; omega

/-- Row `r` of the rows of point `t`, and time `r` of its times. -/
def row (t : Fin cfg0.N) (r : Fin 256) : Fin 32768 := ⟨256 * t.val + r.val, by have := N128 t; omega⟩
def time (t : Fin cfg0.N) (r : Fin 32) : Fin 4096 := ⟨32 * t.val + r.val, by have := N128 t; omega⟩

theorem blk_x (t : Fin cfg0.N) (r : Fin 256) (n : Fin 1024) : iblk m c 0 t (ix2 r n) = kX m c (row t r) n := by
  unfold iblk kX
  rw [show V m c (Pipeline.arrRef spec0 0) = m ((c : Thread nD τ).loc main_arg0) from V_main_arg0 m c]
  refine congrArg (m ((c : Thread nD τ).loc main_arg0)) (funext fun a => Fin.ext ?_)
  obtain ⟨⟨e0, e1⟩, -⟩ := ix_facts t
  fin_cases a
  · show win0_0.index t (0 : Fin 2) * 256 + 1 * r.val = 256 * t.val + r.val; omega
  · show win0_0.index t (1 : Fin 2) * 1024 + 1 * n.val = n.val; omega

theorem blk_n (t : Fin cfg0.N) (n : Fin 1024) : iblk m c 1 t (ix2 0 n) = kN m c n := by
  refine Eq.trans (congrArg (V m c main_v9) (funext fun a => Fin.ext ?_ : ((cfg0.win 1).blk t).view.emb (ix2 0 n) = (ix2 0 n : S1x1024.Idx))) ((congrFun (V_n m c) _).trans (row1 _ n))
  obtain ⟨-, ⟨e0, e1⟩, -⟩ := ix_facts t
  fin_cases a
  · show win0_1.index t (0 : Fin 2) * 1 + 1 * 0 = 0; omega
  · show win0_1.index t (1 : Fin 2) * 1024 + 1 * n.val = n.val; omega

theorem blk_sc (t : Fin cfg0.N) (b : Fin 8) (n : Fin 1024) : iblk m c 2 t (ix2 b n) = kSc m c b n := by
  unfold iblk kSc
  rw [show V m c (Pipeline.arrRef spec0 2) = m ((c : Thread nD τ).loc main_arg2) from V_main_arg2 m c]
  refine congrArg (m ((c : Thread nD τ).loc main_arg2)) (funext fun a => Fin.ext ?_)
  obtain ⟨-, -, ⟨e0, e1⟩, -⟩ := ix_facts t
  fin_cases a
  · show win0_2.index t (0 : Fin 2) * 8 + 1 * b.val = 8 + b.val; omega
  · show win0_2.index t (1 : Fin 2) * 1024 + 1 * n.val = 1024 + n.val; omega

theorem blk_sh (t : Fin cfg0.N) (b : Fin 8) (n : Fin 1024) : iblk m c 3 t (ix2 b n) = kSh m c b n := by
  unfold iblk kSh
  rw [show V m c (Pipeline.arrRef spec0 3) = m ((c : Thread nD τ).loc main_arg2) from V_main_arg2 m c]
  refine congrArg (m ((c : Thread nD τ).loc main_arg2)) (funext fun a => Fin.ext ?_)
  obtain ⟨-, -, -, ⟨e0, e1⟩, -⟩ := ix_facts t
  fin_cases a
  · show win0_3.index t (0 : Fin 2) * 8 + 1 * b.val = 8 + b.val; omega
  · show win0_3.index t (1 : Fin 2) * 1024 + 1 * n.val = n.val; omega

theorem blk_w (t : Fin cfg0.N) (k : Fin 1024) (l : Fin 4096) : iblk m c 4 t (ix2 k l) = kW m c k ⟨l.val, by omega⟩ := by
  refine Eq.trans (congrArg (V m c main_v1) (funext fun a => Fin.ext ?_ : ((cfg0.win 4).blk t).view.emb (ix2 k l) = (ix2 k l : S1024x4096.Idx))) ((congrFun (V_w m c) _).trans (cut_at _ k l))
  obtain ⟨-, -, -, -, ⟨e0, e1⟩, -⟩ := ix_facts t
  fin_cases a
  · show win0_4.index t (0 : Fin 2) * 1024 + 1 * k.val = k.val; omega
  · show win0_4.index t (1 : Fin 2) * 4096 + 1 * l.val = l.val; omega

theorem blk_g (t : Fin cfg0.N) (k : Fin 1024) (l : Fin 128) : iblk m c 5 t (ix2 k l) = wgate (kW m c) k l := by
  refine Eq.trans (congrArg (V m c main_v4) (funext fun a => Fin.ext ?_ : ((cfg0.win 5).blk t).view.emb (ix2 k l) = (ix2 k l : S1024x128.Idx))) ((congrFun (V_g m c) _).trans (gw_at _ k l))
  obtain ⟨-, -, -, -, -, ⟨e0, e1⟩, -⟩ := ix_facts t
  fin_cases a
  · show win0_5.index t (0 : Fin 2) * 1024 + 1 * k.val = k.val; omega
  · show win0_5.index t (1 : Fin 2) * 128 + 1 * l.val = l.val; omega

theorem blk_c (t : Fin cfg0.N) (j : Fin 4) (l : Fin 4096) : iblk m c 6 t (ix2 j l) = kC m c j l := by
  unfold iblk kC
  rw [show V m c (Pipeline.arrRef spec0 6) = m ((c : Thread nD τ).loc main_arg4) from V_main_arg4 m c]
  refine congrArg (m ((c : Thread nD τ).loc main_arg4)) (funext fun a => Fin.ext ?_)
  obtain ⟨-, -, -, -, -, -, ⟨e0, e1⟩, -⟩ := ix_facts t
  fin_cases a
  · show win0_6.index t (0 : Fin 2) * 4 + 1 * j.val = j.val; omega
  · show win0_6.index t (1 : Fin 2) * 4096 + 1 * l.val = l.val; omega

theorem blk_p (t : Fin cfg0.N) (j : Fin 2) (l : Fin 128) : iblk m c 7 t (ix2 j l) = gp (m ((c : Thread nD τ).loc main_arg5)) (m ((c : Thread nD τ).loc main_arg6)) (ix2 j l) := by
  refine Eq.trans (congrArg (V m c main_v8) (funext fun a => Fin.ext ?_ : ((cfg0.win 7).blk t).view.emb (ix2 j l) = (ix2 j l : S2x128.Idx))) (congrFun (V_p m c) _)
  obtain ⟨-, -, -, -, -, -, -, ⟨e0, e1⟩, -⟩ := ix_facts t
  fin_cases a
  · show win0_7.index t (0 : Fin 2) * 2 + 1 * j.val = j.val; omega
  · show win0_7.index t (1 : Fin 2) * 128 + 1 * l.val = l.val; omega

/-! ## A point's values are the arrays' -/

theorem hid_blk (t : Fin cfg0.N) (r : Fin 256) (k : Fin 1024) :
    bhid (iblk m c 0 t) (iblk m c 1 t) (iblk m c 2 t) (iblk m c 3 t) r k = hrow (kX m c) (kN m c) (kSc m c) (kSh m c) (row t r) k := by
  have e : (row t r).val % 8 = r.val % 8 := by show (256 * t.val + r.val) % 8 = r.val % 8; omega
  unfold bhid hrow
  simp only [blk_x, blk_n, blk_sc, blk_sh, e]

theorem proj_blk (t : Fin cfg0.N) (r : Fin 256) (l : Fin 4096) :
    bproj (iblk m c 0 t) (iblk m c 1 t) (iblk m c 2 t) (iblk m c 3 t) (iblk m c 4 t) r l = kP m c (row t r) l := by
  unfold bproj kP pr
  simp only [hid_blk, blk_w]

theorem gate_blk (t : Fin cfg0.N) (r : Fin 256) (l : Fin 128) :
    bgate (iblk m c 0 t) (iblk m c 1 t) (iblk m c 2 t) (iblk m c 3 t) (iblk m c 5 t) (iblk m c 7 t) r l
      = Gates.lane (pgate (kL m c)) (pgate (kD m c)) (kG m c (row t r)) l := by
  have e0 : (fun l => iblk m c 7 t (ix2 0 l)) = pgate (kL m c) := funext fun l => (blk_p m c t 0 l).trans (gp_at _ _ l).1
  have e1 : (fun l => iblk m c 7 t (ix2 1 l)) = pgate (kD m c) := funext fun l => (blk_p m c t 1 l).trans (gp_at _ _ l).2
  have e2 : (fun l => blogit (iblk m c 0 t) (iblk m c 1 t) (iblk m c 2 t) (iblk m c 3 t) (iblk m c 5 t) r l) = kG m c (row t r) := funext fun l => by
    unfold blogit kG pr
    simp only [hid_blk, blk_g]
  unfold bgate
  rw [e0, e1, e2]

/-- The rows a point keeps are the projection of its last 24. -/
theorem kept (t : Fin cfg0.N) (q : Fin 24) (l : Fin 4096) :
    (outsAt0 m c t.val t.isLt).2.2.2.2 (ix2 ⟨q.val, by omega⟩ l) = kP m c (row t ⟨232 + q.val, by omega⟩) l := by
  by_cases h : t.val % 128 = 0
  · rw [outsAt0_A m c t h]
    dsimp only
    rw [keptA]
    exact proj_blk m c t _ l
  · rw [outsAt0_B m c t h]
    dsimp only
    rw [keptB]
    exact proj_blk m c t _ l

/-- At the first point there are no rows before; -/
theorem act_first (t : Fin cfg0.N) (h : t.val % 128 = 0) (r : Fin 256) (l : Fin 4096) :
    bact (iblk m c 0 t) (iblk m c 1 t) (iblk m c 2 t) (iblk m c 3 t) (iblk m c 4 t) (iblk m c 6 t) (fun _ _ => 0) r l = kA m c (row t r) l := by
  have ht : t.val = 0 := by have := N128 t; omega
  have e : ∀ j : Fin 4, bpast (iblk m c 0 t) (iblk m c 1 t) (iblk m c 2 t) (iblk m c 3 t) (iblk m c 4 t) (fun _ _ => 0) j r l = past (kP m c) j (row t r) l := fun j => by
    have hr : (row t r).val = r.val := by show 256 * t.val + r.val = r.val; omega
    have hn : 8 * j.val + r.val < 24 → ¬ 24 ≤ (row t r).val + 8 * j.val := by omega
    unfold bpast past
    by_cases h' : 8 * j.val + r.val < 24
    · rw [dif_pos h', dif_neg (hn h')]
    · refine (dif_neg h').trans (Eq.trans ?_ (dif_pos (by omega)).symm)
      rw [proj_blk]
      exact congrArg (fun q => kP m c q l) (Fin.ext (by show 256 * t.val + (8 * j.val + r.val - 24) = (row t r).val + 8 * j.val - 24; omega))
  unfold bact kA Gates.act
  simp only [e, blk_c]

/-- at a later one they are those the point before kept. -/
theorem act_next (t s : Fin cfg0.N) (h : t.val = s.val + 1) (r : Fin 256) (l : Fin 4096) :
    bact (iblk m c 0 t) (iblk m c 1 t) (iblk m c 2 t) (iblk m c 3 t) (iblk m c 4 t) (iblk m c 6 t)
      (fun q l => (outsAt0 m c s.val s.isLt).2.2.2.2 (ix2 ⟨q.val, by omega⟩ l)) r l = kA m c (row t r) l := by
  have e : ∀ j : Fin 4, bpast (iblk m c 0 t) (iblk m c 1 t) (iblk m c 2 t) (iblk m c 3 t) (iblk m c 4 t)
      (fun q l => (outsAt0 m c s.val s.isLt).2.2.2.2 (ix2 ⟨q.val, by omega⟩ l)) j r l = past (kP m c) j (row t r) l := fun j => by
    have hr : (row t r).val = 256 * t.val + r.val := rfl
    unfold bpast past
    by_cases h' : 8 * j.val + r.val < 24
    · refine (dif_pos h').trans (Eq.trans ?_ (dif_pos (by omega)).symm)
      refine (kept m c s ⟨8 * j.val + r.val, h'⟩ l).trans ?_
      exact congrArg (fun q => kP m c q l) (Fin.ext (by show 256 * s.val + (232 + (8 * j.val + r.val)) = (row t r).val + 8 * j.val - 24; omega))
    · refine (dif_neg h').trans (Eq.trans ?_ (dif_pos (by omega)).symm)
      rw [proj_blk]
      exact congrArg (fun q => kP m c q l) (Fin.ext (by show 256 * t.val + (8 * j.val + r.val - 24) = (row t r).val + 8 * j.val - 24; omega))
  unfold bact kA Gates.act
  simp only [e, blk_c]

/-! ## The slabs at a point's rows, and the four results -/

/-- The slabs over the activations and gates of the whole arrays. -/
def whole (t : Fin cfg0.N) : Fin 33 → Fin 256 → Fin 128 → EReal :=
  held (fun q l => kA m c (row t q) l) (fun q l => Gates.lane (pgate (kL m c)) (pgate (kD m c)) (kG m c (row t q)) l)

theorem atQ (t : Fin cfg0.N) (r : Fin 32) (n : Fin 8192) :
    (outsAt0 m c t.val t.isLt).1 (ix2 r n) = whole m c t ⟨n.val % 1024 / 128, by omega⟩ ⟨n.val / 1024 + 8 * r.val, by omega⟩ ⟨n.val % 128, by omega⟩ := by
  by_cases h : t.val % 128 = 0
  · rw [outsAt0_A m c t h]
    dsimp only
    rw [blockQA]
    exact congrArg₂ (fun a g => held a g ⟨n.val % 1024 / 128, by omega⟩ ⟨n.val / 1024 + 8 * r.val, by omega⟩ ⟨n.val % 128, by omega⟩)
      (funext fun q => funext fun l => act_first m c t h q l) (funext fun q => funext fun l => gate_blk m c t q l)
  · have e := fun r l => act_next m c t ⟨t.val - 1, by have := t.isLt; omega⟩ (by show t.val = t.val - 1 + 1; omega) r l
    rw [outsAt0_B m c t h]
    dsimp only
    rw [blockQB]
    exact congrArg₂ (fun a g => held a g ⟨n.val % 1024 / 128, by omega⟩ ⟨n.val / 1024 + 8 * r.val, by omega⟩ ⟨n.val % 128, by omega⟩)
      (funext fun q => funext fun l => e q l) (funext fun q => funext fun l => gate_blk m c t q l)

theorem atK (t : Fin cfg0.N) (r : Fin 32) (n : Fin 8192) :
    (outsAt0 m c t.val t.isLt).2.1 (ix2 r n) = whole m c t ⟨8 + n.val % 1024 / 128, by omega⟩ ⟨n.val / 1024 + 8 * r.val, by omega⟩ ⟨n.val % 128, by omega⟩ := by
  by_cases h : t.val % 128 = 0
  · rw [outsAt0_A m c t h]
    dsimp only
    rw [blockKA]
    exact congrArg₂ (fun a g => held a g ⟨8 + n.val % 1024 / 128, by omega⟩ ⟨n.val / 1024 + 8 * r.val, by omega⟩ ⟨n.val % 128, by omega⟩)
      (funext fun q => funext fun l => act_first m c t h q l) (funext fun q => funext fun l => gate_blk m c t q l)
  · have e := fun r l => act_next m c t ⟨t.val - 1, by have := t.isLt; omega⟩ (by show t.val = t.val - 1 + 1; omega) r l
    rw [outsAt0_B m c t h]
    dsimp only
    rw [blockKB]
    exact congrArg₂ (fun a g => held a g ⟨8 + n.val % 1024 / 128, by omega⟩ ⟨n.val / 1024 + 8 * r.val, by omega⟩ ⟨n.val % 128, by omega⟩)
      (funext fun q => funext fun l => e q l) (funext fun q => funext fun l => gate_blk m c t q l)

theorem atV (t : Fin cfg0.N) (r : Fin 32) (n : Fin 16384) :
    (outsAt0 m c t.val t.isLt).2.2.1 (ix2 r n) = whole m c t ⟨16 + n.val % 2048 / 128, by omega⟩ ⟨n.val / 2048 + 8 * r.val, by omega⟩ ⟨n.val % 128, by omega⟩ := by
  by_cases h : t.val % 128 = 0
  · rw [outsAt0_A m c t h]
    dsimp only
    rw [blockVA]
    exact congrArg₂ (fun a g => held a g ⟨16 + n.val % 2048 / 128, by omega⟩ ⟨n.val / 2048 + 8 * r.val, by omega⟩ ⟨n.val % 128, by omega⟩)
      (funext fun q => funext fun l => act_first m c t h q l) (funext fun q => funext fun l => gate_blk m c t q l)
  · have e := fun r l => act_next m c t ⟨t.val - 1, by have := t.isLt; omega⟩ (by show t.val = t.val - 1 + 1; omega) r l
    rw [outsAt0_B m c t h]
    dsimp only
    rw [blockVB]
    exact congrArg₂ (fun a g => held a g ⟨16 + n.val % 2048 / 128, by omega⟩ ⟨n.val / 2048 + 8 * r.val, by omega⟩ ⟨n.val % 128, by omega⟩)
      (funext fun q => funext fun l => e q l) (funext fun q => funext fun l => gate_blk m c t q l)

theorem atG (t : Fin cfg0.N) (r : Fin 32) (n : Fin 1024) :
    (outsAt0 m c t.val t.isLt).2.2.2.1 (ix2 r n) = whole m c t 32 ⟨n.val / 128 + 8 * r.val, by omega⟩ ⟨n.val % 128, by omega⟩ := by
  by_cases h : t.val % 128 = 0
  · rw [outsAt0_A m c t h]
    dsimp only
    rw [blockGA]
    exact congrArg₂ (fun a g => held a g 32 ⟨n.val / 128 + 8 * r.val, by omega⟩ ⟨n.val % 128, by omega⟩)
      (funext fun q => funext fun l => act_first m c t h q l) (funext fun q => funext fun l => gate_blk m c t q l)
  · have e := fun r l => act_next m c t ⟨t.val - 1, by have := t.isLt; omega⟩ (by show t.val = t.val - 1 + 1; omega) r l
    rw [outsAt0_B m c t h]
    dsimp only
    rw [blockGB]
    exact congrArg₂ (fun a g => held a g 32 ⟨n.val / 128 + 8 * r.val, by omega⟩ ⟨n.val % 128, by omega⟩)
      (funext fun q => funext fun l => e q l) (funext fun q => funext fun l => gate_blk m c t q l)

/-- The slabs, as the formulas count rows and columns. -/
theorem wholeQ (t : Fin cfg0.N) (r : Fin 32) (n : Fin 8192) :
    whole m c t ⟨n.val % 1024 / 128, by omega⟩ ⟨n.val / 1024 + 8 * r.val, by omega⟩ ⟨n.val % 128, by omega⟩ = queries (kA m c) (time t r) n := by
  have e : row t ⟨n.val / 1024 + 8 * r.val, by omega⟩ = ⟨(time t r).val * 8 + n.val / 1024, by omega⟩ := Fin.ext (by
    show 256 * t.val + (n.val / 1024 + 8 * r.val) = (32 * t.val + r.val) * 8 + n.val / 1024; omega)
  unfold whole held queries
  refine (dif_pos (by show n.val % 1024 / 128 < 32; omega)).trans ((if_pos (by show n.val % 1024 / 128 < 8; omega)).trans ?_)
  refine congrArg (fun v : Fin 128 → EReal => unit v ⟨n.val % 128, by omega⟩ * Ideal.ofBits .f32 0x3DB504F3#32) (funext fun l => ?_)
  exact congrArg₂ (kA m c) e (Fin.ext (by show 128 * (n.val % 1024 / 128) + l.val = n.val / 128 % 8 * 128 + l.val; omega))

theorem wholeK (t : Fin cfg0.N) (r : Fin 32) (n : Fin 8192) :
    whole m c t ⟨8 + n.val % 1024 / 128, by omega⟩ ⟨n.val / 1024 + 8 * r.val, by omega⟩ ⟨n.val % 128, by omega⟩ = keys (kA m c) (time t r) n := by
  have e : row t ⟨n.val / 1024 + 8 * r.val, by omega⟩ = ⟨(time t r).val * 8 + n.val / 1024, by omega⟩ := Fin.ext (by
    show 256 * t.val + (n.val / 1024 + 8 * r.val) = (32 * t.val + r.val) * 8 + n.val / 1024; omega)
  unfold whole held keys
  refine (dif_pos (by show 8 + n.val % 1024 / 128 < 32; omega)).trans ((if_neg (by show ¬ 8 + n.val % 1024 / 128 < 8; omega)).trans
    ((if_pos (by show 8 + n.val % 1024 / 128 < 16; omega)).trans ?_))
  refine congrArg (fun v : Fin 128 → EReal => unit v ⟨n.val % 128, by omega⟩) (funext fun l => ?_)
  exact congrArg₂ (kA m c) e (Fin.ext (by show 128 * (8 + n.val % 1024 / 128) + l.val = 1024 + (n.val / 128 % 8 * 128 + l.val); omega))

theorem wholeV (t : Fin cfg0.N) (r : Fin 32) (n : Fin 16384) :
    whole m c t ⟨16 + n.val % 2048 / 128, by omega⟩ ⟨n.val / 2048 + 8 * r.val, by omega⟩ ⟨n.val % 128, by omega⟩ = values (kA m c) (time t r) n := by
  have e : row t ⟨n.val / 2048 + 8 * r.val, by omega⟩ = ⟨(time t r).val * 8 + n.val / 2048, by omega⟩ := Fin.ext (by
    show 256 * t.val + (n.val / 2048 + 8 * r.val) = (32 * t.val + r.val) * 8 + n.val / 2048; omega)
  unfold whole held values
  refine (dif_pos (by show 16 + n.val % 2048 / 128 < 32; omega)).trans ((if_neg (by show ¬ 16 + n.val % 2048 / 128 < 8; omega)).trans
    ((if_neg (by show ¬ 16 + n.val % 2048 / 128 < 16; omega)).trans ?_))
  exact congrArg₂ (kA m c) e (Fin.ext (by show 128 * (16 + n.val % 2048 / 128) + n.val % 128 = 2048 + n.val % 2048; omega))

theorem wholeG (t : Fin cfg0.N) (r : Fin 32) (n : Fin 1024) :
    whole m c t 32 ⟨n.val / 128 + 8 * r.val, by omega⟩ ⟨n.val % 128, by omega⟩ = gates (pgate (kL m c)) (pgate (kD m c)) (kG m c) (time t r) n := by
  have e : row t ⟨n.val / 128 + 8 * r.val, by omega⟩ = ⟨(time t r).val * 8 + n.val / 128, by omega⟩ := Fin.ext (by
    show 256 * t.val + (n.val / 128 + 8 * r.val) = (32 * t.val + r.val) * 8 + n.val / 128; omega)
  unfold whole held gates
  refine (dif_neg (by decide)).trans ?_
  exact congrArg (fun q => Gates.lane (pgate (kL m c)) (pgate (kD m c)) (kG m c q) ⟨n.val % 128, by omega⟩) e

theorem resultQ : (dats m 0 c).arrAt 8 cfg0.N = fun i : S4096x8192.Idx => queries (kA m c) (i 0) (i 1) := by
  refine (dats m 0 c).arrAt_eq_of_covers 8 _ (by decide +kernel) fun t hf y => ?_
  obtain ⟨r, n, rfl⟩ : ∃ (r : Fin 32) (n : Fin 8192), y = ix2 r n := ⟨y 0, y 1, eq_ix2 y⟩
  obtain ⟨-, -, -, -, -, -, -, -, ⟨e0, e1⟩, -⟩ := ix_facts t
  have h0 : ((cfg0.win 8).blk t).view.emb (ix2 r n) 0 = time t r := Fin.ext (by
    show win0_8.index t (0 : Fin 2) * 32 + 1 * r.val = 32 * t.val + r.val; omega)
  have h1 : ((cfg0.win 8).blk t).view.emb (ix2 r n) 1 = n := Fin.ext (by
    show win0_8.index t (1 : Fin 2) * 8192 + 1 * n.val = n.val; omega)
  show (dats m 0 c).after 8 t (ix2 r n) = queries (kA m c) (((cfg0.win 8).blk t).view.emb (ix2 r n) 0) (((cfg0.win 8).blk t).view.emb (ix2 r n) 1)
  rw [h0, h1, after0_8]
  exact (atQ m c t r n).trans (wholeQ m c t r n)

theorem resultK : (dats m 0 c).arrAt 9 cfg0.N = fun i : S4096x8192.Idx => keys (kA m c) (i 0) (i 1) := by
  refine (dats m 0 c).arrAt_eq_of_covers 9 _ (by decide +kernel) fun t hf y => ?_
  obtain ⟨r, n, rfl⟩ : ∃ (r : Fin 32) (n : Fin 8192), y = ix2 r n := ⟨y 0, y 1, eq_ix2 y⟩
  obtain ⟨-, -, -, -, -, -, -, -, -, ⟨e0, e1⟩, -⟩ := ix_facts t
  have h0 : ((cfg0.win 9).blk t).view.emb (ix2 r n) 0 = time t r := Fin.ext (by
    show win0_9.index t (0 : Fin 2) * 32 + 1 * r.val = 32 * t.val + r.val; omega)
  have h1 : ((cfg0.win 9).blk t).view.emb (ix2 r n) 1 = n := Fin.ext (by
    show win0_9.index t (1 : Fin 2) * 8192 + 1 * n.val = n.val; omega)
  show (dats m 0 c).after 9 t (ix2 r n) = keys (kA m c) (((cfg0.win 9).blk t).view.emb (ix2 r n) 0) (((cfg0.win 9).blk t).view.emb (ix2 r n) 1)
  rw [h0, h1, after0_9]
  exact (atK m c t r n).trans (wholeK m c t r n)

theorem resultV : (dats m 0 c).arrAt 10 cfg0.N = fun i : S4096x16384.Idx => values (kA m c) (i 0) (i 1) := by
  refine (dats m 0 c).arrAt_eq_of_covers 10 _ (by decide +kernel) fun t hf y => ?_
  obtain ⟨r, n, rfl⟩ : ∃ (r : Fin 32) (n : Fin 16384), y = ix2 r n := ⟨y 0, y 1, eq_ix2 y⟩
  obtain ⟨-, -, -, -, -, -, -, -, -, -, ⟨e0, e1⟩, -⟩ := ix_facts t
  have h0 : ((cfg0.win 10).blk t).view.emb (ix2 r n) 0 = time t r := Fin.ext (by
    show win0_10.index t (0 : Fin 2) * 32 + 1 * r.val = 32 * t.val + r.val; omega)
  have h1 : ((cfg0.win 10).blk t).view.emb (ix2 r n) 1 = n := Fin.ext (by
    show win0_10.index t (1 : Fin 2) * 16384 + 1 * n.val = n.val; omega)
  show (dats m 0 c).after 10 t (ix2 r n) = values (kA m c) (((cfg0.win 10).blk t).view.emb (ix2 r n) 0) (((cfg0.win 10).blk t).view.emb (ix2 r n) 1)
  rw [h0, h1, after0_10]
  exact (atV m c t r n).trans (wholeV m c t r n)

theorem resultG : (dats m 0 c).arrAt 11 cfg0.N = fun i : S4096x1024.Idx => gates (pgate (kL m c)) (pgate (kD m c)) (kG m c) (i 0) (i 1) := by
  refine (dats m 0 c).arrAt_eq_of_covers 11 _ (by decide +kernel) fun t hf y => ?_
  obtain ⟨r, n, rfl⟩ : ∃ (r : Fin 32) (n : Fin 1024), y = ix2 r n := ⟨y 0, y 1, eq_ix2 y⟩
  obtain ⟨-, -, -, -, -, -, -, -, -, -, -, e0, e1⟩ := ix_facts t
  have h0 : ((cfg0.win 11).blk t).view.emb (ix2 r n) 0 = time t r := Fin.ext (by
    show win0_11.index t (0 : Fin 2) * 32 + 1 * r.val = 32 * t.val + r.val; omega)
  have h1 : ((cfg0.win 11).blk t).view.emb (ix2 r n) 1 = n := Fin.ext (by
    show win0_11.index t (1 : Fin 2) * 1024 + 1 * n.val = n.val; omega)
  show (dats m 0 c).after 11 t (ix2 r n) = gates (pgate (kL m c)) (pgate (kD m c)) (kG m c) (((cfg0.win 11).blk t).view.emb (ix2 r n) 0) (((cfg0.win 11).blk t).view.emb (ix2 r n) 1)
  rw [h0, h1, after0_11]
  exact (atG m c t r n).trans (wholeG m c t r n)

end

end Cert.Kernel5Ideal.Gen.GdnIn
-- ==== Proof.GdnInRef.lean ====
/- The delta rule's input call's reference: its four results, an element at a time, are the formulas of Proof/Conv.lean. -/
module

public import proofs.«01_k».proof.Proof.Conv
public import proofs.«01_k».proof.Proof.Gen.Reference5Ideal.Run

@[expose] public section

noncomputable section

namespace Cert.Reference5Ideal.Value

open Cert.Reference5Ideal Cert.Reference5Ideal.Gen
open Idealize.ShloMosaic Idealize.ShloMosaic.TcCoe Idealize.SL.Sem
open Gates (rms hrow pr past taps silu act unit decay lane wgate pgate sg queries keys values gates)

/-! ## The reference's values, as it spells them -/

/-- The root mean square norm. -/
def nrm (x : FVec Ideal S4096x8x1024 .f32) (x1 : FVec Ideal S1024 .f32) : FVec Ideal S4096x8x1024 .f32 :=
  (mulf (mulf x (broadcastInDim S4096x8x1024 ![0, 1, 2] bcast_S4096x8x1_S4096x8x1024_0_1_2 (Host.rsqrt (addf (Host.divf (broadcastInDim S4096x8x1 ![0, 1] bcast_S4096x8_S4096x8x1_0_1 (Host.reduceAdd (mulf x x) (constant S_ .f32 0x00000000#32) reducesTo_S4096x8x1024_S4096x8_d2 h_S_)) (broadcastInDim S4096x8x1 ![] bcast_S_S4096x8x1 (constant S_ .f32 0x44800000#32))) (broadcastInDim S4096x8x1 ![] bcast_S_S4096x8x1 (constant S_ .f32 0x358637BD#32)))))) (broadcastInDim S4096x8x1024 ![0, 1, 2] bcast_S1x1x1024_S4096x8x1024_0_1_2 (broadcastInDim S1x1x1024 ![2] bcast_S1024_S1x1x1024_2 x1)))

/-- The rows by time and batch, normalised and modulated. -/
def hid (x0 : FVec Ideal S32768x1024 .f32) (x1 : FVec Ideal S1024 .f32) (x2 : FVec Ideal S16x3072 .f32) : FVec Ideal S4096x8x1024 .f32 :=
  (addf (mulf (nrm (shapeCast _ x0 shapeCasts_S32768x1024_S4096x8x1024) x1) (broadcastInDim S4096x8x1024 ![0, 1, 2] bcast_S1x8x1024_S4096x8x1024_0_1_2 (broadcastInDim S1x8x1024 ![1, 2] bcast_S8x1024_S1x8x1024_1_2 (addf (broadcastInDim S8x1024 ![] bcast_S_S8x1024 (constant S_ .f32 0x3F800000#32)) (extractStridedSlice S8x1024 ![0, 1024] (extractStridedSlice S8x3072 ![8, 0] x2 slices_S16x3072_S8x3072_8_0) slices_S8x3072_S8x1024_0_1024))))) (broadcastInDim S4096x8x1024 ![0, 1, 2] bcast_S1x8x1024_S4096x8x1024_0_1_2 (broadcastInDim S1x8x1024 ![1, 2] bcast_S8x1024_S1x8x1024_1_2 (extractStridedSlice S8x1024 ![0, 0] (extractStridedSlice S8x3072 ![8, 0] x2 slices_S16x3072_S8x3072_8_0) slices_S8x3072_S8x1024_0_0))))

/-- The projection of the queries, keys and values, and of the gates. -/
def proj (h : FVec Ideal S4096x8x1024 .f32) (x3 : FVec Ideal S1024x6160 .f32) : FVec Ideal S4096x8x4096 .f32 :=
  (Host.dotGeneral dot_S4096x8x1024_S1024x4096_S4096x8x4096_2_0_01_1_n_n none h (extractStridedSlice S1024x4096 ![0, 0] x3 slices_S1024x6160_S1024x4096_0_0))

def logit (h : FVec Ideal S4096x8x1024 .f32) (x3 : FVec Ideal S1024x6160 .f32) : FVec Ideal S4096x8x128 .f32 :=
  (Host.dotGeneral dot_S4096x8x1024_S1024x128_S4096x8x128_2_0_01_1_n_n none h (pad S1024x128 ![0, 0] ![0, 112] ![0, 0] (extractStridedSlice S1024x16 ![0, 6144] x3 slices_S1024x6160_S1024x16_0_6144) (sitofp .f32 (constantI S_ 32 0#32)) pads_S1024x16_S1024x128_000_01120 h_S_))

/-- Three times of zeros before the projection, and the convolution's sum and silu. -/
def padded (p : FVec Ideal S4096x8x4096 .f32) : FVec Ideal S4099x8x4096 .f32 :=
  (pad S4099x8x4096 ![3, 0, 0] ![0, 0, 0] ![0, 0, 0] p (sitofp .f32 (constantI S_ 32 0#32)) pads_S4096x8x4096_S4099x8x4096_300_000_000 h_S_)

def conv (p : FVec Ideal S4099x8x4096 .f32) (x4 : FVec Ideal S4x4096 .f32) : FVec Ideal S4096x8x4096 .f32 :=
  (addf (addf (addf (mulf (broadcastInDim S4096x8x4096 ![0, 1, 2] bcast_S1x1x4096_S4096x8x4096_0_1_2 (broadcastInDim S1x1x4096 ![2] bcast_S4096_S1x1x4096_2 (shapeCast _ (extractStridedSlice S1x4096 ![0, 0] x4 slices_S4x4096_S1x4096_0_0) shapeCasts_S1x4096_S4096))) (extractStridedSlice S4096x8x4096 ![0, 0, 0] p slices_S4099x8x4096_S4096x8x4096_0_0_0)) (mulf (broadcastInDim S4096x8x4096 ![0, 1, 2] bcast_S1x1x4096_S4096x8x4096_0_1_2 (broadcastInDim S1x1x4096 ![2] bcast_S4096_S1x1x4096_2 (shapeCast _ (extractStridedSlice S1x4096 ![1, 0] x4 slices_S4x4096_S1x4096_1_0) shapeCasts_S1x4096_S4096))) (extractStridedSlice S4096x8x4096 ![1, 0, 0] p slices_S4099x8x4096_S4096x8x4096_1_0_0))) (mulf (broadcastInDim S4096x8x4096 ![0, 1, 2] bcast_S1x1x4096_S4096x8x4096_0_1_2 (broadcastInDim S1x1x4096 ![2] bcast_S4096_S1x1x4096_2 (shapeCast _ (extractStridedSlice S1x4096 ![2, 0] x4 slices_S4x4096_S1x4096_2_0) shapeCasts_S1x4096_S4096))) (extractStridedSlice S4096x8x4096 ![2, 0, 0] p slices_S4099x8x4096_S4096x8x4096_2_0_0))) (mulf (broadcastInDim S4096x8x4096 ![0, 1, 2] bcast_S1x1x4096_S4096x8x4096_0_1_2 (broadcastInDim S1x1x4096 ![2] bcast_S4096_S1x1x4096_2 (shapeCast _ (extractStridedSlice S1x4096 ![3, 0] x4 slices_S4x4096_S1x4096_3_0) shapeCasts_S1x4096_S4096))) (extractStridedSlice S4096x8x4096 ![3, 0, 0] p slices_S4099x8x4096_S4096x8x4096_3_0_0)))

def actv (c : FVec Ideal S4096x8x4096 .f32) : FVec Ideal S4096x8x4096 .f32 :=
  (mulf c (Host.divf (broadcastInDim S4096x8x4096 ![] bcast_S_S4096x8x4096 (constant S_ .f32 0x3F800000#32)) (addf (broadcastInDim S4096x8x4096 ![] bcast_S_S4096x8x4096 (constant S_ .f32 0x3F800000#32)) (Host.exp (Host.negf c)))))

/-- Heads of unit length. -/
def norm (v : FVec Ideal S4096x8x8x128 .f32) : FVec Ideal S4096x8x8x128 .f32 :=
  (mulf v (broadcastInDim S4096x8x8x128 ![0, 1, 2, 3] bcast_S4096x8x8x1_S4096x8x8x128_0_1_2_3 (Host.rsqrt (addf (broadcastInDim S4096x8x8x1 ![0, 1, 2] bcast_S4096x8x8_S4096x8x8x1_0_1_2 (Host.reduceAdd (mulf v v) (constant S_ .f32 0x00000000#32) reducesTo_S4096x8x8x128_S4096x8x8_d3 h_S_)) (broadcastInDim S4096x8x8x1 ![] bcast_S_S4096x8x8x1 (constant S_ .f32 0x358637BD#32))))))

/-- The four results. -/
def outQ (a : FVec Ideal S4096x8x4096 .f32) : FVec Ideal S4096x8192 .bf16 :=
  truncf .bf16 (shapeCast S4096x8192 (mulf (norm (shapeCast _ (extractStridedSlice S4096x8x1024 ![0, 0, 0] a slices_S4096x8x4096_S4096x8x1024_0_0_0) shapeCasts_S4096x8x1024_S4096x8x8x128)) (broadcastInDim S4096x8x8x128 ![] bcast_S_S4096x8x8x128 (constant S_ .f32 0x3DB504F3#32))) shapeCasts_S4096x8x8x128_S4096x8192) bitsLt_bf16_f32

def outK (a : FVec Ideal S4096x8x4096 .f32) : FVec Ideal S4096x8192 .bf16 :=
  truncf .bf16 (shapeCast S4096x8192 (norm (shapeCast _ (extractStridedSlice S4096x8x1024 ![0, 0, 1024] a slices_S4096x8x4096_S4096x8x1024_0_0_1024) shapeCasts_S4096x8x1024_S4096x8x8x128)) shapeCasts_S4096x8x8x128_S4096x8192) bitsLt_bf16_f32

def outV (a : FVec Ideal S4096x8x4096 .f32) : FVec Ideal S4096x16384 .bf16 :=
  truncf .bf16 (shapeCast S4096x16384 (extractStridedSlice S4096x8x2048 ![0, 0, 2048] a slices_S4096x8x4096_S4096x8x2048_0_0_2048) shapeCasts_S4096x8x2048_S4096x16384) bitsLt_bf16_f32

def outG (g : FVec Ideal S4096x8x128 .f32) (x5 x6 : FVec Ideal S8 .f32) : FVec Ideal S4096x1024 .f32 :=
  shapeCast S4096x1024 (concatenate S4096x8x128 2 [⟨S4096x8x8, (Host.divf (broadcastInDim S4096x8x8 ![] bcast_S_S4096x8x8 (constant S_ .f32 0x3F800000#32)) (addf (broadcastInDim S4096x8x8 ![] bcast_S_S4096x8x8 (constant S_ .f32 0x3F800000#32)) (Host.exp (Host.negf (extractStridedSlice S4096x8x8 ![0, 0, 0] g slices_S4096x8x128_S4096x8x8_0_0_0)))))⟩, ⟨S4096x8x120, (mulf (broadcastInDim S4096x8x120 ![0, 1, 2] bcast_S1x1x120_S4096x8x120_0_1_2 (broadcastInDim S1x1x120 ![2] bcast_S120_S1x1x120_2 (Host.negf (Host.exp (pad S120 ![0] ![112] ![0] x5 (sitofp .f32 (constantI S_ 32 0#32)) pads_S8_S120_01120 h_S_))))) (addf (maximumf (addf (extractStridedSlice S4096x8x120 ![0, 0, 8] g slices_S4096x8x128_S4096x8x120_0_0_8) (broadcastInDim S4096x8x120 ![0, 1, 2] bcast_S1x1x120_S4096x8x120_0_1_2 (broadcastInDim S1x1x120 ![2] bcast_S120_S1x1x120_2 (pad S120 ![0] ![112] ![0] x6 (sitofp .f32 (constantI S_ 32 0#32)) pads_S8_S120_01120 h_S_)))) (broadcastInDim S4096x8x120 ![] bcast_S_S4096x8x120 (constant S_ .f32 0x00000000#32))) (Host.log1p (Host.exp (Host.negf (Host.absf (addf (extractStridedSlice S4096x8x120 ![0, 0, 8] g slices_S4096x8x128_S4096x8x120_0_0_8) (broadcastInDim S4096x8x120 ![0, 1, 2] bcast_S1x1x120_S4096x8x120_0_1_2 (broadcastInDim S1x1x120 ![2] bcast_S120_S1x1x120_2 (pad S120 ![0] ![112] ![0] x6 (sitofp .f32 (constantI S_ 32 0#32)) pads_S8_S120_01120 h_S_))))))))))⟩] concatenates_S4096x8x8_S4096x8x120_S4096x8x128_d2) shapeCasts_S4096x8x128_S4096x1024

/-! ## An element of each -/

theorem zero_word : (FloatOps.sitofp .f32 0#32 : Ideal .f32) = (0 : EReal) := by
  show ((((0#32 : BitVec 32).toInt : ℤ) : ℝ) : EReal) = 0
  simp

theorem nrm_at (x : FVec Ideal S4096x8x1024 .f32) (w : FVec Ideal S1024 .f32) (t : Fin 4096) (b : Fin 8) (n : Fin 1024) :
    nrm x w (ix3 t b n) = rms (fun n => x (ix3 t b n)) (fun n => w (ix1 n)) n := by
  pointwise [nrm, rms]

section

variable (x0 : FVec Ideal S32768x1024 .f32) (x1 : FVec Ideal S1024 .f32) (x2 : FVec Ideal S16x3072 .f32) (x3 : FVec Ideal S1024x6160 .f32)
    (x4 : FVec Ideal S4x4096 .f32) (x5 x6 : FVec Ideal S8 .f32)

theorem hid_at' (t : Fin 4096) (b : Fin 8) (n : Fin 1024) :
    hid x0 x1 x2 (ix3 t b n) = rms (fun n => x0 (ix2 ⟨t.val * 8 + b.val, by omega⟩ n)) (fun n => x1 (ix1 n)) n
      * (1 + x2 (ix2 ⟨8 + b.val, by omega⟩ ⟨1024 + n.val, by omega⟩)) + x2 (ix2 ⟨8 + b.val, by omega⟩ ⟨n.val, by omega⟩) := by
  pointwise [hid]
  rw [nrm_at]
  pointwise

/-- The operands, by row and column. -/
def rX (r : Fin 32768) (n : Fin 1024) : EReal := x0 (ix2 r n)
def rN (n : Fin 1024) : EReal := x1 (ix1 n)
def rSc (b : Fin 8) (n : Fin 1024) : EReal := x2 (ix2 ⟨8 + b.val, by omega⟩ ⟨1024 + n.val, by omega⟩)
def rSh (b : Fin 8) (n : Fin 1024) : EReal := x2 (ix2 ⟨8 + b.val, by omega⟩ ⟨n.val, by omega⟩)
def rP (r : Fin 32768) (l : Fin 4096) : EReal := pr (rX x0) (rN x1) (rSc x2) (rSh x2) (fun k (l : Fin 4096) => x3 (ix2 k ⟨l.val, by omega⟩)) r l
def rG (r : Fin 32768) (l : Fin 128) : EReal := pr (rX x0) (rN x1) (rSc x2) (rSh x2) (wgate fun k l => x3 (ix2 k l)) r l
def rA (r : Fin 32768) (l : Fin 4096) : EReal := act (rP x0 x1 x2 x3) (fun j l => x4 (ix2 j l)) r l

theorem hid_at (t : Fin 4096) (b : Fin 8) (n : Fin 1024) :
    hid x0 x1 x2 (ix3 t b n) = hrow (rX x0) (rN x1) (rSc x2) (rSh x2) ⟨t.val * 8 + b.val, by omega⟩ n := by
  have e : (t.val * 8 + b.val) % 8 = b.val := by omega
  rw [hid_at']
  simp only [hrow, rX, rN, rSc, rSh, e]
  rfl

theorem proj_at (t : Fin 4096) (b : Fin 8) (l : Fin 4096) :
    proj (hid x0 x1 x2) x3 (ix3 t b l) = rP x0 x1 x2 x3 ⟨t.val * 8 + b.val, by omega⟩ l := by
  unfold rP pr
  generalize hh : hid x0 x1 x2 = h
  refine (by pointwise [proj] : _ = ∑ k, h (ix3 t b k) * x3 (ix2 k ⟨l.val, by omega⟩)).trans ?_
  subst hh
  simp only [hid_at]

theorem logit_at (t : Fin 4096) (b : Fin 8) (l : Fin 128) :
    logit (hid x0 x1 x2) x3 (ix3 t b l) = rG x0 x1 x2 x3 ⟨t.val * 8 + b.val, by omega⟩ l := by
  unfold rG pr
  generalize hh : hid x0 x1 x2 = h
  refine (by pointwise [logit, wgate]; simp only [zero_word] : _ = ∑ k, h (ix3 t b k) * wgate (fun k l => x3 (ix2 k l)) k l).trans ?_
  subst hh
  simp only [hid_at]

theorem padded_at (p : FVec Ideal S4096x8x4096 .f32) (t : Fin 4099) (b : Fin 8) (l : Fin 4096) :
    padded p (ix3 t b l) = if h : 3 ≤ t.val then p (ix3 ⟨t.val - 3, by omega⟩ b l) else 0 := by
  pointwise [padded]
  by_cases h : 3 ≤ t.val
  · rw [dif_pos ⟨h, by omega⟩, dif_pos h]
  · rw [dif_neg (fun h' => h h'.1), dif_neg h, zero_word]

theorem conv_at (p : FVec Ideal S4099x8x4096 .f32) (t : Fin 4096) (b : Fin 8) (l : Fin 4096) :
    conv p x4 (ix3 t b l) = taps (fun j => x4 (ix2 j l)) (fun j => p (ix3 ⟨j.val + t.val, by omega⟩ b l)) := by
  pointwise [conv, taps]

theorem actv_at' (c : FVec Ideal S4096x8x4096 .f32) (t : Fin 4096) (b : Fin 8) (l : Fin 4096) :
    actv c (ix3 t b l) = silu (c (ix3 t b l)) := by
  pointwise [actv, silu, sg]
  rw [zero_sub]

theorem actv_at (t : Fin 4096) (b : Fin 8) (l : Fin 4096) :
    actv (conv (padded (proj (hid x0 x1 x2) x3)) x4) (ix3 t b l) = rA x0 x1 x2 x3 x4 ⟨t.val * 8 + b.val, by omega⟩ l := by
  rw [actv_at', conv_at]
  unfold rA act
  refine congrArg (fun e => silu (taps (fun j => x4 (ix2 j l)) e)) (funext fun j => ?_)
  rw [padded_at]
  unfold past
  by_cases h : 3 ≤ j.val + t.val
  · rw [dif_pos h, dif_pos (by show 24 ≤ t.val * 8 + b.val + 8 * j.val; omega), proj_at]
    exact congrArg (fun r => rP x0 x1 x2 x3 r l) (Fin.ext (by show (j.val + t.val - 3) * 8 + b.val = t.val * 8 + b.val + 8 * j.val - 24; omega))
  · rw [dif_neg h, dif_neg (by show ¬ 24 ≤ t.val * 8 + b.val + 8 * j.val; omega)]

theorem norm_at (v : FVec Ideal S4096x8x8x128 .f32) (t : Fin 4096) (b s : Fin 8) (l : Fin 128) :
    norm v (ix4 t b s l) = unit (fun l => v (ix4 t b s l)) l := by
  pointwise [norm, unit]

theorem headQ (a : FVec Ideal S4096x8x4096 .f32) (t : Fin 4096) (b s : Fin 8) (l : Fin 128) :
    (shapeCast S4096x8x8x128 (extractStridedSlice S4096x8x1024 ![0, 0, 0] a slices_S4096x8x4096_S4096x8x1024_0_0_0) shapeCasts_S4096x8x1024_S4096x8x8x128 : FVec Ideal S4096x8x8x128 .f32) (ix4 t b s l)
      = a (ix3 t b ⟨s.val * 128 + l.val, by omega⟩) := by
  pointwise

theorem headK (a : FVec Ideal S4096x8x4096 .f32) (t : Fin 4096) (b s : Fin 8) (l : Fin 128) :
    (shapeCast S4096x8x8x128 (extractStridedSlice S4096x8x1024 ![0, 0, 1024] a slices_S4096x8x4096_S4096x8x1024_0_0_1024) shapeCasts_S4096x8x1024_S4096x8x8x128 : FVec Ideal S4096x8x8x128 .f32) (ix4 t b s l)
      = a (ix3 t b ⟨1024 + (s.val * 128 + l.val), by omega⟩) := by
  pointwise

/-- The four results are the formulas. -/
theorem outQ_at (t : Fin 4096) (n : Fin 8192) :
    outQ (actv (conv (padded (proj (hid x0 x1 x2) x3)) x4)) (ix2 t n) = queries (rA x0 x1 x2 x3 x4) t n := by
  generalize hA : actv (conv (padded (proj (hid x0 x1 x2) x3)) x4) = a
  pointwise [outQ]
  rw [norm_at]
  subst hA
  simp only [headQ, actv_at]
  rfl

theorem outK_at (t : Fin 4096) (n : Fin 8192) :
    outK (actv (conv (padded (proj (hid x0 x1 x2) x3)) x4)) (ix2 t n) = keys (rA x0 x1 x2 x3 x4) t n := by
  generalize hA : actv (conv (padded (proj (hid x0 x1 x2) x3)) x4) = a
  pointwise [outK]
  rw [norm_at]
  subst hA
  simp only [headK, actv_at]
  rfl

theorem outV_at (t : Fin 4096) (n : Fin 16384) :
    outV (actv (conv (padded (proj (hid x0 x1 x2) x3)) x4)) (ix2 t n) = values (rA x0 x1 x2 x3 x4) t n := by
  generalize hA : actv (conv (padded (proj (hid x0 x1 x2) x3)) x4) = a
  refine (by pointwise [outV] : _ = a (ix3 t ⟨n.val / 2048, by omega⟩ ⟨2048 + n.val % 2048, by omega⟩)).trans ?_
  subst hA
  rw [actv_at]
  rfl

theorem outG_at' (g : FVec Ideal S4096x8x128 .f32) (t : Fin 4096) (n : Fin 1024) :
    outG g x5 x6 (ix2 t n) = Gates.lane (pgate fun l => x5 (ix1 l)) (pgate fun l => x6 (ix1 l)) (fun l => g (ix3 t ⟨n.val / 128, by omega⟩ l)) ⟨n.val % 128, by omega⟩ := by
  pointwise [outG, Gates.lane, pgate, decay, sg]
  by_cases h : n.val % 128 < 8
  · refine (dif_pos h).trans (Eq.trans ?_ (if_pos h).symm)
    simp only [zero_sub]
  · have e : 8 + (n.val % 128 - 8) = n.val % 128 := by omega
    refine (dif_neg h).trans (Eq.trans ?_ (if_neg h).symm)
    by_cases h' : n.val % 128 < 16
    · have h1 : n.val % 128 - 8 < 8 := by omega
      have h2 : 8 ≤ n.val % 128 ∧ n.val % 128 < 16 := ⟨by omega, h'⟩
      simp only [dif_pos h1, dif_pos h2, zero_sub, e]
      rfl
    · have h1 : ¬ n.val % 128 - 8 < 8 := by omega
      have h2 : ¬ (8 ≤ n.val % 128 ∧ n.val % 128 < 16) := fun h => h' h.2
      simp only [dif_neg h1, dif_neg h2, zero_sub, zero_word, e]
      rfl

theorem outG_at (t : Fin 4096) (n : Fin 1024) :
    outG (logit (hid x0 x1 x2) x3) x5 x6 (ix2 t n) = gates (pgate fun l => x5 (ix1 l)) (pgate fun l => x6 (ix1 l)) (rG x0 x1 x2 x3) t n := by
  rw [outG_at']
  simp only [logit_at]
  rfl

end

section

variable (m : (ℓ : Loc nD τ sig) → Buf (Elt Ideal) ℓ) (c : Dev nD)

abbrev arg0 : FVec Ideal S32768x1024 .f32 := m ((c : Thread nD τ).loc main_arg0)
abbrev arg1 : FVec Ideal S1024 .f32 := m ((c : Thread nD τ).loc main_arg1)
abbrev arg2 : FVec Ideal S16x3072 .f32 := m ((c : Thread nD τ).loc main_arg2)
abbrev arg3 : FVec Ideal S1024x6160 .f32 := m ((c : Thread nD τ).loc main_arg3)
abbrev arg4 : FVec Ideal S4x4096 .f32 := m ((c : Thread nD τ).loc main_arg4)
abbrev arg5 : FVec Ideal S8 .f32 := m ((c : Thread nD τ).loc main_arg5)
abbrev arg6 : FVec Ideal S8 .f32 := m ((c : Thread nD τ).loc main_arg6)

theorem resQ : res_main_v110 m c = outQ (actv (conv (padded (proj (hid (arg0 m c) (arg1 m c) (arg2 m c)) (arg3 m c))) (arg4 m c))) := rfl
theorem resK : res_main_v112 m c = outK (actv (conv (padded (proj (hid (arg0 m c) (arg1 m c) (arg2 m c)) (arg3 m c))) (arg4 m c))) := rfl
theorem resV : res_main_v114 m c = outV (actv (conv (padded (proj (hid (arg0 m c) (arg1 m c) (arg2 m c)) (arg3 m c))) (arg4 m c))) := rfl
theorem resG : res_main_v115 m c = outG (logit (hid (arg0 m c) (arg1 m c) (arg2 m c)) (arg3 m c)) (arg5 m c) (arg6 m c) := rfl

end

end Cert.Reference5Ideal.Value
-- ==== Proof.lean ====
/- The proof of the certificate's claim. The frames of the kernels and of the references come from their generated runs.
   Each algebraic claim puts a kernel's value beside its reference's: for the chunked delta rule (Proof/Point.lean and
   Proof/RefValue.lean) both are the token-by-token rule of Proof/Tokens.lean; for the two output calls and the
   state-space half's input call (Proof/GdnOut.lean and Proof/GdnOutRef.lean, Proof/S5Out.lean and Proof/S5OutRef.lean,
   Proof/S5In.lean and Proof/S5InRef.lean) both are the row formulas of Proof/Gates.lean; for the delta rule's input call
   (Proof/GdnInArrays.lean and Proof/GdnInRef.lean) both are those of Proof/Conv.lean. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import Idealize.ShloMosaic.Adequacy
public import Idealize.ShloMosaic.Init
public import Idealize.ShloMosaic.Lib.Quiescent
public import proofs.«01_k».proof.Proof.Finite
public import proofs.«01_k».proof.Proof.RefValue
public import proofs.«01_k».proof.Proof.GdnOut
public import proofs.«01_k».proof.Proof.GdnOutRef
public import proofs.«01_k».proof.Proof.S5Out
public import proofs.«01_k».proof.Proof.S5OutRef
public import proofs.«01_k».proof.Proof.S5In
public import proofs.«01_k».proof.Proof.S5InRef
public import proofs.«01_k».proof.Proof.GdnInArrays
public import proofs.«01_k».proof.Proof.GdnInRef

@[expose] public section

noncomputable section

namespace Cert.Proof

open Idealize.ShloMosaic Idealize.SL.Sem

theorem frame_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ReferenceIdeal_pre : quiescent_ReferenceIdeal_pre_finite := fun m ρ _ => frame_ReferenceIdeal m ρ trivial

theorem frame_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_Reference4Ideal : quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

theorem frame_Reference5Ideal : quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

/-- The two result arrays of the chunked delta rule are one. -/
theorem tie (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (F : Cert.KernelIdeal.Gen.Pair.Fin' m c)
    (hq : Cert.ReferenceIdeal.Value.aq m' c = Cert.KernelIdeal.Gen.Pair.aq m c)
    (hk : Cert.ReferenceIdeal.Value.ak m' c = Cert.KernelIdeal.Gen.Pair.ak m c)
    (hv : Cert.ReferenceIdeal.Value.av m' c = Cert.KernelIdeal.Gen.Pair.av m c)
    (hg : Cert.ReferenceIdeal.Value.ag m' c = Cert.KernelIdeal.Gen.Pair.ag m c)
    (hn : Cert.ReferenceIdeal.Value.an m' c = Cert.KernelIdeal.Gen.Pair.an m c) :
    (Cert.ReferenceIdeal.Value.out_main_v26 (Cert.ReferenceIdeal.Value.STEP^[4096]
        (StableHlo.entryContents Cert.ReferenceIdeal.Value.preI m' c)) : FVec Ideal ⟨2, ![4096, 16384]⟩ .bf16)
      = Cert.KernelIdeal.Value.G5 m c := by
  have R : Cert.ReferenceIdeal.Value.Real' m' c :=
    ⟨by rw [hq]; exact F.q, by rw [hk]; exact F.k, by rw [hv]; exact F.v, by rw [hg]; exact F.g⟩
  funext i
  obtain ⟨r, b, h, e, rfl⟩ : ∃ (r : Fin 4096) (b h : Fin 8) (e : Fin 256),
      i = ix2 r (⟨256 * (Cert.ReferenceIdeal.Value.hd b h).val + e.val, by have := (Cert.ReferenceIdeal.Value.hd b h).isLt; omega⟩ : Fin 16384) := by
    have hl : (i 1).val < 16384 := (i 1).isLt
    refine ⟨i 0, ⟨(i 1).val / 2048, by omega⟩, ⟨(i 1).val / 256 % 8, by omega⟩, ⟨(i 1).val % 256, by omega⟩, (eq_ix2 i).trans ?_⟩
    exact congrArg (fun l : Fin 16384 => ix2 (n0 := 4096) (i 0) l) (Fin.ext (by simp only [Cert.ReferenceIdeal.Value.hd]; omega))
  refine (Cert.ReferenceIdeal.Value.result R r b h e).trans ?_
  rw [hq, hk, hv, hg, hn]
  exact (Cert.KernelIdeal.Gen.Pair.result F r (Cert.ReferenceIdeal.Value.hd b h) e).symm

theorem algebraic : algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ?_
  obtain ⟨a0, a1, a2, a3, a4⟩ := hagree c
  exact tie m m' c (Cert.KernelIdeal.Gen.Pair.fin_of_pre m hpre c)
    (funext fun r => funext fun l => congrFun a0 (ix2 r l)) (funext fun r => funext fun l => congrFun a1 (ix2 r l))
    (funext fun r => funext fun l => congrFun a2 (ix2 r l)) (funext fun r => funext fun l => congrFun a3 (ix2 r l))
    (funext fun e => congrFun a4 (ix1 e))

/-- The delta rule's output call. -/
theorem algebraic2 : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  refine (h c).1.trans ?_
  obtain ⟨a0, a1, a2, a3, a4, a5, a6⟩ := hagree c
  rw [Cert.Reference2Ideal.Value.res_eq, a0, a1, a2, a3, a4, a5, a6]
  refine Eq.trans ?_ (Cert.Kernel2Ideal.Gen.GdnOut.result m c).symm
  funext i
  obtain ⟨b, t, n, rfl⟩ : ∃ (b : Fin 8) (t : Fin 4096) (n : Fin 1024), i = ix3 b t n := ⟨i 0, i 1, i 2, eq_ix3 i⟩
  exact Cert.Reference2Ideal.Value.out_at _ _ _ _ _ _ _ b t n

/-- The state-space half's output call. -/
theorem algebraic3 : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  refine (h c).1.trans ?_
  obtain ⟨a0, a1, a2, a3, a4, a5⟩ := hagree c
  rw [a0, a1, a2, a3, a4, a5]
  refine Eq.trans ?_ (Cert.Kernel3Ideal.Gen.S5Out.result m c).symm
  funext i
  obtain ⟨r, n, rfl⟩ : ∃ (r : Fin 32768) (n : Fin 1024), i = ix2 r n := ⟨i 0, i 1, eq_ix2 i⟩
  exact Cert.Reference3Ideal.Value.out_at _ _ _ _ _ _ r n

/-- The state-space half's input call: the rows, and the two halves of their projection. -/
theorem algebraic4 : algebraic_Kernel4Ideal_Reference4Ideal := by
  intro m ρ m' ρ' _ hagree
  refine ⟨_, _, _, Cert.Kernel4Ideal.Value.run_blocks (F := Ideal) m ρ, ?_⟩
  refine (θ_run Cert.Reference4Ideal.defs _ _).mono (fun _ h c => ⟨?_, ?_, ?_, (h c).2.2.2⟩) (Cert.Reference4Ideal.Value.run (F := Ideal) m' ρ')
  · obtain ⟨a0, a1, a2, a3⟩ := hagree c
    refine (h c).1.trans ?_
    rw [a0]
    refine Eq.trans ?_ (Cert.Kernel4Ideal.Gen.S5In.result5 m c).symm
    funext i
    obtain ⟨r, n, rfl⟩ : ∃ (r : Fin 32768) (n : Fin 1024), i = ix2 r n := ⟨i 0, i 1, eq_ix2 i⟩
    exact Cert.Reference4Ideal.Value.outX_at _ r n
  · obtain ⟨a0, a1, a2, a3⟩ := hagree c
    refine (h c).2.1.trans ?_
    rw [a0, a1, a2, a3]
    refine Eq.trans ?_ (Cert.Kernel4Ideal.Gen.S5In.result6 m c).symm
    funext i
    obtain ⟨k, r, l, rfl⟩ : ∃ (k : Fin 8) (r : Fin 32768) (l : Fin 256), i = ix3 k r l := ⟨i 0, i 1, i 2, eq_ix3 i⟩
    exact (Cert.Reference4Ideal.Value.outU_at _ _ _ _ k r l).trans (Cert.Kernel4Ideal.Gen.S5In.tileU_eq m c k r l).symm
  · obtain ⟨a0, a1, a2, a3⟩ := hagree c
    refine (h c).2.2.1.trans ?_
    rw [a0, a1, a2, a3]
    refine Eq.trans ?_ (Cert.Kernel4Ideal.Gen.S5In.result7 m c).symm
    funext i
    obtain ⟨r, l, rfl⟩ : ∃ (r : Fin 32768) (l : Fin 2048), i = ix2 r l := ⟨i 0, i 1, eq_ix2 i⟩
    exact Cert.Reference4Ideal.Value.outZ_at _ _ _ _ r l

/-- The delta rule's input call: queries, keys, values and gates. -/
theorem algebraic5 : algebraic_Kernel5Ideal_Reference5Ideal := by
  intro m ρ m' ρ' _ hagree
  refine ⟨_, _, _, _, Cert.Kernel5Ideal.Value.run_blocks (F := Ideal) m ρ, ?_⟩
  refine (θ_run Cert.Reference5Ideal.defs _ _).mono (fun _ h c => ⟨?_, ?_, ?_, ?_, (h c).2.2.2.2⟩) (Cert.Reference5Ideal.Value.run (F := Ideal) m' ρ')
  · obtain ⟨a0, a1, a2, a3, a4, a5, a6⟩ := hagree c
    refine (h c).1.trans ((Cert.Reference5Ideal.Value.resQ m' c).trans ?_)
    unfold Cert.Reference5Ideal.Value.arg0 Cert.Reference5Ideal.Value.arg1 Cert.Reference5Ideal.Value.arg2 Cert.Reference5Ideal.Value.arg3 Cert.Reference5Ideal.Value.arg4
    rw [a0, a1, a2, a3, a4]
    refine Eq.trans ?_ (Cert.Kernel5Ideal.Gen.GdnIn.resultQ m c).symm
    funext i
    obtain ⟨t, n, rfl⟩ : ∃ (t : Fin 4096) (n : Fin 8192), i = ix2 t n := ⟨i 0, i 1, eq_ix2 i⟩
    exact Cert.Reference5Ideal.Value.outQ_at _ _ _ _ _ t n
  · obtain ⟨a0, a1, a2, a3, a4, a5, a6⟩ := hagree c
    refine (h c).2.1.trans ((Cert.Reference5Ideal.Value.resK m' c).trans ?_)
    unfold Cert.Reference5Ideal.Value.arg0 Cert.Reference5Ideal.Value.arg1 Cert.Reference5Ideal.Value.arg2 Cert.Reference5Ideal.Value.arg3 Cert.Reference5Ideal.Value.arg4
    rw [a0, a1, a2, a3, a4]
    refine Eq.trans ?_ (Cert.Kernel5Ideal.Gen.GdnIn.resultK m c).symm
    funext i
    obtain ⟨t, n, rfl⟩ : ∃ (t : Fin 4096) (n : Fin 8192), i = ix2 t n := ⟨i 0, i 1, eq_ix2 i⟩
    exact Cert.Reference5Ideal.Value.outK_at _ _ _ _ _ t n
  · obtain ⟨a0, a1, a2, a3, a4, a5, a6⟩ := hagree c
    refine (h c).2.2.1.trans ((Cert.Reference5Ideal.Value.resV m' c).trans ?_)
    unfold Cert.Reference5Ideal.Value.arg0 Cert.Reference5Ideal.Value.arg1 Cert.Reference5Ideal.Value.arg2 Cert.Reference5Ideal.Value.arg3 Cert.Reference5Ideal.Value.arg4
    rw [a0, a1, a2, a3, a4]
    refine Eq.trans ?_ (Cert.Kernel5Ideal.Gen.GdnIn.resultV m c).symm
    funext i
    obtain ⟨t, n, rfl⟩ : ∃ (t : Fin 4096) (n : Fin 16384), i = ix2 t n := ⟨i 0, i 1, eq_ix2 i⟩
    exact Cert.Reference5Ideal.Value.outV_at _ _ _ _ _ t n
  · obtain ⟨a0, a1, a2, a3, a4, a5, a6⟩ := hagree c
    refine (h c).2.2.2.1.trans ((Cert.Reference5Ideal.Value.resG m' c).trans ?_)
    unfold Cert.Reference5Ideal.Value.arg0 Cert.Reference5Ideal.Value.arg1 Cert.Reference5Ideal.Value.arg2 Cert.Reference5Ideal.Value.arg3 Cert.Reference5Ideal.Value.arg5 Cert.Reference5Ideal.Value.arg6
    rw [a0, a1, a2, a3, a5, a6]
    refine Eq.trans ?_ (Cert.Kernel5Ideal.Gen.GdnIn.resultG m c).symm
    funext i
    obtain ⟨t, n, rfl⟩ : ∃ (t : Fin 4096) (n : Fin 1024), i = ix2 t n := ⟨i 0, i 1, eq_ix2 i⟩
    exact Cert.Reference5Ideal.Value.outG_at _ _ _ _ _ _ t n

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.facts,
  fun m ρ _ => Cert.Kernel.Gen.frame m ρ, fun m ρ _ => Cert.KernelIdeal.Gen.frame m ρ, fun m ρ _ => Cert.KernelIdeal.Gen.frame m ρ,
  frame_ReferenceIdeal, frame_ReferenceIdeal_pre,
  fun m ρ _ => Cert.Kernel2.Gen.frame m ρ, fun m ρ _ => Cert.Kernel2Ideal.Gen.frame m ρ, frame_Reference2Ideal,
  fun m ρ _ => Cert.Kernel3.Gen.frame m ρ, fun m ρ _ => Cert.Kernel3Ideal.Gen.frame m ρ, frame_Reference3Ideal,
  fun m ρ _ => Cert.Kernel4.Gen.frame m ρ, fun m ρ _ => Cert.Kernel4Ideal.Gen.frame m ρ, frame_Reference4Ideal,
  fun m ρ _ => Cert.Kernel5.Gen.frame m ρ, fun m ρ _ => Cert.Kernel5Ideal.Gen.frame m ρ, frame_Reference5Ideal,
  (trivial : preserves_Kernel_KernelIdeal), algebraic, (trivial : preserves_Kernel2_Kernel2Ideal), algebraic2,
  (trivial : preserves_Kernel3_Kernel3Ideal), algebraic3, (trivial : preserves_Kernel4_Kernel4Ideal), algebraic4,
  (trivial : preserves_Kernel5_Kernel5Ideal), algebraic5⟩

end Cert.Proof

end
